-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.sign_bit.MaskStatement Cert.KernelIdeal.S8x128 .f32

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 384, 10240]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v20) i = v0 c i)
          ∧ (∀ i : (⟨3, ![3, 384, 640]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v21) i = v1 c i)
          ∧ (∀ i : (⟨1, ![20480]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v23) i = v2 c i)
          ∧ (∀ i : (⟨0, ![]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.KernelIdeal.nD Cert.KernelIdeal.τ).loc Cert.KernelIdeal.main_v24) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 384, 10240]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v743) i = v0 c i)
          ∧ (∀ i : (⟨3, ![3, 384, 640]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v679) i = v1 c i)
          ∧ (∀ i : (⟨1, ![20480]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v745) i = v2 c i)
          ∧ (∀ i : (⟨0, ![]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.ReferenceIdeal.nD Cert.ReferenceIdeal.τ).loc Cert.ReferenceIdeal.main_v747) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_in_range (hKernelIdeal := hKernelIdeal) (hReferenceIdeal := hReferenceIdeal) (hOn_in_range := hOn_in_range)
-- ==== On_in_range.lean ====
abbrev S3x384x20480 : Shape := ⟨3, ![3, 384, 20480]⟩
abbrev S2 : Shape := ⟨1, ![2]⟩
abbrev S3x384x640x32 : Shape := ⟨4, ![3, 384, 640, 32]⟩
abbrev S_ : Shape := ⟨0, ![]⟩
abbrev S3x384x640 : Shape := ⟨3, ![3, 384, 640]⟩
abbrev S3x384x640x1 : Shape := ⟨4, ![3, 384, 640, 1]⟩
abbrev S3x384x640x16 : Shape := ⟨4, ![3, 384, 640, 16]⟩
abbrev S3x384x10240 : Shape := ⟨3, ![3, 384, 10240]⟩
abbrev S20480 : Shape := ⟨1, ![20480]⟩

class Facts : Prop where
  bitsLt_bf16_f32 : FTy.bits .bf16 < FTy.bits .f32
  shapeCasts_S3x384x20480_S3x384x640x32 : S3x384x20480.ShapeCasts S3x384x640x32
  reducesTo_S3x384x640x32_S3x384x640_d3 : S3x384x640x32.ReducesTo [3] S3x384x640
  h_S_ : 0 < S_.numel
  bcast_S_S3x384x640 : S_.BroadcastsInDim S3x384x640 (![] : Fin 0 → Fin S3x384x640.rank)
  bcast_S3x384x640_S3x384x640x1_0_1_2 : S3x384x640.BroadcastsInDim S3x384x640x1 (![0, 1, 2] : Fin 3 → Fin S3x384x640x1.rank)
  bcast_S3x384x640x1_S3x384x640x16_0_1_2_3 : S3x384x640x1.BroadcastsInDim S3x384x640x16 (![0, 1, 2, 3] : Fin 4 → Fin S3x384x640x16.rank)
  shapeCasts_S3x384x640x16_S3x384x10240 : S3x384x640x16.ShapeCasts S3x384x10240
  bcast_S_S20480 : S_.BroadcastsInDim S20480 (![] : Fin 0 → Fin S20480.rank)

variable [Facts]

def fn_part1 {F : FTy → Type} [FloatOps F] (main_v11 : IVec S3x384x640 1) (main_v18 : IVec S3x384x10240 1) : IVec S3x384x10240 1 × IVec S3x384x640 1 × IVec S20480 1 × IVec S_ 1 :=
  let main_c : IVec S_ 1 := constantI S_ 1 1#1
  let main_v19 : IVec S20480 1 := broadcastInDim S20480 ![] bcast_S_S20480 main_c
  let main_c_4 : IVec S_ 1 := constantI S_ 1 1#1
  (main_v18, main_v11, main_v19, main_c_4)

def fn {F : FTy → Type} [FloatOps F] (main_arg0 : FVec F S3x384x20480 .bf16) (main_arg1 : IVec S2 32) : IVec S3x384x10240 1 × IVec S3x384x640 1 × IVec S20480 1 × IVec S_ 1 :=
  let main_v0 : FVec F S3x384x20480 .f32 := (extf .f32 · bitsLt_bf16_f32) main_arg0
  let main_v1 : FVec F S3x384x640x32 .f32 := shapeCast S3x384x640x32 main_v0 shapeCasts_S3x384x20480_S3x384x640x32
  let main_v2 : FVec F S3x384x640x32 .f32 := Host.absf main_v1
  let main_cst : FVec F S_ .f32 := constant S_ .f32 0xFF800000#32
  let main_v3 : FVec F S3x384x640 .f32 := (fun x v => Host.reduce FloatOps.maximumf x v reducesTo_S3x384x640x32_S3x384x640_d3 h_S_) main_v2 main_cst
  let main_cst_0 : FVec F S_ .f32 := constant S_ .f32 0x7F7FFFFF#32
  let main_v4 : FVec F S3x384x640 .f32 := broadcastInDim S3x384x640 ![] bcast_S_S3x384x640 main_cst_0
  let main_v5 : IVec S3x384x640 1 := cmpf .ole main_v3 main_v4
  let main_cst_1 : FVec F S_ .f32 := constant S_ .f32 0x00000000#32
  let main_v6 : FVec F S3x384x640 .f32 := broadcastInDim S3x384x640 ![] bcast_S_S3x384x640 main_cst_1
  let main_v7 : IVec S3x384x640 1 := cmpf .oeq main_v3 main_v6
  let main_cst_2 : FVec F S_ .f32 := constant S_ .f32 0x00800000#32
  let main_v8 : FVec F S3x384x640 .f32 := broadcastInDim S3x384x640 ![] bcast_S_S3x384x640 main_cst_2
  let main_v9 : IVec S3x384x640 1 := cmpf .oge main_v3 main_v8
  let main_v10 : IVec S3x384x640 1 := andi main_v9 main_v5
  let main_v11 : IVec S3x384x640 1 := ori main_v7 main_v10
  let main_cst_3 : FVec F S_ .f32 := constant S_ .f32 0x01800000#32
  let main_v12 : FVec F S3x384x640 .f32 := broadcastInDim S3x384x640 ![] bcast_S_S3x384x640 main_cst_3
  let main_v13 : IVec S3x384x640 1 := cmpf .oge main_v3 main_v12
  let main_v14 : IVec S3x384x640 1 := andi main_v13 main_v5
  let main_v15 : IVec S3x384x640 1 := ori main_v7 main_v14
  let main_v16 : IVec S3x384x640x1 1 := broadcastInDim S3x384x640x1 ![0, 1, 2] bcast_S3x384x640_S3x384x640x1_0_1_2 main_v15
  let main_v17 : IVec S3x384x640x16 1 := broadcastInDim S3x384x640x16 ![0, 1, 2, 3] bcast_S3x384x640x1_S3x384x640x16_0_1_2_3 main_v16
  let main_v18 : IVec S3x384x10240 1 := shapeCast S3x384x10240 main_v17 shapeCasts_S3x384x640x16_S3x384x10240
  fn_part1 (F := F) main_v11 main_v18
-- ==== Kernel.lean ====
abbrev S3x384x20480 : Shape := ⟨3, ![3, 384, 20480]⟩
abbrev S2 : Shape := ⟨1, ![2]⟩
abbrev S1152x20480 : Shape := ⟨2, ![1152, 20480]⟩
abbrev S512x512 : Shape := ⟨2, ![512, 512]⟩
abbrev S_ : Shape := ⟨0, ![]⟩
abbrev S1152x10240 : Shape := ⟨2, ![1152, 10240]⟩
abbrev S1152x640 : Shape := ⟨2, ![1152, 640]⟩
abbrev S8x20480 : Shape := ⟨2, ![8, 20480]⟩
abbrev S8x128 : Shape := ⟨2, ![8, 128]⟩
abbrev S128x20480 : Shape := ⟨2, ![128, 20480]⟩
abbrev S128x10240 : Shape := ⟨2, ![128, 10240]⟩
abbrev S128x640 : Shape := ⟨2, ![128, 640]⟩
abbrev S128x512 : Shape := ⟨2, ![128, 512]⟩
abbrev S128x128 : Shape := ⟨2, ![128, 128]⟩
abbrev S1 : Shape := ⟨1, ![1]⟩
abbrev S8x512 : Shape := ⟨2, ![8, 512]⟩
abbrev S8x128x1 : Shape := ⟨3, ![8, 128, 1]⟩
abbrev S32x128 : Shape := ⟨2, ![32, 128]⟩
abbrev S3x384x10240 : Shape := ⟨3, ![3, 384, 10240]⟩
abbrev S3x384x640 : Shape := ⟨3, ![3, 384, 640]⟩
abbrev S1x20480 : Shape := ⟨2, ![1, 20480]⟩
abbrev S20480 : Shape := ⟨1, ![20480]⟩

abbrev nBuf : Space → Nat
  | .hbm => 37
  | .vmem => 11
  | .smem => 1
  | _ => 0

abbrev bufTy : (tb : Table) → Fin (tcTables nBuf tb) → BufTy
  | .hbm, ⟨0, _⟩ => ⟨S3x384x20480, .bf16⟩
  | .hbm, ⟨1, _⟩ => ⟨S2, .i32⟩
  | .hbm, ⟨2, _⟩ => ⟨S1152x20480, .bf16⟩
  | .hbm, ⟨3, _⟩ => ⟨S512x512, .i32⟩
  | .hbm, ⟨4, _⟩ => ⟨S512x512, .i32⟩
  | .hbm, ⟨5, _⟩ => ⟨S_, .i32⟩
  | .hbm, ⟨6, _⟩ => ⟨S512x512, .i32⟩
  | .hbm, ⟨7, _⟩ => ⟨S512x512, .i32⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .bf16⟩
  | .hbm, ⟨27, _⟩ => ⟨S1152x10240, .i8⟩
  | .hbm, ⟨28, _⟩ => ⟨S1152x640, .i8⟩
  | .hbm, ⟨29, _⟩ => ⟨S8x20480, .f32⟩
  | .hbm, ⟨30, _⟩ => ⟨S8x128, .f32⟩
  | .hbm, ⟨31, _⟩ => ⟨S3x384x10240, .i8⟩
  | .hbm, ⟨32, _⟩ => ⟨S3x384x640, .i8⟩
  | .hbm, ⟨33, _⟩ => ⟨S1x20480, .f32⟩
  | .hbm, ⟨34, _⟩ => ⟨S20480, .f32⟩
  | .hbm, ⟨35, _⟩ => ⟨S_, .f32⟩
  | .hbm, ⟨36, _⟩ => ⟨S_, .f32⟩
  | .local _ .vmem, ⟨0, _⟩ => ⟨S128x20480, .bf16⟩
  | .local _ .vmem, ⟨1, _⟩ => ⟨S128x20480, .bf16⟩
  | .local _ .vmem, ⟨2, _⟩ => ⟨S512x512, .bf16⟩
  | .local _ .vmem, ⟨3, _⟩ => ⟨S128x10240, .i8⟩
  | .local _ .vmem, ⟨4, _⟩ => ⟨S128x10240, .i8⟩
  | .local _ .vmem, ⟨5, _⟩ => ⟨S128x640, .i8⟩
  | .local _ .vmem, ⟨6, _⟩ => ⟨S128x640, .i8⟩
  | .local _ .vmem, ⟨7, _⟩ => ⟨S8x20480, .f32⟩
  | .local _ .vmem, ⟨8, _⟩ => ⟨S8x128, .f32⟩
  | .local _ .vmem, ⟨9, _⟩ => ⟨S128x512, .f32⟩
  | .local _ .vmem, ⟨10, _⟩ => ⟨S128x128, .f32⟩
  | .local _ .smem, ⟨0, _⟩ => ⟨S2, .i32⟩
  | _, _ => ⟨S3x384x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_c_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [BitOps F]

abbrev grid0 : Pipeline.Grid := ⟨1, ![9], ![false]⟩

@[reducible] def k0_t1_loop : Scf.Loop 32 :=
  let c0_i32_5 : BitVec 32 := 0#32
  let c5_i32 : BitVec 32 := 5#32
  let v30 : BitVec 32 := Scalar.addi c0_i32_5 c5_i32
  let c1_i32_6 : BitVec 32 := 1#32
  ⟨c0_i32_5, v30, c1_i32_6⟩
@[reducible] def k0_t2_loop : Scf.Loop 32 :=
  let c0_i32_10 : BitVec 32 := 0#32
  let c8_i32 : BitVec 32 := 8#32
  let v33 : BitVec 32 := Scalar.addi c0_i32_10 c8_i32
  let c1_i32_11 : BitVec 32 := 1#32
  ⟨c0_i32_10, v33, c1_i32_11⟩
def k0_mult1 (k0_t1 : Fin k0_t1_loop.trips) (k0_t2 : Fin k0_t2_loop.trips) : BitVec 32 :=
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c512_i32 : BitVec 32 := 512#32
  let v128 : BitVec 32 := Scalar.muli v127 c512_i32
  v128
def k0_off1 (k0_t1 : Fin k0_t1_loop.trips) (k0_t2 : Fin k0_t2_loop.trips) : Fin 2 → Nat :=
  let c0_25 : Index := 0#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c512_i32 : BitVec 32 := 512#32
  let v128 : BitVec 32 := Scalar.muli v127 c512_i32
  let v129 : BitVec 32 := v128
  let v130 : Index := Scalar.indexCast v129
  ![0, v130.toNat]
def k0_off2 (k0_t1 : Fin k0_t1_loop.trips) (k0_t2 : Fin k0_t2_loop.trips) : Fin 2 → Nat :=
  let c0_31 : Index := 0#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c512_i32 : BitVec 32 := 512#32
  let v128 : BitVec 32 := Scalar.muli v127 c512_i32
  let v129 : BitVec 32 := v128
  let v140 : Index := Scalar.indexCast v129
  ![0, v140.toNat]
def k0_mult2 (k0_t1 : Fin k0_t1_loop.trips) (k0_t2 : Fin k0_t2_loop.trips) : BitVec 32 :=
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32 : BitVec 32 := 256#32
  let v3377 : BitVec 32 := Scalar.muli v127 c256_i32
  v3377
def k0_off3 (k0_t1 : Fin k0_t1_loop.trips) (k0_t2 : Fin k0_t2_loop.trips) : Fin 2 → Nat :=
  let c0_1292 : Index := 0#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32 : BitVec 32 := 256#32
  let v3377 : BitVec 32 := Scalar.muli v127 c256_i32
  let v3378 : BitVec 32 := v3377
  let v3380 : Index := Scalar.indexCast v3378
  ![0, v3380.toNat]
def k0_off4 (k0_t1 : Fin k0_t1_loop.trips) (k0_t2 : Fin k0_t2_loop.trips) : Fin 2 → Nat :=
  let c0_1294 : Index := 0#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32 : BitVec 32 := 256#32
  let v3377 : BitVec 32 := Scalar.muli v127 c256_i32
  let v3378 : BitVec 32 := v3377
  let c128_i32_1293 : BitVec 32 := 128#32
  let v3383 : BitVec 32 := Scalar.addi v3378 c128_i32_1293
  let v3384 : Index := Scalar.indexCast v3383
  ![0, v3384.toNat]
def k0_mult3 (k0_t1 : Fin k0_t1_loop.trips) (k0_t2 : Fin k0_t2_loop.trips) : BitVec 32 :=
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32_2569 : BitVec 32 := 256#32
  let v6616 : BitVec 32 := Scalar.muli v127 c256_i32_2569
  v6616
def k0_off5 (k0_t1 : Fin k0_t1_loop.trips) (k0_t2 : Fin k0_t2_loop.trips) : Fin 2 → Nat :=
  let c32_2570 : Index := 32#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32_2569 : BitVec 32 := 256#32
  let v6616 : BitVec 32 := Scalar.muli v127 c256_i32_2569
  let v6617 : BitVec 32 := v6616
  let v6619 : Index := Scalar.indexCast v6617
  ![32, v6619.toNat]
def k0_off6 (k0_t1 : Fin k0_t1_loop.trips) (k0_t2 : Fin k0_t2_loop.trips) : Fin 2 → Nat :=
  let c32_2572 : Index := 32#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32_2569 : BitVec 32 := 256#32
  let v6616 : BitVec 32 := Scalar.muli v127 c256_i32_2569
  let v6617 : BitVec 32 := v6616
  let c128_i32_2571 : BitVec 32 := 128#32
  let v6622 : BitVec 32 := Scalar.addi v6617 c128_i32_2571
  let v6623 : Index := Scalar.indexCast v6622
  ![32, v6623.toNat]
def k0_mult4 (k0_t1 : Fin k0_t1_loop.trips) (k0_t2 : Fin k0_t2_loop.trips) : BitVec 32 :=
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32_3848 : BitVec 32 := 256#32
  let v9855 : BitVec 32 := Scalar.muli v127 c256_i32_3848
  v9855
def k0_off7 (k0_t1 : Fin k0_t1_loop.trips) (k0_t2 : Fin k0_t2_loop.trips) : Fin 2 → Nat :=
  let c64_3849 : Index := 64#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32_3848 : BitVec 32 := 256#32
  let v9855 : BitVec 32 := Scalar.muli v127 c256_i32_3848
  let v9856 : BitVec 32 := v9855
  let v9858 : Index := Scalar.indexCast v9856
  ![64, v9858.toNat]
def k0_off8 (k0_t1 : Fin k0_t1_loop.trips) (k0_t2 : Fin k0_t2_loop.trips) : Fin 2 → Nat :=
  let c64_3851 : Index := 64#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32_3848 : BitVec 32 := 256#32
  let v9855 : BitVec 32 := Scalar.muli v127 c256_i32_3848
  let v9856 : BitVec 32 := v9855
  let c128_i32_3850 : BitVec 32 := 128#32
  let v9861 : BitVec 32 := Scalar.addi v9856 c128_i32_3850
  let v9862 : Index := Scalar.indexCast v9861
  ![64, v9862.toNat]
def k0_mult5 (k0_t1 : Fin k0_t1_loop.trips) (k0_t2 : Fin k0_t2_loop.trips) : BitVec 32 :=
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32_5126 : BitVec 32 := 256#32
  let v13094 : BitVec 32 := Scalar.muli v127 c256_i32_5126
  v13094
def k0_off9 (k0_t1 : Fin k0_t1_loop.trips) (k0_t2 : Fin k0_t2_loop.trips) : Fin 2 → Nat :=
  let c96_5127 : Index := 96#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32_5126 : BitVec 32 := 256#32
  let v13094 : BitVec 32 := Scalar.muli v127 c256_i32_5126
  let v13095 : BitVec 32 := v13094
  let v13097 : Index := Scalar.indexCast v13095
  ![96, v13097.toNat]
def k0_off10 (k0_t1 : Fin k0_t1_loop.trips) (k0_t2 : Fin k0_t2_loop.trips) : Fin 2 → Nat :=
  let c96_5129 : Index := 96#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c8_i32_24 : BitVec 32 := 8#32
  let v126 : BitVec 32 := Scalar.muli v32 c8_i32_24
  let c0_i32_23 : BitVec 32 := 0#32
  let c0_i32_10 : BitVec 32 := 0#32
  let c1_i32_11 : BitVec 32 := 1#32
  let arg11 : BitVec 32 := Scf.iv c0_i32_10 c1_i32_11 k0_t2
  let c1_i32_22 : BitVec 32 := 1#32
  let v124 : BitVec 32 := Scalar.muli arg11 c1_i32_22
  let v125 : BitVec 32 := Scalar.addi c0_i32_23 v124
  let v127 : BitVec 32 := Scalar.addi v126 v125
  let c256_i32_5126 : BitVec 32 := 256#32
  let v13094 : BitVec 32 := Scalar.muli v127 c256_i32_5126
  let v13095 : BitVec 32 := v13094
  let c128_i32_5128 : BitVec 32 := 128#32
  let v13100 : BitVec 32 := Scalar.addi v13095 c128_i32_5128
  let v13101 : Index := Scalar.indexCast v13100
  ![96, v13101.toNat]
def k0_mult6 (k0_t1 : Fin k0_t1_loop.trips) : BitVec 32 :=
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c128_i32 : BitVec 32 := 128#32
  let v120 : BitVec 32 := Scalar.muli v32 c128_i32
  v120
def k0_off11 (k0_t1 : Fin k0_t1_loop.trips) : Fin 2 → Nat :=
  let c0_21 : Index := 0#32
  let c0_i32_9 : BitVec 32 := 0#32
  let c0_i32_5 : BitVec 32 := 0#32
  let c1_i32_6 : BitVec 32 := 1#32
  let arg10 : BitVec 32 := Scf.iv c0_i32_5 c1_i32_6 k0_t1
  let c1_i32_8 : BitVec 32 := 1#32
  let v31 : BitVec 32 := Scalar.muli arg10 c1_i32_8
  let v32 : BitVec 32 := Scalar.addi c0_i32_9 v31
  let c128_i32 : BitVec 32 := 128#32
  let v120 : BitVec 32 := Scalar.muli v32 c128_i32
  let v121 : BitVec 32 := v120
  let v122 : Index := Scalar.indexCast v121
  ![0, v122.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x20480 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x10240 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x640 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x20480 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F]
-- ==== ReferenceIdeal.lean ====
abbrev S3x384x20480 : Shape := ⟨3, ![3, 384, 20480]⟩
abbrev S2 : Shape := ⟨1, ![2]⟩
abbrev S5898240 : Shape := ⟨1, ![5898240]⟩
abbrev S3x384x5120 : Shape := ⟨3, ![3, 384, 5120]⟩
abbrev S_ : Shape := ⟨0, ![]⟩
abbrev S1 : Shape := ⟨1, ![1]⟩
abbrev S3x384x5120x1 : Shape := ⟨4, ![3, 384, 5120, 1]⟩
abbrev S3x384x5120x4 : Shape := ⟨4, ![3, 384, 5120, 4]⟩
abbrev S3x384x640x32 : Shape := ⟨4, ![3, 384, 640, 32]⟩
abbrev S3x384x640 : Shape := ⟨3, ![3, 384, 640]⟩
abbrev S254 : Shape := ⟨1, ![254]⟩
abbrev S3x384x640x1 : Shape := ⟨4, ![3, 384, 640, 1]⟩
abbrev S1x1x1x254 : Shape := ⟨4, ![1, 1, 1, 254]⟩
abbrev S3x384x640x254 : Shape := ⟨4, ![3, 384, 640, 254]⟩
abbrev S3x384x10240x2 : Shape := ⟨4, ![3, 384, 10240, 2]⟩
abbrev S3x384x10240x1 : Shape := ⟨4, ![3, 384, 10240, 1]⟩
abbrev S3x384x10240 : Shape := ⟨3, ![3, 384, 10240]⟩
abbrev S20480 : Shape := ⟨1, ![20480]⟩

abbrev nBuf : Space → Nat
  | .hbm => 1023
  | .vmem => 0
  | .smem => 0
  | _ => 0

abbrev hbmTy0_0 (i : Nat) : BufTy := match i % 128 with
  | 0 => ⟨S3x384x20480, .bf16⟩
  | 1 => ⟨S2, .i32⟩
  | 2 => ⟨S5898240, .i32⟩
  | 3 => ⟨S3x384x5120, .i32⟩
  | 4 => ⟨S_, .i32⟩
  | 5 => ⟨S3x384x5120, .i32⟩
  | 6 => ⟨S1, .i32⟩
  | 7 => ⟨S_, .i32⟩
  | 8 => ⟨S1, .i32⟩
  | 9 => ⟨S_, .i32⟩
  | 10 => ⟨S_, .i32⟩
  | 11 => ⟨S3x384x5120, .i32⟩
  | 12 => ⟨S3x384x5120, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S3x384x5120, .i32⟩
  | 21 => ⟨S3x384x5120, .i32⟩
  | 22 => ⟨S_, .i32⟩
  | 23 => ⟨S3x384x5120, .i32⟩
  | 24 => ⟨S3x384x5120, .i32⟩
  | 25 => ⟨S3x384x5120, .i32⟩
  | 26 => ⟨S3x384x5120, .i32⟩
  | 27 => ⟨S3x384x5120, .i32⟩
  | 28 => ⟨S3x384x5120, .i32⟩
  | 29 => ⟨S_, .i32⟩
  | 30 => ⟨S3x384x5120, .i32⟩
  | 31 => ⟨S3x384x5120, .i32⟩
  | 32 => ⟨S3x384x5120, .i32⟩
  | 33 => ⟨S3x384x5120, .i32⟩
  | 34 => ⟨S3x384x5120, .i32⟩
  | 35 => ⟨S_, .i32⟩
  | 36 => ⟨S3x384x5120, .i32⟩
  | 37 => ⟨S3x384x5120, .i32⟩
  | 38 => ⟨S3x384x5120, .i32⟩
  | 39 => ⟨S3x384x5120, .i32⟩
  | 40 => ⟨S3x384x5120, .i32⟩
  | 41 => ⟨S_, .i32⟩
  | 42 => ⟨S3x384x5120, .i32⟩
  | 43 => ⟨S3x384x5120, .i32⟩
  | 44 => ⟨S3x384x5120, .i32⟩
  | 45 => ⟨S_, .i32⟩
  | 46 => ⟨S3x384x5120, .i32⟩
  | 47 => ⟨S3x384x5120, .i32⟩
  | 48 => ⟨S3x384x5120, .i32⟩
  | 49 => ⟨S_, .i32⟩
  | 50 => ⟨S3x384x5120, .i32⟩
  | 51 => ⟨S3x384x5120, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S3x384x5120, .i32⟩
  | 60 => ⟨S3x384x5120, .i32⟩
  | 61 => ⟨S_, .i32⟩
  | 62 => ⟨S3x384x5120, .i32⟩
  | 63 => ⟨S3x384x5120, .i32⟩
  | 64 => ⟨S3x384x5120, .i32⟩
  | 65 => ⟨S3x384x5120, .i32⟩
  | 66 => ⟨S3x384x5120, .i32⟩
  | 67 => ⟨S3x384x5120, .i32⟩
  | 68 => ⟨S_, .i32⟩
  | 69 => ⟨S3x384x5120, .i32⟩
  | 70 => ⟨S3x384x5120, .i32⟩
  | 71 => ⟨S3x384x5120, .i32⟩
  | 72 => ⟨S3x384x5120, .i32⟩
  | 73 => ⟨S3x384x5120, .i32⟩
  | 74 => ⟨S_, .i32⟩
  | 75 => ⟨S3x384x5120, .i32⟩
  | 76 => ⟨S3x384x5120, .i32⟩
  | 77 => ⟨S3x384x5120, .i32⟩
  | 78 => ⟨S3x384x5120, .i32⟩
  | 79 => ⟨S3x384x5120, .i32⟩
  | 80 => ⟨S_, .i32⟩
  | 81 => ⟨S3x384x5120, .i32⟩
  | 82 => ⟨S3x384x5120, .i32⟩
  | 83 => ⟨S3x384x5120, .i32⟩
  | 84 => ⟨S_, .i32⟩
  | 85 => ⟨S3x384x5120, .i32⟩
  | 86 => ⟨S3x384x5120, .i32⟩
  | 87 => ⟨S3x384x5120, .i32⟩
  | 88 => ⟨S3x384x5120, .i32⟩
  | 89 => ⟨S3x384x5120, .i32⟩
  | 90 => ⟨S3x384x5120, .i32⟩
  | 91 => ⟨S3x384x5120, .i32⟩
  | 92 => ⟨S3x384x5120, .i32⟩
  | 93 => ⟨S3x384x5120, .i32⟩
  | 94 => ⟨S_, .i32⟩
  | 95 => ⟨S_, .i32⟩
  | 96 => ⟨S_, .i32⟩
  | 97 => ⟨S_, .i32⟩
  | 98 => ⟨S_, .i32⟩
  | 99 => ⟨S3x384x5120, .i32⟩
  | 100 => ⟨S3x384x5120, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S3x384x5120, .i32⟩
  | 109 => ⟨S3x384x5120, .i32⟩
  | 110 => ⟨S_, .i32⟩
  | 111 => ⟨S3x384x5120, .i32⟩
  | 112 => ⟨S3x384x5120, .i32⟩
  | 113 => ⟨S3x384x5120, .i32⟩
  | 114 => ⟨S3x384x5120, .i32⟩
  | 115 => ⟨S3x384x5120, .i32⟩
  | 116 => ⟨S3x384x5120, .i32⟩
  | 117 => ⟨S_, .i32⟩
  | 118 => ⟨S3x384x5120, .i32⟩
  | 119 => ⟨S3x384x5120, .i32⟩
  | 120 => ⟨S3x384x5120, .i32⟩
  | 121 => ⟨S3x384x5120, .i32⟩
  | 122 => ⟨S3x384x5120, .i32⟩
  | 123 => ⟨S_, .i32⟩
  | 124 => ⟨S3x384x5120, .i32⟩
  | 125 => ⟨S3x384x5120, .i32⟩
  | 126 => ⟨S3x384x5120, .i32⟩
  | 127 => ⟨S3x384x5120, .i32⟩
  | _ => ⟨S3x384x20480, .bf16⟩

abbrev hbmTy0_1 (i : Nat) : BufTy := match i % 128 with
  | 0 => ⟨S3x384x5120, .i32⟩
  | 1 => ⟨S_, .i32⟩
  | 2 => ⟨S3x384x5120, .i32⟩
  | 3 => ⟨S3x384x5120, .i32⟩
  | 4 => ⟨S3x384x5120, .i32⟩
  | 5 => ⟨S_, .i32⟩
  | 6 => ⟨S3x384x5120, .i32⟩
  | 7 => ⟨S3x384x5120, .i32⟩
  | 8 => ⟨S3x384x5120, .i32⟩
  | 9 => ⟨S_, .i32⟩
  | 10 => ⟨S3x384x5120, .i32⟩
  | 11 => ⟨S3x384x5120, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S3x384x5120, .i32⟩
  | 20 => ⟨S3x384x5120, .i32⟩
  | 21 => ⟨S_, .i32⟩
  | 22 => ⟨S3x384x5120, .i32⟩
  | 23 => ⟨S3x384x5120, .i32⟩
  | 24 => ⟨S3x384x5120, .i32⟩
  | 25 => ⟨S3x384x5120, .i32⟩
  | 26 => ⟨S3x384x5120, .i32⟩
  | 27 => ⟨S3x384x5120, .i32⟩
  | 28 => ⟨S_, .i32⟩
  | 29 => ⟨S3x384x5120, .i32⟩
  | 30 => ⟨S3x384x5120, .i32⟩
  | 31 => ⟨S3x384x5120, .i32⟩
  | 32 => ⟨S3x384x5120, .i32⟩
  | 33 => ⟨S3x384x5120, .i32⟩
  | 34 => ⟨S_, .i32⟩
  | 35 => ⟨S3x384x5120, .i32⟩
  | 36 => ⟨S3x384x5120, .i32⟩
  | 37 => ⟨S3x384x5120, .i32⟩
  | 38 => ⟨S3x384x5120, .i32⟩
  | 39 => ⟨S3x384x5120, .i32⟩
  | 40 => ⟨S_, .i32⟩
  | 41 => ⟨S3x384x5120, .i32⟩
  | 42 => ⟨S3x384x5120, .i32⟩
  | 43 => ⟨S3x384x5120, .i32⟩
  | 44 => ⟨S_, .i32⟩
  | 45 => ⟨S3x384x5120, .i32⟩
  | 46 => ⟨S3x384x5120, .i32⟩
  | 47 => ⟨S3x384x5120, .i32⟩
  | 48 => ⟨S3x384x5120, .i32⟩
  | 49 => ⟨S3x384x5120, .i32⟩
  | 50 => ⟨S3x384x5120, .i32⟩
  | 51 => ⟨S3x384x5120, .i32⟩
  | 52 => ⟨S3x384x5120, .i32⟩
  | 53 => ⟨S3x384x5120, .i32⟩
  | 54 => ⟨S_, .i32⟩
  | 55 => ⟨S_, .i32⟩
  | 56 => ⟨S_, .i32⟩
  | 57 => ⟨S_, .i32⟩
  | 58 => ⟨S_, .i32⟩
  | 59 => ⟨S3x384x5120, .i32⟩
  | 60 => ⟨S3x384x5120, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S3x384x5120, .i32⟩
  | 69 => ⟨S3x384x5120, .i32⟩
  | 70 => ⟨S_, .i32⟩
  | 71 => ⟨S3x384x5120, .i32⟩
  | 72 => ⟨S3x384x5120, .i32⟩
  | 73 => ⟨S3x384x5120, .i32⟩
  | 74 => ⟨S3x384x5120, .i32⟩
  | 75 => ⟨S3x384x5120, .i32⟩
  | 76 => ⟨S3x384x5120, .i32⟩
  | 77 => ⟨S_, .i32⟩
  | 78 => ⟨S3x384x5120, .i32⟩
  | 79 => ⟨S3x384x5120, .i32⟩
  | 80 => ⟨S3x384x5120, .i32⟩
  | 81 => ⟨S3x384x5120, .i32⟩
  | 82 => ⟨S3x384x5120, .i32⟩
  | 83 => ⟨S_, .i32⟩
  | 84 => ⟨S3x384x5120, .i32⟩
  | 85 => ⟨S3x384x5120, .i32⟩
  | 86 => ⟨S3x384x5120, .i32⟩
  | 87 => ⟨S3x384x5120, .i32⟩
  | 88 => ⟨S3x384x5120, .i32⟩
  | 89 => ⟨S_, .i32⟩
  | 90 => ⟨S3x384x5120, .i32⟩
  | 91 => ⟨S3x384x5120, .i32⟩
  | 92 => ⟨S3x384x5120, .i32⟩
  | 93 => ⟨S_, .i32⟩
  | 94 => ⟨S3x384x5120, .i32⟩
  | 95 => ⟨S3x384x5120, .i32⟩
  | 96 => ⟨S3x384x5120, .i32⟩
  | 97 => ⟨S_, .i32⟩
  | 98 => ⟨S3x384x5120, .i32⟩
  | 99 => ⟨S3x384x5120, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S3x384x5120, .i32⟩
  | 108 => ⟨S3x384x5120, .i32⟩
  | 109 => ⟨S_, .i32⟩
  | 110 => ⟨S3x384x5120, .i32⟩
  | 111 => ⟨S3x384x5120, .i32⟩
  | 112 => ⟨S3x384x5120, .i32⟩
  | 113 => ⟨S3x384x5120, .i32⟩
  | 114 => ⟨S3x384x5120, .i32⟩
  | 115 => ⟨S3x384x5120, .i32⟩
  | 116 => ⟨S_, .i32⟩
  | 117 => ⟨S3x384x5120, .i32⟩
  | 118 => ⟨S3x384x5120, .i32⟩
  | 119 => ⟨S3x384x5120, .i32⟩
  | 120 => ⟨S3x384x5120, .i32⟩
  | 121 => ⟨S3x384x5120, .i32⟩
  | 122 => ⟨S_, .i32⟩
  | 123 => ⟨S3x384x5120, .i32⟩
  | 124 => ⟨S3x384x5120, .i32⟩
  | 125 => ⟨S3x384x5120, .i32⟩
  | 126 => ⟨S3x384x5120, .i32⟩
  | 127 => ⟨S3x384x5120, .i32⟩
  | _ => ⟨S3x384x20480, .bf16⟩

abbrev hbmTy0_2 (i : Nat) : BufTy := match i % 128 with
  | 0 => ⟨S_, .i32⟩
  | 1 => ⟨S3x384x5120, .i32⟩
  | 2 => ⟨S3x384x5120, .i32⟩
  | 3 => ⟨S3x384x5120, .i32⟩
  | 4 => ⟨S_, .i32⟩
  | 5 => ⟨S3x384x5120, .i32⟩
  | 6 => ⟨S3x384x5120, .i32⟩
  | 7 => ⟨S3x384x5120, .i32⟩
  | 8 => ⟨S3x384x5120, .i32⟩
  | 9 => ⟨S3x384x5120, .i32⟩
  | 10 => ⟨S3x384x5120, .i32⟩
  | 11 => ⟨S3x384x5120, .i32⟩
  | 12 => ⟨S3x384x5120, .i32⟩
  | 13 => ⟨S3x384x5120, .i32⟩
  | 14 => ⟨S_, .i32⟩
  | 15 => ⟨S_, .i32⟩
  | 16 => ⟨S_, .i32⟩
  | 17 => ⟨S_, .i32⟩
  | 18 => ⟨S_, .i32⟩
  | 19 => ⟨S3x384x5120, .i32⟩
  | 20 => ⟨S3x384x5120, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S3x384x5120, .i32⟩
  | 29 => ⟨S3x384x5120, .i32⟩
  | 30 => ⟨S_, .i32⟩
  | 31 => ⟨S3x384x5120, .i32⟩
  | 32 => ⟨S3x384x5120, .i32⟩
  | 33 => ⟨S3x384x5120, .i32⟩
  | 34 => ⟨S3x384x5120, .i32⟩
  | 35 => ⟨S3x384x5120, .i32⟩
  | 36 => ⟨S3x384x5120, .i32⟩
  | 37 => ⟨S_, .i32⟩
  | 38 => ⟨S3x384x5120, .i32⟩
  | 39 => ⟨S3x384x5120, .i32⟩
  | 40 => ⟨S3x384x5120, .i32⟩
  | 41 => ⟨S3x384x5120, .i32⟩
  | 42 => ⟨S3x384x5120, .i32⟩
  | 43 => ⟨S_, .i32⟩
  | 44 => ⟨S3x384x5120, .i32⟩
  | 45 => ⟨S3x384x5120, .i32⟩
  | 46 => ⟨S3x384x5120, .i32⟩
  | 47 => ⟨S3x384x5120, .i32⟩
  | 48 => ⟨S3x384x5120, .i32⟩
  | 49 => ⟨S_, .i32⟩
  | 50 => ⟨S3x384x5120, .i32⟩
  | 51 => ⟨S3x384x5120, .i32⟩
  | 52 => ⟨S3x384x5120, .i32⟩
  | 53 => ⟨S_, .i32⟩
  | 54 => ⟨S3x384x5120, .i32⟩
  | 55 => ⟨S3x384x5120, .i32⟩
  | 56 => ⟨S3x384x5120, .i32⟩
  | 57 => ⟨S_, .i32⟩
  | 58 => ⟨S3x384x5120, .i32⟩
  | 59 => ⟨S3x384x5120, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S3x384x5120, .i32⟩
  | 68 => ⟨S3x384x5120, .i32⟩
  | 69 => ⟨S_, .i32⟩
  | 70 => ⟨S3x384x5120, .i32⟩
  | 71 => ⟨S3x384x5120, .i32⟩
  | 72 => ⟨S3x384x5120, .i32⟩
  | 73 => ⟨S3x384x5120, .i32⟩
  | 74 => ⟨S3x384x5120, .i32⟩
  | 75 => ⟨S3x384x5120, .i32⟩
  | 76 => ⟨S_, .i32⟩
  | 77 => ⟨S3x384x5120, .i32⟩
  | 78 => ⟨S3x384x5120, .i32⟩
  | 79 => ⟨S3x384x5120, .i32⟩
  | 80 => ⟨S3x384x5120, .i32⟩
  | 81 => ⟨S3x384x5120, .i32⟩
  | 82 => ⟨S_, .i32⟩
  | 83 => ⟨S3x384x5120, .i32⟩
  | 84 => ⟨S3x384x5120, .i32⟩
  | 85 => ⟨S3x384x5120, .i32⟩
  | 86 => ⟨S3x384x5120, .i32⟩
  | 87 => ⟨S3x384x5120, .i32⟩
  | 88 => ⟨S_, .i32⟩
  | 89 => ⟨S3x384x5120, .i32⟩
  | 90 => ⟨S3x384x5120, .i32⟩
  | 91 => ⟨S3x384x5120, .i32⟩
  | 92 => ⟨S_, .i32⟩
  | 93 => ⟨S3x384x5120, .i32⟩
  | 94 => ⟨S3x384x5120, .i32⟩
  | 95 => ⟨S3x384x5120, .i32⟩
  | 96 => ⟨S3x384x5120, .i32⟩
  | 97 => ⟨S3x384x5120, .i32⟩
  | 98 => ⟨S3x384x5120, .i32⟩
  | 99 => ⟨S3x384x5120, .i32⟩
  | 100 => ⟨S3x384x5120, .i32⟩
  | 101 => ⟨S3x384x5120, .i32⟩
  | 102 => ⟨S_, .i32⟩
  | 103 => ⟨S_, .i32⟩
  | 104 => ⟨S_, .i32⟩
  | 105 => ⟨S_, .i32⟩
  | 106 => ⟨S_, .i32⟩
  | 107 => ⟨S3x384x5120, .i32⟩
  | 108 => ⟨S3x384x5120, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S3x384x5120, .i32⟩
  | 117 => ⟨S3x384x5120, .i32⟩
  | 118 => ⟨S_, .i32⟩
  | 119 => ⟨S3x384x5120, .i32⟩
  | 120 => ⟨S3x384x5120, .i32⟩
  | 121 => ⟨S3x384x5120, .i32⟩
  | 122 => ⟨S3x384x5120, .i32⟩
  | 123 => ⟨S3x384x5120, .i32⟩
  | 124 => ⟨S3x384x5120, .i32⟩
  | 125 => ⟨S_, .i32⟩
  | 126 => ⟨S3x384x5120, .i32⟩
  | 127 => ⟨S3x384x5120, .i32⟩
  | _ => ⟨S3x384x20480, .bf16⟩

abbrev hbmTy0_3 (i : Nat) : BufTy := match i % 128 with
  | 0 => ⟨S3x384x5120, .i32⟩
  | 1 => ⟨S3x384x5120, .i32⟩
  | 2 => ⟨S3x384x5120, .i32⟩
  | 3 => ⟨S_, .i32⟩
  | 4 => ⟨S3x384x5120, .i32⟩
  | 5 => ⟨S3x384x5120, .i32⟩
  | 6 => ⟨S3x384x5120, .i32⟩
  | 7 => ⟨S3x384x5120, .i32⟩
  | 8 => ⟨S3x384x5120, .i32⟩
  | 9 => ⟨S_, .i32⟩
  | 10 => ⟨S3x384x5120, .i32⟩
  | 11 => ⟨S3x384x5120, .i32⟩
  | 12 => ⟨S3x384x5120, .i32⟩
  | 13 => ⟨S_, .i32⟩
  | 14 => ⟨S3x384x5120, .i32⟩
  | 15 => ⟨S3x384x5120, .i32⟩
  | 16 => ⟨S3x384x5120, .i32⟩
  | 17 => ⟨S_, .i32⟩
  | 18 => ⟨S3x384x5120, .i32⟩
  | 19 => ⟨S3x384x5120, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S3x384x5120, .i32⟩
  | 28 => ⟨S3x384x5120, .i32⟩
  | 29 => ⟨S_, .i32⟩
  | 30 => ⟨S3x384x5120, .i32⟩
  | 31 => ⟨S3x384x5120, .i32⟩
  | 32 => ⟨S3x384x5120, .i32⟩
  | 33 => ⟨S3x384x5120, .i32⟩
  | 34 => ⟨S3x384x5120, .i32⟩
  | 35 => ⟨S3x384x5120, .i32⟩
  | 36 => ⟨S_, .i32⟩
  | 37 => ⟨S3x384x5120, .i32⟩
  | 38 => ⟨S3x384x5120, .i32⟩
  | 39 => ⟨S3x384x5120, .i32⟩
  | 40 => ⟨S3x384x5120, .i32⟩
  | 41 => ⟨S3x384x5120, .i32⟩
  | 42 => ⟨S_, .i32⟩
  | 43 => ⟨S3x384x5120, .i32⟩
  | 44 => ⟨S3x384x5120, .i32⟩
  | 45 => ⟨S3x384x5120, .i32⟩
  | 46 => ⟨S3x384x5120, .i32⟩
  | 47 => ⟨S3x384x5120, .i32⟩
  | 48 => ⟨S_, .i32⟩
  | 49 => ⟨S3x384x5120, .i32⟩
  | 50 => ⟨S3x384x5120, .i32⟩
  | 51 => ⟨S3x384x5120, .i32⟩
  | 52 => ⟨S_, .i32⟩
  | 53 => ⟨S3x384x5120, .i32⟩
  | 54 => ⟨S3x384x5120, .i32⟩
  | 55 => ⟨S3x384x5120, .i32⟩
  | 56 => ⟨S3x384x5120, .i32⟩
  | 57 => ⟨S3x384x5120, .i32⟩
  | 58 => ⟨S3x384x5120, .i32⟩
  | 59 => ⟨S3x384x5120, .i32⟩
  | 60 => ⟨S3x384x5120, .i32⟩
  | 61 => ⟨S3x384x5120, .i32⟩
  | 62 => ⟨S_, .i32⟩
  | 63 => ⟨S_, .i32⟩
  | 64 => ⟨S_, .i32⟩
  | 65 => ⟨S_, .i32⟩
  | 66 => ⟨S_, .i32⟩
  | 67 => ⟨S3x384x5120, .i32⟩
  | 68 => ⟨S3x384x5120, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S3x384x5120, .i32⟩
  | 77 => ⟨S3x384x5120, .i32⟩
  | 78 => ⟨S_, .i32⟩
  | 79 => ⟨S3x384x5120, .i32⟩
  | 80 => ⟨S3x384x5120, .i32⟩
  | 81 => ⟨S3x384x5120, .i32⟩
  | 82 => ⟨S3x384x5120, .i32⟩
  | 83 => ⟨S3x384x5120, .i32⟩
  | 84 => ⟨S3x384x5120, .i32⟩
  | 85 => ⟨S_, .i32⟩
  | 86 => ⟨S3x384x5120, .i32⟩
  | 87 => ⟨S3x384x5120, .i32⟩
  | 88 => ⟨S3x384x5120, .i32⟩
  | 89 => ⟨S3x384x5120, .i32⟩
  | 90 => ⟨S3x384x5120, .i32⟩
  | 91 => ⟨S_, .i32⟩
  | 92 => ⟨S3x384x5120, .i32⟩
  | 93 => ⟨S3x384x5120, .i32⟩
  | 94 => ⟨S3x384x5120, .i32⟩
  | 95 => ⟨S3x384x5120, .i32⟩
  | 96 => ⟨S3x384x5120, .i32⟩
  | 97 => ⟨S_, .i32⟩
  | 98 => ⟨S3x384x5120, .i32⟩
  | 99 => ⟨S3x384x5120, .i32⟩
  | 100 => ⟨S3x384x5120, .i32⟩
  | 101 => ⟨S_, .i32⟩
  | 102 => ⟨S3x384x5120, .i32⟩
  | 103 => ⟨S3x384x5120, .i32⟩
  | 104 => ⟨S3x384x5120, .i32⟩
  | 105 => ⟨S_, .i32⟩
  | 106 => ⟨S3x384x5120, .i32⟩
  | 107 => ⟨S3x384x5120, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S3x384x5120, .i32⟩
  | 116 => ⟨S3x384x5120, .i32⟩
  | 117 => ⟨S_, .i32⟩
  | 118 => ⟨S3x384x5120, .i32⟩
  | 119 => ⟨S3x384x5120, .i32⟩
  | 120 => ⟨S3x384x5120, .i32⟩
  | 121 => ⟨S3x384x5120, .i32⟩
  | 122 => ⟨S3x384x5120, .i32⟩
  | 123 => ⟨S3x384x5120, .i32⟩
  | 124 => ⟨S_, .i32⟩
  | 125 => ⟨S3x384x5120, .i32⟩
  | 126 => ⟨S3x384x5120, .i32⟩
  | 127 => ⟨S3x384x5120, .i32⟩
  | _ => ⟨S3x384x20480, .bf16⟩

abbrev hbmTy0_4 (i : Nat) : BufTy := match i % 128 with
  | 0 => ⟨S3x384x5120, .i32⟩
  | 1 => ⟨S3x384x5120, .i32⟩
  | 2 => ⟨S_, .i32⟩
  | 3 => ⟨S3x384x5120, .i32⟩
  | 4 => ⟨S3x384x5120, .i32⟩
  | 5 => ⟨S3x384x5120, .i32⟩
  | 6 => ⟨S3x384x5120, .i32⟩
  | 7 => ⟨S3x384x5120, .i32⟩
  | 8 => ⟨S_, .i32⟩
  | 9 => ⟨S3x384x5120, .i32⟩
  | 10 => ⟨S3x384x5120, .i32⟩
  | 11 => ⟨S3x384x5120, .i32⟩
  | 12 => ⟨S_, .i32⟩
  | 13 => ⟨S3x384x5120, .i32⟩
  | 14 => ⟨S3x384x5120, .i32⟩
  | 15 => ⟨S3x384x5120, .i32⟩
  | 16 => ⟨S3x384x5120, .i32⟩
  | 17 => ⟨S3x384x5120, .i32⟩
  | 18 => ⟨S3x384x5120, .i32⟩
  | 19 => ⟨S3x384x5120, .i32⟩
  | 20 => ⟨S3x384x5120, .i32⟩
  | 21 => ⟨S3x384x5120, .i32⟩
  | 22 => ⟨S_, .i32⟩
  | 23 => ⟨S_, .i32⟩
  | 24 => ⟨S_, .i32⟩
  | 25 => ⟨S_, .i32⟩
  | 26 => ⟨S_, .i32⟩
  | 27 => ⟨S3x384x5120, .i32⟩
  | 28 => ⟨S3x384x5120, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S3x384x5120, .i32⟩
  | 37 => ⟨S3x384x5120, .i32⟩
  | 38 => ⟨S_, .i32⟩
  | 39 => ⟨S3x384x5120, .i32⟩
  | 40 => ⟨S3x384x5120, .i32⟩
  | 41 => ⟨S3x384x5120, .i32⟩
  | 42 => ⟨S3x384x5120, .i32⟩
  | 43 => ⟨S3x384x5120, .i32⟩
  | 44 => ⟨S3x384x5120, .i32⟩
  | 45 => ⟨S_, .i32⟩
  | 46 => ⟨S3x384x5120, .i32⟩
  | 47 => ⟨S3x384x5120, .i32⟩
  | 48 => ⟨S3x384x5120, .i32⟩
  | 49 => ⟨S3x384x5120, .i32⟩
  | 50 => ⟨S3x384x5120, .i32⟩
  | 51 => ⟨S_, .i32⟩
  | 52 => ⟨S3x384x5120, .i32⟩
  | 53 => ⟨S3x384x5120, .i32⟩
  | 54 => ⟨S3x384x5120, .i32⟩
  | 55 => ⟨S3x384x5120, .i32⟩
  | 56 => ⟨S3x384x5120, .i32⟩
  | 57 => ⟨S_, .i32⟩
  | 58 => ⟨S3x384x5120, .i32⟩
  | 59 => ⟨S3x384x5120, .i32⟩
  | 60 => ⟨S3x384x5120, .i32⟩
  | 61 => ⟨S_, .i32⟩
  | 62 => ⟨S3x384x5120, .i32⟩
  | 63 => ⟨S3x384x5120, .i32⟩
  | 64 => ⟨S3x384x5120, .i32⟩
  | 65 => ⟨S_, .i32⟩
  | 66 => ⟨S3x384x5120, .i32⟩
  | 67 => ⟨S3x384x5120, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S3x384x5120, .i32⟩
  | 76 => ⟨S3x384x5120, .i32⟩
  | 77 => ⟨S_, .i32⟩
  | 78 => ⟨S3x384x5120, .i32⟩
  | 79 => ⟨S3x384x5120, .i32⟩
  | 80 => ⟨S3x384x5120, .i32⟩
  | 81 => ⟨S3x384x5120, .i32⟩
  | 82 => ⟨S3x384x5120, .i32⟩
  | 83 => ⟨S3x384x5120, .i32⟩
  | 84 => ⟨S_, .i32⟩
  | 85 => ⟨S3x384x5120, .i32⟩
  | 86 => ⟨S3x384x5120, .i32⟩
  | 87 => ⟨S3x384x5120, .i32⟩
  | 88 => ⟨S3x384x5120, .i32⟩
  | 89 => ⟨S3x384x5120, .i32⟩
  | 90 => ⟨S_, .i32⟩
  | 91 => ⟨S3x384x5120, .i32⟩
  | 92 => ⟨S3x384x5120, .i32⟩
  | 93 => ⟨S3x384x5120, .i32⟩
  | 94 => ⟨S3x384x5120, .i32⟩
  | 95 => ⟨S3x384x5120, .i32⟩
  | 96 => ⟨S_, .i32⟩
  | 97 => ⟨S3x384x5120, .i32⟩
  | 98 => ⟨S3x384x5120, .i32⟩
  | 99 => ⟨S3x384x5120, .i32⟩
  | 100 => ⟨S_, .i32⟩
  | 101 => ⟨S3x384x5120, .i32⟩
  | 102 => ⟨S3x384x5120, .i32⟩
  | 103 => ⟨S3x384x5120, .i32⟩
  | 104 => ⟨S3x384x5120, .i32⟩
  | 105 => ⟨S3x384x5120, .i32⟩
  | 106 => ⟨S3x384x5120, .i32⟩
  | 107 => ⟨S3x384x5120, .i32⟩
  | 108 => ⟨S3x384x5120, .i32⟩
  | 109 => ⟨S3x384x5120, .i32⟩
  | 110 => ⟨S_, .i32⟩
  | 111 => ⟨S_, .i32⟩
  | 112 => ⟨S_, .i32⟩
  | 113 => ⟨S_, .i32⟩
  | 114 => ⟨S_, .i32⟩
  | 115 => ⟨S3x384x5120, .i32⟩
  | 116 => ⟨S3x384x5120, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S3x384x5120, .i32⟩
  | 125 => ⟨S3x384x5120, .i32⟩
  | 126 => ⟨S_, .i32⟩
  | 127 => ⟨S3x384x5120, .i32⟩
  | _ => ⟨S3x384x20480, .bf16⟩

abbrev hbmTy0_5 (i : Nat) : BufTy := match i % 128 with
  | 0 => ⟨S3x384x5120, .i32⟩
  | 1 => ⟨S3x384x5120, .i32⟩
  | 2 => ⟨S3x384x5120, .i32⟩
  | 3 => ⟨S3x384x5120, .i32⟩
  | 4 => ⟨S3x384x5120, .i32⟩
  | 5 => ⟨S_, .i32⟩
  | 6 => ⟨S3x384x5120, .i32⟩
  | 7 => ⟨S3x384x5120, .i32⟩
  | 8 => ⟨S3x384x5120, .i32⟩
  | 9 => ⟨S3x384x5120, .i32⟩
  | 10 => ⟨S3x384x5120, .i32⟩
  | 11 => ⟨S_, .i32⟩
  | 12 => ⟨S3x384x5120, .i32⟩
  | 13 => ⟨S3x384x5120, .i32⟩
  | 14 => ⟨S3x384x5120, .i32⟩
  | 15 => ⟨S3x384x5120, .i32⟩
  | 16 => ⟨S3x384x5120, .i32⟩
  | 17 => ⟨S_, .i32⟩
  | 18 => ⟨S3x384x5120, .i32⟩
  | 19 => ⟨S3x384x5120, .i32⟩
  | 20 => ⟨S3x384x5120, .i32⟩
  | 21 => ⟨S_, .i32⟩
  | 22 => ⟨S3x384x5120, .i32⟩
  | 23 => ⟨S3x384x5120, .i32⟩
  | 24 => ⟨S3x384x5120, .i32⟩
  | 25 => ⟨S_, .i32⟩
  | 26 => ⟨S3x384x5120, .i32⟩
  | 27 => ⟨S3x384x5120, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S3x384x5120, .i32⟩
  | 36 => ⟨S3x384x5120, .i32⟩
  | 37 => ⟨S_, .i32⟩
  | 38 => ⟨S3x384x5120, .i32⟩
  | 39 => ⟨S3x384x5120, .i32⟩
  | 40 => ⟨S3x384x5120, .i32⟩
  | 41 => ⟨S3x384x5120, .i32⟩
  | 42 => ⟨S3x384x5120, .i32⟩
  | 43 => ⟨S3x384x5120, .i32⟩
  | 44 => ⟨S_, .i32⟩
  | 45 => ⟨S3x384x5120, .i32⟩
  | 46 => ⟨S3x384x5120, .i32⟩
  | 47 => ⟨S3x384x5120, .i32⟩
  | 48 => ⟨S3x384x5120, .i32⟩
  | 49 => ⟨S3x384x5120, .i32⟩
  | 50 => ⟨S_, .i32⟩
  | 51 => ⟨S3x384x5120, .i32⟩
  | 52 => ⟨S3x384x5120, .i32⟩
  | 53 => ⟨S3x384x5120, .i32⟩
  | 54 => ⟨S3x384x5120, .i32⟩
  | 55 => ⟨S3x384x5120, .i32⟩
  | 56 => ⟨S_, .i32⟩
  | 57 => ⟨S3x384x5120, .i32⟩
  | 58 => ⟨S3x384x5120, .i32⟩
  | 59 => ⟨S3x384x5120, .i32⟩
  | 60 => ⟨S_, .i32⟩
  | 61 => ⟨S3x384x5120, .i32⟩
  | 62 => ⟨S3x384x5120, .i32⟩
  | 63 => ⟨S3x384x5120, .i32⟩
  | 64 => ⟨S3x384x5120, .i32⟩
  | 65 => ⟨S3x384x5120, .i32⟩
  | 66 => ⟨S3x384x5120, .i32⟩
  | 67 => ⟨S3x384x5120, .i32⟩
  | 68 => ⟨S3x384x5120, .i32⟩
  | 69 => ⟨S3x384x5120, .i32⟩
  | 70 => ⟨S_, .i32⟩
  | 71 => ⟨S_, .i32⟩
  | 72 => ⟨S_, .i32⟩
  | 73 => ⟨S_, .i32⟩
  | 74 => ⟨S_, .i32⟩
  | 75 => ⟨S3x384x5120, .i32⟩
  | 76 => ⟨S3x384x5120, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S3x384x5120, .i32⟩
  | 85 => ⟨S3x384x5120, .i32⟩
  | 86 => ⟨S_, .i32⟩
  | 87 => ⟨S3x384x5120, .i32⟩
  | 88 => ⟨S3x384x5120, .i32⟩
  | 89 => ⟨S3x384x5120, .i32⟩
  | 90 => ⟨S3x384x5120, .i32⟩
  | 91 => ⟨S3x384x5120, .i32⟩
  | 92 => ⟨S3x384x5120, .i32⟩
  | 93 => ⟨S_, .i32⟩
  | 94 => ⟨S3x384x5120, .i32⟩
  | 95 => ⟨S3x384x5120, .i32⟩
  | 96 => ⟨S3x384x5120, .i32⟩
  | 97 => ⟨S3x384x5120, .i32⟩
  | 98 => ⟨S3x384x5120, .i32⟩
  | 99 => ⟨S_, .i32⟩
  | 100 => ⟨S3x384x5120, .i32⟩
  | 101 => ⟨S3x384x5120, .i32⟩
  | 102 => ⟨S3x384x5120, .i32⟩
  | 103 => ⟨S3x384x5120, .i32⟩
  | 104 => ⟨S3x384x5120, .i32⟩
  | 105 => ⟨S_, .i32⟩
  | 106 => ⟨S3x384x5120, .i32⟩
  | 107 => ⟨S3x384x5120, .i32⟩
  | 108 => ⟨S3x384x5120, .i32⟩
  | 109 => ⟨S_, .i32⟩
  | 110 => ⟨S3x384x5120, .i32⟩
  | 111 => ⟨S3x384x5120, .i32⟩
  | 112 => ⟨S3x384x5120, .i32⟩
  | 113 => ⟨S_, .i32⟩
  | 114 => ⟨S3x384x5120, .i32⟩
  | 115 => ⟨S3x384x5120, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S3x384x5120, .i32⟩
  | 124 => ⟨S3x384x5120, .i32⟩
  | 125 => ⟨S_, .i32⟩
  | 126 => ⟨S3x384x5120, .i32⟩
  | 127 => ⟨S3x384x5120, .i32⟩
  | _ => ⟨S3x384x20480, .bf16⟩

abbrev hbmTy0_6 (i : Nat) : BufTy := match i % 128 with
  | 0 => ⟨S3x384x5120, .i32⟩
  | 1 => ⟨S3x384x5120, .i32⟩
  | 2 => ⟨S3x384x5120, .i32⟩
  | 3 => ⟨S3x384x5120, .i32⟩
  | 4 => ⟨S_, .i32⟩
  | 5 => ⟨S3x384x5120, .i32⟩
  | 6 => ⟨S3x384x5120, .i32⟩
  | 7 => ⟨S3x384x5120, .i32⟩
  | 8 => ⟨S3x384x5120, .i32⟩
  | 9 => ⟨S3x384x5120, .i32⟩
  | 10 => ⟨S_, .i32⟩
  | 11 => ⟨S3x384x5120, .i32⟩
  | 12 => ⟨S3x384x5120, .i32⟩
  | 13 => ⟨S3x384x5120, .i32⟩
  | 14 => ⟨S3x384x5120, .i32⟩
  | 15 => ⟨S3x384x5120, .i32⟩
  | 16 => ⟨S_, .i32⟩
  | 17 => ⟨S3x384x5120, .i32⟩
  | 18 => ⟨S3x384x5120, .i32⟩
  | 19 => ⟨S3x384x5120, .i32⟩
  | 20 => ⟨S_, .i32⟩
  | 21 => ⟨S3x384x5120, .i32⟩
  | 22 => ⟨S3x384x5120, .i32⟩
  | 23 => ⟨S3x384x5120, .i32⟩
  | 24 => ⟨S3x384x5120, .i32⟩
  | 25 => ⟨S3x384x5120, .i32⟩
  | 26 => ⟨S3x384x5120, .i32⟩
  | 27 => ⟨S3x384x5120, .i32⟩
  | 28 => ⟨S3x384x5120, .i32⟩
  | 29 => ⟨S3x384x5120, .i32⟩
  | 30 => ⟨S_, .i32⟩
  | 31 => ⟨S_, .i32⟩
  | 32 => ⟨S_, .i32⟩
  | 33 => ⟨S_, .i32⟩
  | 34 => ⟨S_, .i32⟩
  | 35 => ⟨S3x384x5120, .i32⟩
  | 36 => ⟨S3x384x5120, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S3x384x5120, .i32⟩
  | 45 => ⟨S3x384x5120, .i32⟩
  | 46 => ⟨S_, .i32⟩
  | 47 => ⟨S3x384x5120, .i32⟩
  | 48 => ⟨S3x384x5120, .i32⟩
  | 49 => ⟨S3x384x5120, .i32⟩
  | 50 => ⟨S3x384x5120, .i32⟩
  | 51 => ⟨S3x384x5120, .i32⟩
  | 52 => ⟨S3x384x5120, .i32⟩
  | 53 => ⟨S_, .i32⟩
  | 54 => ⟨S3x384x5120, .i32⟩
  | 55 => ⟨S3x384x5120, .i32⟩
  | 56 => ⟨S3x384x5120, .i32⟩
  | 57 => ⟨S3x384x5120, .i32⟩
  | 58 => ⟨S3x384x5120, .i32⟩
  | 59 => ⟨S_, .i32⟩
  | 60 => ⟨S3x384x5120, .i32⟩
  | 61 => ⟨S3x384x5120, .i32⟩
  | 62 => ⟨S3x384x5120, .i32⟩
  | 63 => ⟨S3x384x5120, .i32⟩
  | 64 => ⟨S3x384x5120, .i32⟩
  | 65 => ⟨S_, .i32⟩
  | 66 => ⟨S3x384x5120, .i32⟩
  | 67 => ⟨S3x384x5120, .i32⟩
  | 68 => ⟨S3x384x5120, .i32⟩
  | 69 => ⟨S_, .i32⟩
  | 70 => ⟨S3x384x5120, .i32⟩
  | 71 => ⟨S3x384x5120, .i32⟩
  | 72 => ⟨S3x384x5120, .i32⟩
  | 73 => ⟨S_, .i32⟩
  | 74 => ⟨S3x384x5120, .i32⟩
  | 75 => ⟨S3x384x5120, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S3x384x5120, .i32⟩
  | 84 => ⟨S3x384x5120, .i32⟩
  | 85 => ⟨S_, .i32⟩
  | 86 => ⟨S3x384x5120, .i32⟩
  | 87 => ⟨S3x384x5120, .i32⟩
  | 88 => ⟨S3x384x5120, .i32⟩
  | 89 => ⟨S3x384x5120, .i32⟩
  | 90 => ⟨S3x384x5120, .i32⟩
  | 91 => ⟨S3x384x5120, .i32⟩
  | 92 => ⟨S_, .i32⟩
  | 93 => ⟨S3x384x5120, .i32⟩
  | 94 => ⟨S3x384x5120, .i32⟩
  | 95 => ⟨S3x384x5120, .i32⟩
  | 96 => ⟨S3x384x5120, .i32⟩
  | 97 => ⟨S3x384x5120, .i32⟩
  | 98 => ⟨S_, .i32⟩
  | 99 => ⟨S3x384x5120, .i32⟩
  | 100 => ⟨S3x384x5120, .i32⟩
  | 101 => ⟨S3x384x5120, .i32⟩
  | 102 => ⟨S3x384x5120, .i32⟩
  | 103 => ⟨S3x384x5120, .i32⟩
  | 104 => ⟨S_, .i32⟩
  | 105 => ⟨S3x384x5120, .i32⟩
  | 106 => ⟨S3x384x5120, .i32⟩
  | 107 => ⟨S3x384x5120, .i32⟩
  | 108 => ⟨S_, .i32⟩
  | 109 => ⟨S3x384x5120, .i32⟩
  | 110 => ⟨S3x384x5120, .i32⟩
  | 111 => ⟨S3x384x5120, .i32⟩
  | 112 => ⟨S3x384x5120, .i32⟩
  | 113 => ⟨S3x384x5120, .i32⟩
  | 114 => ⟨S3x384x5120, .i32⟩
  | 115 => ⟨S3x384x5120, .i32⟩
  | 116 => ⟨S3x384x5120, .i32⟩
  | 117 => ⟨S3x384x5120, .i32⟩
  | 118 => ⟨S3x384x5120x1, .i32⟩
  | 119 => ⟨S3x384x5120x1, .i32⟩
  | 120 => ⟨S3x384x5120x1, .i32⟩
  | 121 => ⟨S3x384x5120x1, .i32⟩
  | 122 => ⟨S3x384x5120x4, .i32⟩
  | 123 => ⟨S3x384x20480, .i32⟩
  | 124 => ⟨S3x384x20480, .f32⟩
  | 125 => ⟨S3x384x640x32, .f32⟩
  | 126 => ⟨S3x384x640x32, .f32⟩
  | 127 => ⟨S_, .f32⟩
  | _ => ⟨S3x384x20480, .bf16⟩

abbrev hbmTy0_7 (i : Nat) : BufTy := match i % 128 with
  | 0 => ⟨S3x384x640, .f32⟩
  | 1 => ⟨S254, .i32⟩
  | 2 => ⟨S_, .i32⟩
  | 3 => ⟨S254, .i32⟩
  | 4 => ⟨S254, .i32⟩
  | 5 => ⟨S_, .i32⟩
  | 6 => ⟨S254, .i32⟩
  | 7 => ⟨S254, .i32⟩
  | 8 => ⟨S_, .i32⟩
  | 9 => ⟨S254, .i32⟩
  | 10 => ⟨S254, .i32⟩
  | 11 => ⟨S254, .f32⟩
  | 12 => ⟨S3x384x640x1, .f32⟩
  | 13 => ⟨S1x1x1x254, .f32⟩
  | 14 => ⟨S3x384x640x254, .f32⟩
  | 15 => ⟨S3x384x640x254, .f32⟩
  | 16 => ⟨S3x384x640x254, .i1⟩
  | 17 => ⟨S3x384x640x254, .i32⟩
  | 18 => ⟨S_, .i32⟩
  | 19 => ⟨S3x384x640, .i32⟩
  | 20 => ⟨S_, .i32⟩
  | 21 => ⟨S3x384x640, .i32⟩
  | 22 => ⟨S3x384x640, .i32⟩
  | 23 => ⟨S_, .f32⟩
  | 24 => ⟨S3x384x640, .f32⟩
  | 25 => ⟨S3x384x640, .i1⟩
  | 26 => ⟨S_, .i32⟩
  | 27 => ⟨S3x384x640, .i32⟩
  | 28 => ⟨S3x384x640, .i32⟩
  | 29 => ⟨S_, .i32⟩
  | 30 => ⟨S_, .i32⟩
  | 31 => ⟨S3x384x640, .i32⟩
  | 32 => ⟨S3x384x640, .i32⟩
  | 33 => ⟨S_, .i32⟩
  | 34 => ⟨S3x384x640, .i32⟩
  | 35 => ⟨S3x384x640, .i32⟩
  | 36 => ⟨S3x384x640, .i8⟩
  | 37 => ⟨S3x384x640, .i32⟩
  | 38 => ⟨S_, .i32⟩
  | 39 => ⟨S3x384x640, .i32⟩
  | 40 => ⟨S3x384x640, .i32⟩
  | 41 => ⟨S_, .i32⟩
  | 42 => ⟨S3x384x640, .i32⟩
  | 43 => ⟨S3x384x640, .i32⟩
  | 44 => ⟨S3x384x640, .f32⟩
  | 45 => ⟨S3x384x640x32, .f32⟩
  | 46 => ⟨S_, .f32⟩
  | 47 => ⟨S3x384x640x32, .f32⟩
  | 48 => ⟨S3x384x640x32, .f32⟩
  | 49 => ⟨S3x384x640x1, .f32⟩
  | 50 => ⟨S3x384x640x32, .f32⟩
  | 51 => ⟨S3x384x640x32, .f32⟩
  | 52 => ⟨S_, .f32⟩
  | 53 => ⟨S3x384x640x32, .f32⟩
  | 54 => ⟨S3x384x640x32, .f32⟩
  | 55 => ⟨S3x384x640x32, .f32⟩
  | 56 => ⟨S_, .f32⟩
  | 57 => ⟨S3x384x640x32, .f32⟩
  | 58 => ⟨S3x384x640x32, .f32⟩
  | 59 => ⟨S3x384x640x32, .f32⟩
  | 60 => ⟨S_, .f32⟩
  | 61 => ⟨S3x384x640x32, .f32⟩
  | 62 => ⟨S3x384x640x32, .i1⟩
  | 63 => ⟨S_, .f32⟩
  | 64 => ⟨S3x384x640x32, .f32⟩
  | 65 => ⟨S3x384x640x32, .i1⟩
  | 66 => ⟨S_, .f32⟩
  | 67 => ⟨S3x384x640x32, .f32⟩
  | 68 => ⟨S3x384x640x32, .f32⟩
  | 69 => ⟨S_, .f32⟩
  | 70 => ⟨S3x384x640x32, .f32⟩
  | 71 => ⟨S3x384x640x32, .f32⟩
  | 72 => ⟨S3x384x640x32, .f32⟩
  | 73 => ⟨S_, .f32⟩
  | 74 => ⟨S3x384x640x32, .f32⟩
  | 75 => ⟨S3x384x640x32, .i1⟩
  | 76 => ⟨S3x384x640x32, .f32⟩
  | 77 => ⟨S_, .f32⟩
  | 78 => ⟨S3x384x640x32, .f32⟩
  | 79 => ⟨S3x384x640x32, .i1⟩
  | 80 => ⟨S_, .f32⟩
  | 81 => ⟨S3x384x640x32, .f32⟩
  | 82 => ⟨S3x384x640x32, .f32⟩
  | 83 => ⟨S3x384x640x32, .f32⟩
  | 84 => ⟨S_, .f32⟩
  | 85 => ⟨S3x384x640x32, .f32⟩
  | 86 => ⟨S3x384x640x32, .f32⟩
  | 87 => ⟨S_, .f32⟩
  | 88 => ⟨S3x384x640x32, .f32⟩
  | 89 => ⟨S3x384x640x32, .f32⟩
  | 90 => ⟨S3x384x640x32, .f32⟩
  | 91 => ⟨S3x384x640x32, .f32⟩
  | 92 => ⟨S3x384x640x32, .i32⟩
  | 93 => ⟨S_, .i32⟩
  | 94 => ⟨S3x384x640x32, .i32⟩
  | 95 => ⟨S3x384x640x32, .i32⟩
  | 96 => ⟨S3x384x640x32, .f32⟩
  | 97 => ⟨S_, .f32⟩
  | 98 => ⟨S3x384x640x32, .f32⟩
  | 99 => ⟨S3x384x640x32, .f32⟩
  | 100 => ⟨S3x384x640x32, .i1⟩
  | 101 => ⟨S3x384x640x32, .f32⟩
  | 102 => ⟨S3x384x640x32, .f32⟩
  | 103 => ⟨S3x384x640x32, .i32⟩
  | 104 => ⟨S_, .f32⟩
  | 105 => ⟨S3x384x640x32, .f32⟩
  | 106 => ⟨S3x384x640x32, .i1⟩
  | 107 => ⟨S_, .i32⟩
  | 108 => ⟨S3x384x640x32, .i32⟩
  | 109 => ⟨S3x384x640x32, .i32⟩
  | 110 => ⟨S3x384x640x32, .i32⟩
  | 111 => ⟨S3x384x10240x2, .i32⟩
  | 112 => ⟨S3x384x10240x1, .i32⟩
  | 113 => ⟨S3x384x10240, .i32⟩
  | 114 => ⟨S3x384x10240x1, .i32⟩
  | 115 => ⟨S3x384x10240, .i32⟩
  | 116 => ⟨S_, .i32⟩
  | 117 => ⟨S3x384x10240, .i32⟩
  | 118 => ⟨S3x384x10240, .i32⟩
  | 119 => ⟨S3x384x10240, .i32⟩
  | 120 => ⟨S3x384x10240, .i8⟩
  | 121 => ⟨S3x384x20480, .f32⟩
  | 122 => ⟨S_, .f32⟩
  | 123 => ⟨S20480, .f32⟩
  | 124 => ⟨S3x384x20480, .f32⟩
  | 125 => ⟨S_, .f32⟩
  | 126 => ⟨S_, .f32⟩
  | _ => ⟨S3x384x20480, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S3x384x20480, .bf16⟩

abbrev bufTy : (tb : Table) → Fin (tcTables nBuf tb) → BufTy
  | .hbm, ⟨i, _⟩ => hbmTy i
  | _, _ => ⟨S3x384x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_c_2 : Ref sig .tc := ⟨.hbm, 14, rfl⟩
abbrev main_v9 : Ref sig .tc := ⟨.hbm, 15, rfl⟩
abbrev main_c_3 : Ref sig .tc := ⟨.hbm, 16, rfl⟩
abbrev main_c_4 : Ref sig .tc := ⟨.hbm, 17, rfl⟩
abbrev main_v10 : Ref sig .tc := ⟨.hbm, 18, rfl⟩
abbrev main_c_5 : Ref sig .tc := ⟨.hbm, 19, rfl⟩
abbrev main_v11 : Ref sig .tc := ⟨.hbm, 20, rfl⟩
abbrev main_v12 : Ref sig .tc := ⟨.hbm, 21, rfl⟩
abbrev main_c_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_9 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_10 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_11 : Ref sig .tc := ⟨.hbm, 49, rfl⟩
abbrev main_v35 : Ref sig .tc := ⟨.hbm, 50, rfl⟩
abbrev main_v36 : Ref sig .tc := ⟨.hbm, 51, rfl⟩
abbrev main_c_12 : Ref sig .tc := ⟨.hbm, 52, rfl⟩
abbrev main_c_13 : Ref sig .tc := ⟨.hbm, 53, rfl⟩
abbrev main_v37 : Ref sig .tc := ⟨.hbm, 54, rfl⟩
abbrev main_c_14 : Ref sig .tc := ⟨.hbm, 55, rfl⟩
abbrev main_c_15 : Ref sig .tc := ⟨.hbm, 56, rfl⟩
abbrev main_v38 : Ref sig .tc := ⟨.hbm, 57, rfl⟩
abbrev main_c_16 : Ref sig .tc := ⟨.hbm, 58, rfl⟩
abbrev main_v39 : Ref sig .tc := ⟨.hbm, 59, rfl⟩
abbrev main_v40 : Ref sig .tc := ⟨.hbm, 60, rfl⟩
abbrev main_c_17 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_18 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_19 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_20 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_21 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_22 : Ref sig .tc := ⟨.hbm, 94, rfl⟩
abbrev main_v69 : Ref sig .tc := ⟨.hbm, 95, rfl⟩
abbrev main_c_23 : Ref sig .tc := ⟨.hbm, 96, rfl⟩
abbrev main_v70 : Ref sig .tc := ⟨.hbm, 97, rfl⟩
abbrev main_c_24 : Ref sig .tc := ⟨.hbm, 98, rfl⟩
abbrev main_v71 : Ref sig .tc := ⟨.hbm, 99, rfl⟩
abbrev main_v72 : Ref sig .tc := ⟨.hbm, 100, rfl⟩
abbrev main_c_25 : Ref sig .tc := ⟨.hbm, 101, rfl⟩
abbrev main_c_26 : Ref sig .tc := ⟨.hbm, 102, rfl⟩
abbrev main_v73 : Ref sig .tc := ⟨.hbm, 103, rfl⟩
abbrev main_c_27 : Ref sig .tc := ⟨.hbm, 104, rfl⟩
abbrev main_c_28 : Ref sig .tc := ⟨.hbm, 105, rfl⟩
abbrev main_v74 : Ref sig .tc := ⟨.hbm, 106, rfl⟩
abbrev main_c_29 : Ref sig .tc := ⟨.hbm, 107, rfl⟩
abbrev main_v75 : Ref sig .tc := ⟨.hbm, 108, rfl⟩
abbrev main_v76 : Ref sig .tc := ⟨.hbm, 109, rfl⟩
abbrev main_c_30 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_31 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_32 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_33 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_34 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_35 : Ref sig .tc := ⟨.hbm, 137, rfl⟩
abbrev main_v99 : Ref sig .tc := ⟨.hbm, 138, rfl⟩
abbrev main_v100 : Ref sig .tc := ⟨.hbm, 139, rfl⟩
abbrev main_c_36 : Ref sig .tc := ⟨.hbm, 140, rfl⟩
abbrev main_c_37 : Ref sig .tc := ⟨.hbm, 141, rfl⟩
abbrev main_v101 : Ref sig .tc := ⟨.hbm, 142, rfl⟩
abbrev main_c_38 : Ref sig .tc := ⟨.hbm, 143, rfl⟩
abbrev main_c_39 : Ref sig .tc := ⟨.hbm, 144, rfl⟩
abbrev main_v102 : Ref sig .tc := ⟨.hbm, 145, rfl⟩
abbrev main_c_40 : Ref sig .tc := ⟨.hbm, 146, rfl⟩
abbrev main_v103 : Ref sig .tc := ⟨.hbm, 147, rfl⟩
abbrev main_v104 : Ref sig .tc := ⟨.hbm, 148, rfl⟩
abbrev main_c_41 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_c_42 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_43 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_44 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_c_45 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_46 : Ref sig .tc := ⟨.hbm, 182, rfl⟩
abbrev main_v133 : Ref sig .tc := ⟨.hbm, 183, rfl⟩
abbrev main_c_47 : Ref sig .tc := ⟨.hbm, 184, rfl⟩
abbrev main_v134 : Ref sig .tc := ⟨.hbm, 185, rfl⟩
abbrev main_c_48 : Ref sig .tc := ⟨.hbm, 186, rfl⟩
abbrev main_v135 : Ref sig .tc := ⟨.hbm, 187, rfl⟩
abbrev main_v136 : Ref sig .tc := ⟨.hbm, 188, rfl⟩
abbrev main_c_49 : Ref sig .tc := ⟨.hbm, 189, rfl⟩
abbrev main_c_50 : Ref sig .tc := ⟨.hbm, 190, rfl⟩
abbrev main_v137 : Ref sig .tc := ⟨.hbm, 191, rfl⟩
abbrev main_c_51 : Ref sig .tc := ⟨.hbm, 192, rfl⟩
abbrev main_c_52 : Ref sig .tc := ⟨.hbm, 193, rfl⟩
abbrev main_v138 : Ref sig .tc := ⟨.hbm, 194, rfl⟩
abbrev main_c_53 : Ref sig .tc := ⟨.hbm, 195, rfl⟩
abbrev main_v139 : Ref sig .tc := ⟨.hbm, 196, rfl⟩
abbrev main_v140 : Ref sig .tc := ⟨.hbm, 197, rfl⟩
abbrev main_c_54 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_55 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_c_56 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_c_57 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_c_58 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_c_59 : Ref sig .tc := ⟨.hbm, 225, rfl⟩
abbrev main_v163 : Ref sig .tc := ⟨.hbm, 226, rfl⟩
abbrev main_v164 : Ref sig .tc := ⟨.hbm, 227, rfl⟩
abbrev main_c_60 : Ref sig .tc := ⟨.hbm, 228, rfl⟩
abbrev main_c_61 : Ref sig .tc := ⟨.hbm, 229, rfl⟩
abbrev main_v165 : Ref sig .tc := ⟨.hbm, 230, rfl⟩
abbrev main_c_62 : Ref sig .tc := ⟨.hbm, 231, rfl⟩
abbrev main_c_63 : Ref sig .tc := ⟨.hbm, 232, rfl⟩
abbrev main_v166 : Ref sig .tc := ⟨.hbm, 233, rfl⟩
abbrev main_c_64 : Ref sig .tc := ⟨.hbm, 234, rfl⟩
abbrev main_v167 : Ref sig .tc := ⟨.hbm, 235, rfl⟩
abbrev main_v168 : Ref sig .tc := ⟨.hbm, 236, rfl⟩
abbrev main_c_65 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_c_66 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_c_67 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_c_68 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_c_69 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_c_70 : Ref sig .tc := ⟨.hbm, 270, rfl⟩
abbrev main_v197 : Ref sig .tc := ⟨.hbm, 271, rfl⟩
abbrev main_c_71 : Ref sig .tc := ⟨.hbm, 272, rfl⟩
abbrev main_v198 : Ref sig .tc := ⟨.hbm, 273, rfl⟩
abbrev main_c_72 : Ref sig .tc := ⟨.hbm, 274, rfl⟩
abbrev main_v199 : Ref sig .tc := ⟨.hbm, 275, rfl⟩
abbrev main_v200 : Ref sig .tc := ⟨.hbm, 276, rfl⟩
abbrev main_c_73 : Ref sig .tc := ⟨.hbm, 277, rfl⟩
abbrev main_c_74 : Ref sig .tc := ⟨.hbm, 278, rfl⟩
abbrev main_v201 : Ref sig .tc := ⟨.hbm, 279, rfl⟩
abbrev main_c_75 : Ref sig .tc := ⟨.hbm, 280, rfl⟩
abbrev main_c_76 : Ref sig .tc := ⟨.hbm, 281, rfl⟩
abbrev main_v202 : Ref sig .tc := ⟨.hbm, 282, rfl⟩
abbrev main_c_77 : Ref sig .tc := ⟨.hbm, 283, rfl⟩
abbrev main_v203 : Ref sig .tc := ⟨.hbm, 284, rfl⟩
abbrev main_v204 : Ref sig .tc := ⟨.hbm, 285, rfl⟩
abbrev main_c_78 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_c_79 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_c_80 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_c_81 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_c_82 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_c_83 : Ref sig .tc := ⟨.hbm, 313, rfl⟩
abbrev main_v227 : Ref sig .tc := ⟨.hbm, 314, rfl⟩
abbrev main_v228 : Ref sig .tc := ⟨.hbm, 315, rfl⟩
abbrev main_c_84 : Ref sig .tc := ⟨.hbm, 316, rfl⟩
abbrev main_c_85 : Ref sig .tc := ⟨.hbm, 317, rfl⟩
abbrev main_v229 : Ref sig .tc := ⟨.hbm, 318, rfl⟩
abbrev main_c_86 : Ref sig .tc := ⟨.hbm, 319, rfl⟩
abbrev main_c_87 : Ref sig .tc := ⟨.hbm, 320, rfl⟩
abbrev main_v230 : Ref sig .tc := ⟨.hbm, 321, rfl⟩
abbrev main_c_88 : Ref sig .tc := ⟨.hbm, 322, rfl⟩
abbrev main_v231 : Ref sig .tc := ⟨.hbm, 323, rfl⟩
abbrev main_v232 : Ref sig .tc := ⟨.hbm, 324, rfl⟩
abbrev main_c_89 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_c_90 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_c_91 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_c_92 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_c_93 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_c_94 : Ref sig .tc := ⟨.hbm, 358, rfl⟩
abbrev main_v261 : Ref sig .tc := ⟨.hbm, 359, rfl⟩
abbrev main_c_95 : Ref sig .tc := ⟨.hbm, 360, rfl⟩
abbrev main_v262 : Ref sig .tc := ⟨.hbm, 361, rfl⟩
abbrev main_c_96 : Ref sig .tc := ⟨.hbm, 362, rfl⟩
abbrev main_v263 : Ref sig .tc := ⟨.hbm, 363, rfl⟩
abbrev main_v264 : Ref sig .tc := ⟨.hbm, 364, rfl⟩
abbrev main_c_97 : Ref sig .tc := ⟨.hbm, 365, rfl⟩
abbrev main_c_98 : Ref sig .tc := ⟨.hbm, 366, rfl⟩
abbrev main_v265 : Ref sig .tc := ⟨.hbm, 367, rfl⟩
abbrev main_c_99 : Ref sig .tc := ⟨.hbm, 368, rfl⟩
abbrev main_c_100 : Ref sig .tc := ⟨.hbm, 369, rfl⟩
abbrev main_v266 : Ref sig .tc := ⟨.hbm, 370, rfl⟩
abbrev main_c_101 : Ref sig .tc := ⟨.hbm, 371, rfl⟩
abbrev main_v267 : Ref sig .tc := ⟨.hbm, 372, rfl⟩
abbrev main_v268 : Ref sig .tc := ⟨.hbm, 373, rfl⟩
abbrev main_c_102 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_c_103 : Ref sig .tc := ⟨.hbm, 381, rfl⟩
abbrev main_v275 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_v279 : Ref sig .tc := ⟨.hbm, 386, rfl⟩
abbrev main_c_104 : Ref sig .tc := ⟨.hbm, 387, rfl⟩
abbrev main_v280 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_c_105 : Ref sig .tc := ⟨.hbm, 393, rfl⟩
abbrev main_v285 : Ref sig .tc := ⟨.hbm, 394, rfl⟩
abbrev main_v286 : Ref sig .tc := ⟨.hbm, 395, rfl⟩
abbrev main_v287 : Ref sig .tc := ⟨.hbm, 396, rfl⟩
abbrev main_c_106 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_c_107 : Ref sig .tc := ⟨.hbm, 401, rfl⟩
abbrev main_v291 : Ref sig .tc := ⟨.hbm, 402, rfl⟩
abbrev main_v292 : Ref sig .tc := ⟨.hbm, 403, rfl⟩
abbrev main_c_108 : Ref sig .tc := ⟨.hbm, 404, rfl⟩
abbrev main_c_109 : Ref sig .tc := ⟨.hbm, 405, rfl⟩
abbrev main_v293 : Ref sig .tc := ⟨.hbm, 406, rfl⟩
abbrev main_c_110 : Ref sig .tc := ⟨.hbm, 407, rfl⟩
abbrev main_c_111 : Ref sig .tc := ⟨.hbm, 408, rfl⟩
abbrev main_v294 : Ref sig .tc := ⟨.hbm, 409, rfl⟩
abbrev main_c_112 : Ref sig .tc := ⟨.hbm, 410, rfl⟩
abbrev main_v295 : Ref sig .tc := ⟨.hbm, 411, rfl⟩
abbrev main_v296 : Ref sig .tc := ⟨.hbm, 412, rfl⟩
abbrev main_c_113 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩
abbrev main_v301 : Ref sig .tc := ⟨.hbm, 418, rfl⟩
abbrev main_v302 : Ref sig .tc := ⟨.hbm, 419, rfl⟩
abbrev main_c_114 : Ref sig .tc := ⟨.hbm, 420, rfl⟩
abbrev main_v303 : Ref sig .tc := ⟨.hbm, 421, rfl⟩
abbrev main_v304 : Ref sig .tc := ⟨.hbm, 422, rfl⟩
abbrev main_v305 : Ref sig .tc := ⟨.hbm, 423, rfl⟩
abbrev main_v306 : Ref sig .tc := ⟨.hbm, 424, rfl⟩
abbrev main_v307 : Ref sig .tc := ⟨.hbm, 425, rfl⟩
abbrev main_c_115 : Ref sig .tc := ⟨.hbm, 426, rfl⟩
abbrev main_v308 : Ref sig .tc := ⟨.hbm, 427, rfl⟩
abbrev main_v309 : Ref sig .tc := ⟨.hbm, 428, rfl⟩
abbrev main_v310 : Ref sig .tc := ⟨.hbm, 429, rfl⟩
abbrev main_v311 : Ref sig .tc := ⟨.hbm, 430, rfl⟩
abbrev main_v312 : Ref sig .tc := ⟨.hbm, 431, rfl⟩
abbrev main_c_116 : Ref sig .tc := ⟨.hbm, 432, rfl⟩
abbrev main_v313 : Ref sig .tc := ⟨.hbm, 433, rfl⟩
abbrev main_v314 : Ref sig .tc := ⟨.hbm, 434, rfl⟩
abbrev main_v315 : Ref sig .tc := ⟨.hbm, 435, rfl⟩
abbrev main_c_117 : Ref sig .tc := ⟨.hbm, 436, rfl⟩
abbrev main_v316 : Ref sig .tc := ⟨.hbm, 437, rfl⟩
abbrev main_v317 : Ref sig .tc := ⟨.hbm, 438, rfl⟩
abbrev main_v318 : Ref sig .tc := ⟨.hbm, 439, rfl⟩
abbrev main_v319 : Ref sig .tc := ⟨.hbm, 440, rfl⟩
abbrev main_v320 : Ref sig .tc := ⟨.hbm, 441, rfl⟩
abbrev main_v321 : Ref sig .tc := ⟨.hbm, 442, rfl⟩
abbrev main_v322 : Ref sig .tc := ⟨.hbm, 443, rfl⟩
abbrev main_v323 : Ref sig .tc := ⟨.hbm, 444, rfl⟩
abbrev main_v324 : Ref sig .tc := ⟨.hbm, 445, rfl⟩
abbrev main_c_118 : Ref sig .tc := ⟨.hbm, 446, rfl⟩
abbrev main_v325 : Ref sig .tc := ⟨.hbm, 447, rfl⟩
abbrev main_c_119 : Ref sig .tc := ⟨.hbm, 448, rfl⟩
abbrev main_v326 : Ref sig .tc := ⟨.hbm, 449, rfl⟩
abbrev main_c_120 : Ref sig .tc := ⟨.hbm, 450, rfl⟩
abbrev main_v327 : Ref sig .tc := ⟨.hbm, 451, rfl⟩
abbrev main_v328 : Ref sig .tc := ⟨.hbm, 452, rfl⟩
abbrev main_c_121 : Ref sig .tc := ⟨.hbm, 453, rfl⟩
abbrev main_c_122 : Ref sig .tc := ⟨.hbm, 454, rfl⟩
abbrev main_v329 : Ref sig .tc := ⟨.hbm, 455, rfl⟩
abbrev main_c_123 : Ref sig .tc := ⟨.hbm, 456, rfl⟩
abbrev main_c_124 : Ref sig .tc := ⟨.hbm, 457, rfl⟩
abbrev main_v330 : Ref sig .tc := ⟨.hbm, 458, rfl⟩
abbrev main_c_125 : Ref sig .tc := ⟨.hbm, 459, rfl⟩
abbrev main_v331 : Ref sig .tc := ⟨.hbm, 460, rfl⟩
abbrev main_v332 : Ref sig .tc := ⟨.hbm, 461, rfl⟩
abbrev main_c_126 : Ref sig .tc := ⟨.hbm, 462, rfl⟩
abbrev main_v333 : Ref sig .tc := ⟨.hbm, 463, rfl⟩
abbrev main_v334 : Ref sig .tc := ⟨.hbm, 464, rfl⟩
abbrev main_v335 : Ref sig .tc := ⟨.hbm, 465, rfl⟩
abbrev main_v336 : Ref sig .tc := ⟨.hbm, 466, rfl⟩
abbrev main_v337 : Ref sig .tc := ⟨.hbm, 467, rfl⟩
abbrev main_v338 : Ref sig .tc := ⟨.hbm, 468, rfl⟩
abbrev main_c_127 : Ref sig .tc := ⟨.hbm, 469, rfl⟩
abbrev main_v339 : Ref sig .tc := ⟨.hbm, 470, rfl⟩
abbrev main_v340 : Ref sig .tc := ⟨.hbm, 471, rfl⟩
abbrev main_v341 : Ref sig .tc := ⟨.hbm, 472, rfl⟩
abbrev main_v342 : Ref sig .tc := ⟨.hbm, 473, rfl⟩
abbrev main_v343 : Ref sig .tc := ⟨.hbm, 474, rfl⟩
abbrev main_c_128 : Ref sig .tc := ⟨.hbm, 475, rfl⟩
abbrev main_v344 : Ref sig .tc := ⟨.hbm, 476, rfl⟩
abbrev main_v345 : Ref sig .tc := ⟨.hbm, 477, rfl⟩
abbrev main_v346 : Ref sig .tc := ⟨.hbm, 478, rfl⟩
abbrev main_v347 : Ref sig .tc := ⟨.hbm, 479, rfl⟩
abbrev main_v348 : Ref sig .tc := ⟨.hbm, 480, rfl⟩
abbrev main_c_129 : Ref sig .tc := ⟨.hbm, 481, rfl⟩
abbrev main_v349 : Ref sig .tc := ⟨.hbm, 482, rfl⟩
abbrev main_v350 : Ref sig .tc := ⟨.hbm, 483, rfl⟩
abbrev main_v351 : Ref sig .tc := ⟨.hbm, 484, rfl⟩
abbrev main_c_130 : Ref sig .tc := ⟨.hbm, 485, rfl⟩
abbrev main_v352 : Ref sig .tc := ⟨.hbm, 486, rfl⟩
abbrev main_v353 : Ref sig .tc := ⟨.hbm, 487, rfl⟩
abbrev main_v354 : Ref sig .tc := ⟨.hbm, 488, rfl⟩
abbrev main_c_131 : Ref sig .tc := ⟨.hbm, 489, rfl⟩
abbrev main_v355 : Ref sig .tc := ⟨.hbm, 490, rfl⟩
abbrev main_v356 : Ref sig .tc := ⟨.hbm, 491, rfl⟩
abbrev main_c_132 : Ref sig .tc := ⟨.hbm, 492, rfl⟩
abbrev main_c_133 : Ref sig .tc := ⟨.hbm, 493, rfl⟩
abbrev main_v357 : Ref sig .tc := ⟨.hbm, 494, rfl⟩
abbrev main_c_134 : Ref sig .tc := ⟨.hbm, 495, rfl⟩
abbrev main_c_135 : Ref sig .tc := ⟨.hbm, 496, rfl⟩
abbrev main_v358 : Ref sig .tc := ⟨.hbm, 497, rfl⟩
abbrev main_c_136 : Ref sig .tc := ⟨.hbm, 498, rfl⟩
abbrev main_v359 : Ref sig .tc := ⟨.hbm, 499, rfl⟩
abbrev main_v360 : Ref sig .tc := ⟨.hbm, 500, rfl⟩
abbrev main_c_137 : Ref sig .tc := ⟨.hbm, 501, rfl⟩
abbrev main_v361 : Ref sig .tc := ⟨.hbm, 502, rfl⟩
abbrev main_v362 : Ref sig .tc := ⟨.hbm, 503, rfl⟩
abbrev main_v363 : Ref sig .tc := ⟨.hbm, 504, rfl⟩
abbrev main_v364 : Ref sig .tc := ⟨.hbm, 505, rfl⟩
abbrev main_v365 : Ref sig .tc := ⟨.hbm, 506, rfl⟩
abbrev main_v366 : Ref sig .tc := ⟨.hbm, 507, rfl⟩
abbrev main_c_138 : Ref sig .tc := ⟨.hbm, 508, rfl⟩
abbrev main_v367 : Ref sig .tc := ⟨.hbm, 509, rfl⟩
abbrev main_v368 : Ref sig .tc := ⟨.hbm, 510, rfl⟩
abbrev main_v369 : Ref sig .tc := ⟨.hbm, 511, rfl⟩
abbrev main_v370 : Ref sig .tc := ⟨.hbm, 512, rfl⟩
abbrev main_v371 : Ref sig .tc := ⟨.hbm, 513, rfl⟩
abbrev main_c_139 : Ref sig .tc := ⟨.hbm, 514, rfl⟩
abbrev main_v372 : Ref sig .tc := ⟨.hbm, 515, rfl⟩
abbrev main_v373 : Ref sig .tc := ⟨.hbm, 516, rfl⟩
abbrev main_v374 : Ref sig .tc := ⟨.hbm, 517, rfl⟩
abbrev main_v375 : Ref sig .tc := ⟨.hbm, 518, rfl⟩
abbrev main_v376 : Ref sig .tc := ⟨.hbm, 519, rfl⟩
abbrev main_c_140 : Ref sig .tc := ⟨.hbm, 520, rfl⟩
abbrev main_v377 : Ref sig .tc := ⟨.hbm, 521, rfl⟩
abbrev main_v378 : Ref sig .tc := ⟨.hbm, 522, rfl⟩
abbrev main_v379 : Ref sig .tc := ⟨.hbm, 523, rfl⟩
abbrev main_c_141 : Ref sig .tc := ⟨.hbm, 524, rfl⟩
abbrev main_v380 : Ref sig .tc := ⟨.hbm, 525, rfl⟩
abbrev main_v381 : Ref sig .tc := ⟨.hbm, 526, rfl⟩
abbrev main_v382 : Ref sig .tc := ⟨.hbm, 527, rfl⟩
abbrev main_v383 : Ref sig .tc := ⟨.hbm, 528, rfl⟩
abbrev main_v384 : Ref sig .tc := ⟨.hbm, 529, rfl⟩
abbrev main_v385 : Ref sig .tc := ⟨.hbm, 530, rfl⟩
abbrev main_v386 : Ref sig .tc := ⟨.hbm, 531, rfl⟩
abbrev main_v387 : Ref sig .tc := ⟨.hbm, 532, rfl⟩
abbrev main_v388 : Ref sig .tc := ⟨.hbm, 533, rfl⟩
abbrev main_c_142 : Ref sig .tc := ⟨.hbm, 534, rfl⟩
abbrev main_v389 : Ref sig .tc := ⟨.hbm, 535, rfl⟩
abbrev main_c_143 : Ref sig .tc := ⟨.hbm, 536, rfl⟩
abbrev main_v390 : Ref sig .tc := ⟨.hbm, 537, rfl⟩
abbrev main_c_144 : Ref sig .tc := ⟨.hbm, 538, rfl⟩
abbrev main_v391 : Ref sig .tc := ⟨.hbm, 539, rfl⟩
abbrev main_v392 : Ref sig .tc := ⟨.hbm, 540, rfl⟩
abbrev main_c_145 : Ref sig .tc := ⟨.hbm, 541, rfl⟩
abbrev main_c_146 : Ref sig .tc := ⟨.hbm, 542, rfl⟩
abbrev main_v393 : Ref sig .tc := ⟨.hbm, 543, rfl⟩
abbrev main_c_147 : Ref sig .tc := ⟨.hbm, 544, rfl⟩
abbrev main_c_148 : Ref sig .tc := ⟨.hbm, 545, rfl⟩
abbrev main_v394 : Ref sig .tc := ⟨.hbm, 546, rfl⟩
abbrev main_c_149 : Ref sig .tc := ⟨.hbm, 547, rfl⟩
abbrev main_v395 : Ref sig .tc := ⟨.hbm, 548, rfl⟩
abbrev main_v396 : Ref sig .tc := ⟨.hbm, 549, rfl⟩
abbrev main_c_150 : Ref sig .tc := ⟨.hbm, 550, rfl⟩
abbrev main_v397 : Ref sig .tc := ⟨.hbm, 551, rfl⟩
abbrev main_v398 : Ref sig .tc := ⟨.hbm, 552, rfl⟩
abbrev main_v399 : Ref sig .tc := ⟨.hbm, 553, rfl⟩
abbrev main_v400 : Ref sig .tc := ⟨.hbm, 554, rfl⟩
abbrev main_v401 : Ref sig .tc := ⟨.hbm, 555, rfl⟩
abbrev main_v402 : Ref sig .tc := ⟨.hbm, 556, rfl⟩
abbrev main_c_151 : Ref sig .tc := ⟨.hbm, 557, rfl⟩
abbrev main_v403 : Ref sig .tc := ⟨.hbm, 558, rfl⟩
abbrev main_v404 : Ref sig .tc := ⟨.hbm, 559, rfl⟩
abbrev main_v405 : Ref sig .tc := ⟨.hbm, 560, rfl⟩
abbrev main_v406 : Ref sig .tc := ⟨.hbm, 561, rfl⟩
abbrev main_v407 : Ref sig .tc := ⟨.hbm, 562, rfl⟩
abbrev main_c_152 : Ref sig .tc := ⟨.hbm, 563, rfl⟩
abbrev main_v408 : Ref sig .tc := ⟨.hbm, 564, rfl⟩
abbrev main_v409 : Ref sig .tc := ⟨.hbm, 565, rfl⟩
abbrev main_v410 : Ref sig .tc := ⟨.hbm, 566, rfl⟩
abbrev main_v411 : Ref sig .tc := ⟨.hbm, 567, rfl⟩
abbrev main_v412 : Ref sig .tc := ⟨.hbm, 568, rfl⟩
abbrev main_c_153 : Ref sig .tc := ⟨.hbm, 569, rfl⟩
abbrev main_v413 : Ref sig .tc := ⟨.hbm, 570, rfl⟩
abbrev main_v414 : Ref sig .tc := ⟨.hbm, 571, rfl⟩
abbrev main_v415 : Ref sig .tc := ⟨.hbm, 572, rfl⟩
abbrev main_c_154 : Ref sig .tc := ⟨.hbm, 573, rfl⟩
abbrev main_v416 : Ref sig .tc := ⟨.hbm, 574, rfl⟩
abbrev main_v417 : Ref sig .tc := ⟨.hbm, 575, rfl⟩
abbrev main_v418 : Ref sig .tc := ⟨.hbm, 576, rfl⟩
abbrev main_c_155 : Ref sig .tc := ⟨.hbm, 577, rfl⟩
abbrev main_v419 : Ref sig .tc := ⟨.hbm, 578, rfl⟩
abbrev main_v420 : Ref sig .tc := ⟨.hbm, 579, rfl⟩
abbrev main_c_156 : Ref sig .tc := ⟨.hbm, 580, rfl⟩
abbrev main_c_157 : Ref sig .tc := ⟨.hbm, 581, rfl⟩
abbrev main_v421 : Ref sig .tc := ⟨.hbm, 582, rfl⟩
abbrev main_c_158 : Ref sig .tc := ⟨.hbm, 583, rfl⟩
abbrev main_c_159 : Ref sig .tc := ⟨.hbm, 584, rfl⟩
abbrev main_v422 : Ref sig .tc := ⟨.hbm, 585, rfl⟩
abbrev main_c_160 : Ref sig .tc := ⟨.hbm, 586, rfl⟩
abbrev main_v423 : Ref sig .tc := ⟨.hbm, 587, rfl⟩
abbrev main_v424 : Ref sig .tc := ⟨.hbm, 588, rfl⟩
abbrev main_c_161 : Ref sig .tc := ⟨.hbm, 589, rfl⟩
abbrev main_v425 : Ref sig .tc := ⟨.hbm, 590, rfl⟩
abbrev main_v426 : Ref sig .tc := ⟨.hbm, 591, rfl⟩
abbrev main_v427 : Ref sig .tc := ⟨.hbm, 592, rfl⟩
abbrev main_v428 : Ref sig .tc := ⟨.hbm, 593, rfl⟩
abbrev main_v429 : Ref sig .tc := ⟨.hbm, 594, rfl⟩
abbrev main_v430 : Ref sig .tc := ⟨.hbm, 595, rfl⟩
abbrev main_c_162 : Ref sig .tc := ⟨.hbm, 596, rfl⟩
abbrev main_v431 : Ref sig .tc := ⟨.hbm, 597, rfl⟩
abbrev main_v432 : Ref sig .tc := ⟨.hbm, 598, rfl⟩
abbrev main_v433 : Ref sig .tc := ⟨.hbm, 599, rfl⟩
abbrev main_v434 : Ref sig .tc := ⟨.hbm, 600, rfl⟩
abbrev main_v435 : Ref sig .tc := ⟨.hbm, 601, rfl⟩
abbrev main_c_163 : Ref sig .tc := ⟨.hbm, 602, rfl⟩
abbrev main_v436 : Ref sig .tc := ⟨.hbm, 603, rfl⟩
abbrev main_v437 : Ref sig .tc := ⟨.hbm, 604, rfl⟩
abbrev main_v438 : Ref sig .tc := ⟨.hbm, 605, rfl⟩
abbrev main_v439 : Ref sig .tc := ⟨.hbm, 606, rfl⟩
abbrev main_v440 : Ref sig .tc := ⟨.hbm, 607, rfl⟩
abbrev main_c_164 : Ref sig .tc := ⟨.hbm, 608, rfl⟩
abbrev main_v441 : Ref sig .tc := ⟨.hbm, 609, rfl⟩
abbrev main_v442 : Ref sig .tc := ⟨.hbm, 610, rfl⟩
abbrev main_v443 : Ref sig .tc := ⟨.hbm, 611, rfl⟩
abbrev main_c_165 : Ref sig .tc := ⟨.hbm, 612, rfl⟩
abbrev main_v444 : Ref sig .tc := ⟨.hbm, 613, rfl⟩
abbrev main_v445 : Ref sig .tc := ⟨.hbm, 614, rfl⟩
abbrev main_v446 : Ref sig .tc := ⟨.hbm, 615, rfl⟩
abbrev main_v447 : Ref sig .tc := ⟨.hbm, 616, rfl⟩
abbrev main_v448 : Ref sig .tc := ⟨.hbm, 617, rfl⟩
abbrev main_v449 : Ref sig .tc := ⟨.hbm, 618, rfl⟩
abbrev main_v450 : Ref sig .tc := ⟨.hbm, 619, rfl⟩
abbrev main_v451 : Ref sig .tc := ⟨.hbm, 620, rfl⟩
abbrev main_v452 : Ref sig .tc := ⟨.hbm, 621, rfl⟩
abbrev main_c_166 : Ref sig .tc := ⟨.hbm, 622, rfl⟩
abbrev main_v453 : Ref sig .tc := ⟨.hbm, 623, rfl⟩
abbrev main_c_167 : Ref sig .tc := ⟨.hbm, 624, rfl⟩
abbrev main_v454 : Ref sig .tc := ⟨.hbm, 625, rfl⟩
abbrev main_c_168 : Ref sig .tc := ⟨.hbm, 626, rfl⟩
abbrev main_v455 : Ref sig .tc := ⟨.hbm, 627, rfl⟩
abbrev main_v456 : Ref sig .tc := ⟨.hbm, 628, rfl⟩
abbrev main_c_169 : Ref sig .tc := ⟨.hbm, 629, rfl⟩
abbrev main_c_170 : Ref sig .tc := ⟨.hbm, 630, rfl⟩
abbrev main_v457 : Ref sig .tc := ⟨.hbm, 631, rfl⟩
abbrev main_c_171 : Ref sig .tc := ⟨.hbm, 632, rfl⟩
abbrev main_c_172 : Ref sig .tc := ⟨.hbm, 633, rfl⟩
abbrev main_v458 : Ref sig .tc := ⟨.hbm, 634, rfl⟩
abbrev main_c_173 : Ref sig .tc := ⟨.hbm, 635, rfl⟩
abbrev main_v459 : Ref sig .tc := ⟨.hbm, 636, rfl⟩
abbrev main_v460 : Ref sig .tc := ⟨.hbm, 637, rfl⟩
abbrev main_c_174 : Ref sig .tc := ⟨.hbm, 638, rfl⟩
abbrev main_v461 : Ref sig .tc := ⟨.hbm, 639, rfl⟩
abbrev main_v462 : Ref sig .tc := ⟨.hbm, 640, rfl⟩
abbrev main_v463 : Ref sig .tc := ⟨.hbm, 641, rfl⟩
abbrev main_v464 : Ref sig .tc := ⟨.hbm, 642, rfl⟩
abbrev main_v465 : Ref sig .tc := ⟨.hbm, 643, rfl⟩
abbrev main_v466 : Ref sig .tc := ⟨.hbm, 644, rfl⟩
abbrev main_c_175 : Ref sig .tc := ⟨.hbm, 645, rfl⟩
abbrev main_v467 : Ref sig .tc := ⟨.hbm, 646, rfl⟩
abbrev main_v468 : Ref sig .tc := ⟨.hbm, 647, rfl⟩
abbrev main_v469 : Ref sig .tc := ⟨.hbm, 648, rfl⟩
abbrev main_v470 : Ref sig .tc := ⟨.hbm, 649, rfl⟩
abbrev main_v471 : Ref sig .tc := ⟨.hbm, 650, rfl⟩
abbrev main_c_176 : Ref sig .tc := ⟨.hbm, 651, rfl⟩
abbrev main_v472 : Ref sig .tc := ⟨.hbm, 652, rfl⟩
abbrev main_v473 : Ref sig .tc := ⟨.hbm, 653, rfl⟩
abbrev main_v474 : Ref sig .tc := ⟨.hbm, 654, rfl⟩
abbrev main_v475 : Ref sig .tc := ⟨.hbm, 655, rfl⟩
abbrev main_v476 : Ref sig .tc := ⟨.hbm, 656, rfl⟩
abbrev main_c_177 : Ref sig .tc := ⟨.hbm, 657, rfl⟩
abbrev main_v477 : Ref sig .tc := ⟨.hbm, 658, rfl⟩
abbrev main_v478 : Ref sig .tc := ⟨.hbm, 659, rfl⟩
abbrev main_v479 : Ref sig .tc := ⟨.hbm, 660, rfl⟩
abbrev main_c_178 : Ref sig .tc := ⟨.hbm, 661, rfl⟩
abbrev main_v480 : Ref sig .tc := ⟨.hbm, 662, rfl⟩
abbrev main_v481 : Ref sig .tc := ⟨.hbm, 663, rfl⟩
abbrev main_v482 : Ref sig .tc := ⟨.hbm, 664, rfl⟩
abbrev main_c_179 : Ref sig .tc := ⟨.hbm, 665, rfl⟩
abbrev main_v483 : Ref sig .tc := ⟨.hbm, 666, rfl⟩
abbrev main_v484 : Ref sig .tc := ⟨.hbm, 667, rfl⟩
abbrev main_c_180 : Ref sig .tc := ⟨.hbm, 668, rfl⟩
abbrev main_c_181 : Ref sig .tc := ⟨.hbm, 669, rfl⟩
abbrev main_v485 : Ref sig .tc := ⟨.hbm, 670, rfl⟩
abbrev main_c_182 : Ref sig .tc := ⟨.hbm, 671, rfl⟩
abbrev main_c_183 : Ref sig .tc := ⟨.hbm, 672, rfl⟩
abbrev main_v486 : Ref sig .tc := ⟨.hbm, 673, rfl⟩
abbrev main_c_184 : Ref sig .tc := ⟨.hbm, 674, rfl⟩
abbrev main_v487 : Ref sig .tc := ⟨.hbm, 675, rfl⟩
abbrev main_v488 : Ref sig .tc := ⟨.hbm, 676, rfl⟩
abbrev main_c_185 : Ref sig .tc := ⟨.hbm, 677, rfl⟩
abbrev main_v489 : Ref sig .tc := ⟨.hbm, 678, rfl⟩
abbrev main_v490 : Ref sig .tc := ⟨.hbm, 679, rfl⟩
abbrev main_v491 : Ref sig .tc := ⟨.hbm, 680, rfl⟩
abbrev main_v492 : Ref sig .tc := ⟨.hbm, 681, rfl⟩
abbrev main_v493 : Ref sig .tc := ⟨.hbm, 682, rfl⟩
abbrev main_v494 : Ref sig .tc := ⟨.hbm, 683, rfl⟩
abbrev main_c_186 : Ref sig .tc := ⟨.hbm, 684, rfl⟩
abbrev main_v495 : Ref sig .tc := ⟨.hbm, 685, rfl⟩
abbrev main_v496 : Ref sig .tc := ⟨.hbm, 686, rfl⟩
abbrev main_v497 : Ref sig .tc := ⟨.hbm, 687, rfl⟩
abbrev main_v498 : Ref sig .tc := ⟨.hbm, 688, rfl⟩
abbrev main_v499 : Ref sig .tc := ⟨.hbm, 689, rfl⟩
abbrev main_c_187 : Ref sig .tc := ⟨.hbm, 690, rfl⟩
abbrev main_v500 : Ref sig .tc := ⟨.hbm, 691, rfl⟩
abbrev main_v501 : Ref sig .tc := ⟨.hbm, 692, rfl⟩
abbrev main_v502 : Ref sig .tc := ⟨.hbm, 693, rfl⟩
abbrev main_v503 : Ref sig .tc := ⟨.hbm, 694, rfl⟩
abbrev main_v504 : Ref sig .tc := ⟨.hbm, 695, rfl⟩
abbrev main_c_188 : Ref sig .tc := ⟨.hbm, 696, rfl⟩
abbrev main_v505 : Ref sig .tc := ⟨.hbm, 697, rfl⟩
abbrev main_v506 : Ref sig .tc := ⟨.hbm, 698, rfl⟩
abbrev main_v507 : Ref sig .tc := ⟨.hbm, 699, rfl⟩
abbrev main_c_189 : Ref sig .tc := ⟨.hbm, 700, rfl⟩
abbrev main_v508 : Ref sig .tc := ⟨.hbm, 701, rfl⟩
abbrev main_v509 : Ref sig .tc := ⟨.hbm, 702, rfl⟩
abbrev main_v510 : Ref sig .tc := ⟨.hbm, 703, rfl⟩
abbrev main_v511 : Ref sig .tc := ⟨.hbm, 704, rfl⟩
abbrev main_v512 : Ref sig .tc := ⟨.hbm, 705, rfl⟩
abbrev main_v513 : Ref sig .tc := ⟨.hbm, 706, rfl⟩
abbrev main_v514 : Ref sig .tc := ⟨.hbm, 707, rfl⟩
abbrev main_v515 : Ref sig .tc := ⟨.hbm, 708, rfl⟩
abbrev main_v516 : Ref sig .tc := ⟨.hbm, 709, rfl⟩
abbrev main_c_190 : Ref sig .tc := ⟨.hbm, 710, rfl⟩
abbrev main_v517 : Ref sig .tc := ⟨.hbm, 711, rfl⟩
abbrev main_c_191 : Ref sig .tc := ⟨.hbm, 712, rfl⟩
abbrev main_v518 : Ref sig .tc := ⟨.hbm, 713, rfl⟩
abbrev main_c_192 : Ref sig .tc := ⟨.hbm, 714, rfl⟩
abbrev main_v519 : Ref sig .tc := ⟨.hbm, 715, rfl⟩
abbrev main_v520 : Ref sig .tc := ⟨.hbm, 716, rfl⟩
abbrev main_c_193 : Ref sig .tc := ⟨.hbm, 717, rfl⟩
abbrev main_c_194 : Ref sig .tc := ⟨.hbm, 718, rfl⟩
abbrev main_v521 : Ref sig .tc := ⟨.hbm, 719, rfl⟩
abbrev main_c_195 : Ref sig .tc := ⟨.hbm, 720, rfl⟩
abbrev main_c_196 : Ref sig .tc := ⟨.hbm, 721, rfl⟩
abbrev main_v522 : Ref sig .tc := ⟨.hbm, 722, rfl⟩
abbrev main_c_197 : Ref sig .tc := ⟨.hbm, 723, rfl⟩
abbrev main_v523 : Ref sig .tc := ⟨.hbm, 724, rfl⟩
abbrev main_v524 : Ref sig .tc := ⟨.hbm, 725, rfl⟩
abbrev main_c_198 : Ref sig .tc := ⟨.hbm, 726, rfl⟩
abbrev main_v525 : Ref sig .tc := ⟨.hbm, 727, rfl⟩
abbrev main_v526 : Ref sig .tc := ⟨.hbm, 728, rfl⟩
abbrev main_v527 : Ref sig .tc := ⟨.hbm, 729, rfl⟩
abbrev main_v528 : Ref sig .tc := ⟨.hbm, 730, rfl⟩
abbrev main_v529 : Ref sig .tc := ⟨.hbm, 731, rfl⟩
abbrev main_v530 : Ref sig .tc := ⟨.hbm, 732, rfl⟩
abbrev main_c_199 : Ref sig .tc := ⟨.hbm, 733, rfl⟩
abbrev main_v531 : Ref sig .tc := ⟨.hbm, 734, rfl⟩
abbrev main_v532 : Ref sig .tc := ⟨.hbm, 735, rfl⟩
abbrev main_v533 : Ref sig .tc := ⟨.hbm, 736, rfl⟩
abbrev main_v534 : Ref sig .tc := ⟨.hbm, 737, rfl⟩
abbrev main_v535 : Ref sig .tc := ⟨.hbm, 738, rfl⟩
abbrev main_c_200 : Ref sig .tc := ⟨.hbm, 739, rfl⟩
abbrev main_v536 : Ref sig .tc := ⟨.hbm, 740, rfl⟩
abbrev main_v537 : Ref sig .tc := ⟨.hbm, 741, rfl⟩
abbrev main_v538 : Ref sig .tc := ⟨.hbm, 742, rfl⟩
abbrev main_v539 : Ref sig .tc := ⟨.hbm, 743, rfl⟩
abbrev main_v540 : Ref sig .tc := ⟨.hbm, 744, rfl⟩
abbrev main_c_201 : Ref sig .tc := ⟨.hbm, 745, rfl⟩
abbrev main_v541 : Ref sig .tc := ⟨.hbm, 746, rfl⟩
abbrev main_v542 : Ref sig .tc := ⟨.hbm, 747, rfl⟩
abbrev main_v543 : Ref sig .tc := ⟨.hbm, 748, rfl⟩
abbrev main_c_202 : Ref sig .tc := ⟨.hbm, 749, rfl⟩
abbrev main_v544 : Ref sig .tc := ⟨.hbm, 750, rfl⟩
abbrev main_v545 : Ref sig .tc := ⟨.hbm, 751, rfl⟩
abbrev main_v546 : Ref sig .tc := ⟨.hbm, 752, rfl⟩
abbrev main_c_203 : Ref sig .tc := ⟨.hbm, 753, rfl⟩
abbrev main_v547 : Ref sig .tc := ⟨.hbm, 754, rfl⟩
abbrev main_v548 : Ref sig .tc := ⟨.hbm, 755, rfl⟩
abbrev main_c_204 : Ref sig .tc := ⟨.hbm, 756, rfl⟩
abbrev main_c_205 : Ref sig .tc := ⟨.hbm, 757, rfl⟩
abbrev main_v549 : Ref sig .tc := ⟨.hbm, 758, rfl⟩
abbrev main_c_206 : Ref sig .tc := ⟨.hbm, 759, rfl⟩
abbrev main_c_207 : Ref sig .tc := ⟨.hbm, 760, rfl⟩
abbrev main_v550 : Ref sig .tc := ⟨.hbm, 761, rfl⟩
abbrev main_c_208 : Ref sig .tc := ⟨.hbm, 762, rfl⟩
abbrev main_v551 : Ref sig .tc := ⟨.hbm, 763, rfl⟩
abbrev main_v552 : Ref sig .tc := ⟨.hbm, 764, rfl⟩
abbrev main_c_209 : Ref sig .tc := ⟨.hbm, 765, rfl⟩
abbrev main_v553 : Ref sig .tc := ⟨.hbm, 766, rfl⟩
abbrev main_v554 : Ref sig .tc := ⟨.hbm, 767, rfl⟩
abbrev main_v555 : Ref sig .tc := ⟨.hbm, 768, rfl⟩
abbrev main_v556 : Ref sig .tc := ⟨.hbm, 769, rfl⟩
abbrev main_v557 : Ref sig .tc := ⟨.hbm, 770, rfl⟩
abbrev main_v558 : Ref sig .tc := ⟨.hbm, 771, rfl⟩
abbrev main_c_210 : Ref sig .tc := ⟨.hbm, 772, rfl⟩
abbrev main_v559 : Ref sig .tc := ⟨.hbm, 773, rfl⟩
abbrev main_v560 : Ref sig .tc := ⟨.hbm, 774, rfl⟩
abbrev main_v561 : Ref sig .tc := ⟨.hbm, 775, rfl⟩
abbrev main_v562 : Ref sig .tc := ⟨.hbm, 776, rfl⟩
abbrev main_v563 : Ref sig .tc := ⟨.hbm, 777, rfl⟩
abbrev main_c_211 : Ref sig .tc := ⟨.hbm, 778, rfl⟩
abbrev main_v564 : Ref sig .tc := ⟨.hbm, 779, rfl⟩
abbrev main_v565 : Ref sig .tc := ⟨.hbm, 780, rfl⟩
abbrev main_v566 : Ref sig .tc := ⟨.hbm, 781, rfl⟩
abbrev main_v567 : Ref sig .tc := ⟨.hbm, 782, rfl⟩
abbrev main_v568 : Ref sig .tc := ⟨.hbm, 783, rfl⟩
abbrev main_c_212 : Ref sig .tc := ⟨.hbm, 784, rfl⟩
abbrev main_v569 : Ref sig .tc := ⟨.hbm, 785, rfl⟩
abbrev main_v570 : Ref sig .tc := ⟨.hbm, 786, rfl⟩
abbrev main_v571 : Ref sig .tc := ⟨.hbm, 787, rfl⟩
abbrev main_c_213 : Ref sig .tc := ⟨.hbm, 788, rfl⟩
abbrev main_v572 : Ref sig .tc := ⟨.hbm, 789, rfl⟩
abbrev main_v573 : Ref sig .tc := ⟨.hbm, 790, rfl⟩
abbrev main_v574 : Ref sig .tc := ⟨.hbm, 791, rfl⟩
abbrev main_v575 : Ref sig .tc := ⟨.hbm, 792, rfl⟩
abbrev main_v576 : Ref sig .tc := ⟨.hbm, 793, rfl⟩
abbrev main_v577 : Ref sig .tc := ⟨.hbm, 794, rfl⟩
abbrev main_v578 : Ref sig .tc := ⟨.hbm, 795, rfl⟩
abbrev main_v579 : Ref sig .tc := ⟨.hbm, 796, rfl⟩
abbrev main_v580 : Ref sig .tc := ⟨.hbm, 797, rfl⟩
abbrev main_c_214 : Ref sig .tc := ⟨.hbm, 798, rfl⟩
abbrev main_v581 : Ref sig .tc := ⟨.hbm, 799, rfl⟩
abbrev main_c_215 : Ref sig .tc := ⟨.hbm, 800, rfl⟩
abbrev main_v582 : Ref sig .tc := ⟨.hbm, 801, rfl⟩
abbrev main_c_216 : Ref sig .tc := ⟨.hbm, 802, rfl⟩
abbrev main_v583 : Ref sig .tc := ⟨.hbm, 803, rfl⟩
abbrev main_v584 : Ref sig .tc := ⟨.hbm, 804, rfl⟩
abbrev main_c_217 : Ref sig .tc := ⟨.hbm, 805, rfl⟩
abbrev main_c_218 : Ref sig .tc := ⟨.hbm, 806, rfl⟩
abbrev main_v585 : Ref sig .tc := ⟨.hbm, 807, rfl⟩
abbrev main_c_219 : Ref sig .tc := ⟨.hbm, 808, rfl⟩
abbrev main_c_220 : Ref sig .tc := ⟨.hbm, 809, rfl⟩
abbrev main_v586 : Ref sig .tc := ⟨.hbm, 810, rfl⟩
abbrev main_c_221 : Ref sig .tc := ⟨.hbm, 811, rfl⟩
abbrev main_v587 : Ref sig .tc := ⟨.hbm, 812, rfl⟩
abbrev main_v588 : Ref sig .tc := ⟨.hbm, 813, rfl⟩
abbrev main_c_222 : Ref sig .tc := ⟨.hbm, 814, rfl⟩
abbrev main_v589 : Ref sig .tc := ⟨.hbm, 815, rfl⟩
abbrev main_v590 : Ref sig .tc := ⟨.hbm, 816, rfl⟩
abbrev main_v591 : Ref sig .tc := ⟨.hbm, 817, rfl⟩
abbrev main_v592 : Ref sig .tc := ⟨.hbm, 818, rfl⟩
abbrev main_v593 : Ref sig .tc := ⟨.hbm, 819, rfl⟩
abbrev main_v594 : Ref sig .tc := ⟨.hbm, 820, rfl⟩
abbrev main_c_223 : Ref sig .tc := ⟨.hbm, 821, rfl⟩
abbrev main_v595 : Ref sig .tc := ⟨.hbm, 822, rfl⟩
abbrev main_v596 : Ref sig .tc := ⟨.hbm, 823, rfl⟩
abbrev main_v597 : Ref sig .tc := ⟨.hbm, 824, rfl⟩
abbrev main_v598 : Ref sig .tc := ⟨.hbm, 825, rfl⟩
abbrev main_v599 : Ref sig .tc := ⟨.hbm, 826, rfl⟩
abbrev main_c_224 : Ref sig .tc := ⟨.hbm, 827, rfl⟩
abbrev main_v600 : Ref sig .tc := ⟨.hbm, 828, rfl⟩
abbrev main_v601 : Ref sig .tc := ⟨.hbm, 829, rfl⟩
abbrev main_v602 : Ref sig .tc := ⟨.hbm, 830, rfl⟩
abbrev main_v603 : Ref sig .tc := ⟨.hbm, 831, rfl⟩
abbrev main_v604 : Ref sig .tc := ⟨.hbm, 832, rfl⟩
abbrev main_c_225 : Ref sig .tc := ⟨.hbm, 833, rfl⟩
abbrev main_v605 : Ref sig .tc := ⟨.hbm, 834, rfl⟩
abbrev main_v606 : Ref sig .tc := ⟨.hbm, 835, rfl⟩
abbrev main_v607 : Ref sig .tc := ⟨.hbm, 836, rfl⟩
abbrev main_c_226 : Ref sig .tc := ⟨.hbm, 837, rfl⟩
abbrev main_v608 : Ref sig .tc := ⟨.hbm, 838, rfl⟩
abbrev main_v609 : Ref sig .tc := ⟨.hbm, 839, rfl⟩
abbrev main_v610 : Ref sig .tc := ⟨.hbm, 840, rfl⟩
abbrev main_c_227 : Ref sig .tc := ⟨.hbm, 841, rfl⟩
abbrev main_v611 : Ref sig .tc := ⟨.hbm, 842, rfl⟩
abbrev main_v612 : Ref sig .tc := ⟨.hbm, 843, rfl⟩
abbrev main_c_228 : Ref sig .tc := ⟨.hbm, 844, rfl⟩
abbrev main_c_229 : Ref sig .tc := ⟨.hbm, 845, rfl⟩
abbrev main_v613 : Ref sig .tc := ⟨.hbm, 846, rfl⟩
abbrev main_c_230 : Ref sig .tc := ⟨.hbm, 847, rfl⟩
abbrev main_c_231 : Ref sig .tc := ⟨.hbm, 848, rfl⟩
abbrev main_v614 : Ref sig .tc := ⟨.hbm, 849, rfl⟩
abbrev main_c_232 : Ref sig .tc := ⟨.hbm, 850, rfl⟩
abbrev main_v615 : Ref sig .tc := ⟨.hbm, 851, rfl⟩
abbrev main_v616 : Ref sig .tc := ⟨.hbm, 852, rfl⟩
abbrev main_c_233 : Ref sig .tc := ⟨.hbm, 853, rfl⟩
abbrev main_v617 : Ref sig .tc := ⟨.hbm, 854, rfl⟩
abbrev main_v618 : Ref sig .tc := ⟨.hbm, 855, rfl⟩
abbrev main_v619 : Ref sig .tc := ⟨.hbm, 856, rfl⟩
abbrev main_v620 : Ref sig .tc := ⟨.hbm, 857, rfl⟩
abbrev main_v621 : Ref sig .tc := ⟨.hbm, 858, rfl⟩
abbrev main_v622 : Ref sig .tc := ⟨.hbm, 859, rfl⟩
abbrev main_c_234 : Ref sig .tc := ⟨.hbm, 860, rfl⟩
abbrev main_v623 : Ref sig .tc := ⟨.hbm, 861, rfl⟩
abbrev main_v624 : Ref sig .tc := ⟨.hbm, 862, rfl⟩
abbrev main_v625 : Ref sig .tc := ⟨.hbm, 863, rfl⟩
abbrev main_v626 : Ref sig .tc := ⟨.hbm, 864, rfl⟩
abbrev main_v627 : Ref sig .tc := ⟨.hbm, 865, rfl⟩
abbrev main_c_235 : Ref sig .tc := ⟨.hbm, 866, rfl⟩
abbrev main_v628 : Ref sig .tc := ⟨.hbm, 867, rfl⟩
abbrev main_v629 : Ref sig .tc := ⟨.hbm, 868, rfl⟩
abbrev main_v630 : Ref sig .tc := ⟨.hbm, 869, rfl⟩
abbrev main_v631 : Ref sig .tc := ⟨.hbm, 870, rfl⟩
abbrev main_v632 : Ref sig .tc := ⟨.hbm, 871, rfl⟩
abbrev main_c_236 : Ref sig .tc := ⟨.hbm, 872, rfl⟩
abbrev main_v633 : Ref sig .tc := ⟨.hbm, 873, rfl⟩
abbrev main_v634 : Ref sig .tc := ⟨.hbm, 874, rfl⟩
abbrev main_v635 : Ref sig .tc := ⟨.hbm, 875, rfl⟩
abbrev main_c_237 : Ref sig .tc := ⟨.hbm, 876, rfl⟩
abbrev main_v636 : Ref sig .tc := ⟨.hbm, 877, rfl⟩
abbrev main_v637 : Ref sig .tc := ⟨.hbm, 878, rfl⟩
abbrev main_v638 : Ref sig .tc := ⟨.hbm, 879, rfl⟩
abbrev main_v639 : Ref sig .tc := ⟨.hbm, 880, rfl⟩
abbrev main_v640 : Ref sig .tc := ⟨.hbm, 881, rfl⟩
abbrev main_v641 : Ref sig .tc := ⟨.hbm, 882, rfl⟩
abbrev main_v642 : Ref sig .tc := ⟨.hbm, 883, rfl⟩
abbrev main_v643 : Ref sig .tc := ⟨.hbm, 884, rfl⟩
abbrev main_v644 : Ref sig .tc := ⟨.hbm, 885, rfl⟩
abbrev main_v645 : Ref sig .tc := ⟨.hbm, 886, rfl⟩
abbrev main_v646 : Ref sig .tc := ⟨.hbm, 887, rfl⟩
abbrev main_v647 : Ref sig .tc := ⟨.hbm, 888, rfl⟩
abbrev main_v648 : Ref sig .tc := ⟨.hbm, 889, rfl⟩
abbrev main_v649 : Ref sig .tc := ⟨.hbm, 890, rfl⟩
abbrev main_v650 : Ref sig .tc := ⟨.hbm, 891, rfl⟩
abbrev main_v651 : Ref sig .tc := ⟨.hbm, 892, rfl⟩
abbrev main_v652 : Ref sig .tc := ⟨.hbm, 893, rfl⟩
abbrev main_v653 : Ref sig .tc := ⟨.hbm, 894, rfl⟩
abbrev main_cst : Ref sig .tc := ⟨.hbm, 895, rfl⟩
abbrev main_v654 : Ref sig .tc := ⟨.hbm, 896, rfl⟩
abbrev main_v655 : Ref sig .tc := ⟨.hbm, 897, rfl⟩
abbrev main_c_238 : Ref sig .tc := ⟨.hbm, 898, rfl⟩
abbrev main_v656 : Ref sig .tc := ⟨.hbm, 899, rfl⟩
abbrev main_v657 : Ref sig .tc := ⟨.hbm, 900, rfl⟩
abbrev main_c_239 : Ref sig .tc := ⟨.hbm, 901, rfl⟩
abbrev main_v658 : Ref sig .tc := ⟨.hbm, 902, rfl⟩
abbrev main_v659 : Ref sig .tc := ⟨.hbm, 903, rfl⟩
abbrev main_c_240 : Ref sig .tc := ⟨.hbm, 904, rfl⟩
abbrev main_v660 : Ref sig .tc := ⟨.hbm, 905, rfl⟩
abbrev main_v661 : Ref sig .tc := ⟨.hbm, 906, rfl⟩
abbrev main_v662 : Ref sig .tc := ⟨.hbm, 907, rfl⟩
abbrev main_v663 : Ref sig .tc := ⟨.hbm, 908, rfl⟩
abbrev main_v664 : Ref sig .tc := ⟨.hbm, 909, rfl⟩
abbrev main_v665 : Ref sig .tc := ⟨.hbm, 910, rfl⟩
abbrev main_v666 : Ref sig .tc := ⟨.hbm, 911, rfl⟩
abbrev main_v667 : Ref sig .tc := ⟨.hbm, 912, rfl⟩
abbrev main_v668 : Ref sig .tc := ⟨.hbm, 913, rfl⟩
abbrev main_c_241 : Ref sig .tc := ⟨.hbm, 914, rfl⟩
abbrev main_v669 : Ref sig .tc := ⟨.hbm, 915, rfl⟩
abbrev main_c_242 : Ref sig .tc := ⟨.hbm, 916, rfl⟩
abbrev main_v670 : Ref sig .tc := ⟨.hbm, 917, rfl⟩
abbrev main_v671 : Ref sig .tc := ⟨.hbm, 918, rfl⟩
abbrev main_cst_243 : Ref sig .tc := ⟨.hbm, 919, rfl⟩
abbrev main_v672 : Ref sig .tc := ⟨.hbm, 920, rfl⟩
abbrev main_v673 : Ref sig .tc := ⟨.hbm, 921, rfl⟩
abbrev main_c_244 : Ref sig .tc := ⟨.hbm, 922, rfl⟩
abbrev main_v674 : Ref sig .tc := ⟨.hbm, 923, rfl⟩
abbrev main_v675 : Ref sig .tc := ⟨.hbm, 924, rfl⟩
abbrev main_c_245 : Ref sig .tc := ⟨.hbm, 925, rfl⟩
abbrev main_call0_v0 : Ref sig .tc := ⟨.hbm, 926, rfl⟩
abbrev main_call0_v1 : Ref sig .tc := ⟨.hbm, 927, rfl⟩
abbrev main_v676 : Ref sig .tc := ⟨.hbm, 928, rfl⟩
abbrev main_c_246 : Ref sig .tc := ⟨.hbm, 929, rfl⟩
abbrev main_v677 : Ref sig .tc := ⟨.hbm, 930, rfl⟩
abbrev main_v678 : Ref sig .tc := ⟨.hbm, 931, rfl⟩
abbrev main_v679 : Ref sig .tc := ⟨.hbm, 932, rfl⟩
abbrev main_v680 : Ref sig .tc := ⟨.hbm, 933, rfl⟩
abbrev main_c_247 : Ref sig .tc := ⟨.hbm, 934, rfl⟩
abbrev main_v681 : Ref sig .tc := ⟨.hbm, 935, rfl⟩
abbrev main_v682 : Ref sig .tc := ⟨.hbm, 936, rfl⟩
abbrev main_c_248 : Ref sig .tc := ⟨.hbm, 937, rfl⟩
abbrev main_v683 : Ref sig .tc := ⟨.hbm, 938, rfl⟩
abbrev main_v684 : Ref sig .tc := ⟨.hbm, 939, rfl⟩
abbrev main_v685 : Ref sig .tc := ⟨.hbm, 940, rfl⟩
abbrev main_v686 : Ref sig .tc := ⟨.hbm, 941, rfl⟩
abbrev main_cst_249 : Ref sig .tc := ⟨.hbm, 942, rfl⟩
abbrev main_v687 : Ref sig .tc := ⟨.hbm, 943, rfl⟩
abbrev main_v688 : Ref sig .tc := ⟨.hbm, 944, rfl⟩
abbrev main_v689 : Ref sig .tc := ⟨.hbm, 945, rfl⟩
abbrev main_v690 : Ref sig .tc := ⟨.hbm, 946, rfl⟩
abbrev main_v691 : Ref sig .tc := ⟨.hbm, 947, rfl⟩
abbrev main_cst_250 : Ref sig .tc := ⟨.hbm, 948, rfl⟩
abbrev main_v692 : Ref sig .tc := ⟨.hbm, 949, rfl⟩
abbrev main_v693 : Ref sig .tc := ⟨.hbm, 950, rfl⟩
abbrev main_v694 : Ref sig .tc := ⟨.hbm, 951, rfl⟩
abbrev main_cst_251 : Ref sig .tc := ⟨.hbm, 952, rfl⟩
abbrev main_v695 : Ref sig .tc := ⟨.hbm, 953, rfl⟩
abbrev main_v696 : Ref sig .tc := ⟨.hbm, 954, rfl⟩
abbrev main_v697 : Ref sig .tc := ⟨.hbm, 955, rfl⟩
abbrev main_cst_252 : Ref sig .tc := ⟨.hbm, 956, rfl⟩
abbrev main_v698 : Ref sig .tc := ⟨.hbm, 957, rfl⟩
abbrev main_v699 : Ref sig .tc := ⟨.hbm, 958, rfl⟩
abbrev main_cst_253 : Ref sig .tc := ⟨.hbm, 959, rfl⟩
abbrev main_v700 : Ref sig .tc := ⟨.hbm, 960, rfl⟩
abbrev main_v701 : Ref sig .tc := ⟨.hbm, 961, rfl⟩
abbrev main_cst_254 : Ref sig .tc := ⟨.hbm, 962, rfl⟩
abbrev main_v702 : Ref sig .tc := ⟨.hbm, 963, rfl⟩
abbrev main_v703 : Ref sig .tc := ⟨.hbm, 964, rfl⟩
abbrev main_cst_255 : Ref sig .tc := ⟨.hbm, 965, rfl⟩
abbrev main_call1_v0 : Ref sig .tc := ⟨.hbm, 966, rfl⟩
abbrev main_v704 : Ref sig .tc := ⟨.hbm, 967, rfl⟩
abbrev main_v705 : Ref sig .tc := ⟨.hbm, 968, rfl⟩
abbrev main_cst_256 : Ref sig .tc := ⟨.hbm, 969, rfl⟩
abbrev main_v706 : Ref sig .tc := ⟨.hbm, 970, rfl⟩
abbrev main_v707 : Ref sig .tc := ⟨.hbm, 971, rfl⟩
abbrev main_v708 : Ref sig .tc := ⟨.hbm, 972, rfl⟩
abbrev main_cst_257 : Ref sig .tc := ⟨.hbm, 973, rfl⟩
abbrev main_v709 : Ref sig .tc := ⟨.hbm, 974, rfl⟩
abbrev main_v710 : Ref sig .tc := ⟨.hbm, 975, rfl⟩
abbrev main_cst_258 : Ref sig .tc := ⟨.hbm, 976, rfl⟩
abbrev main_v711 : Ref sig .tc := ⟨.hbm, 977, rfl⟩
abbrev main_v712 : Ref sig .tc := ⟨.hbm, 978, rfl⟩
abbrev main_v713 : Ref sig .tc := ⟨.hbm, 979, rfl⟩
abbrev main_cst_259 : Ref sig .tc := ⟨.hbm, 980, rfl⟩
abbrev main_v714 : Ref sig .tc := ⟨.hbm, 981, rfl⟩
abbrev main_v715 : Ref sig .tc := ⟨.hbm, 982, rfl⟩
abbrev main_cst_260 : Ref sig .tc := ⟨.hbm, 983, rfl⟩
abbrev main_v716 : Ref sig .tc := ⟨.hbm, 984, rfl⟩
abbrev main_v717 : Ref sig .tc := ⟨.hbm, 985, rfl⟩
abbrev main_v718 : Ref sig .tc := ⟨.hbm, 986, rfl⟩
abbrev main_v719 : Ref sig .tc := ⟨.hbm, 987, rfl⟩
abbrev main_v720 : Ref sig .tc := ⟨.hbm, 988, rfl⟩
abbrev main_c_261 : Ref sig .tc := ⟨.hbm, 989, rfl⟩
abbrev main_v721 : Ref sig .tc := ⟨.hbm, 990, rfl⟩
abbrev main_v722 : Ref sig .tc := ⟨.hbm, 991, rfl⟩
abbrev main_v723 : Ref sig .tc := ⟨.hbm, 992, rfl⟩
abbrev main_cst_262 : Ref sig .tc := ⟨.hbm, 993, rfl⟩
abbrev main_v724 : Ref sig .tc := ⟨.hbm, 994, rfl⟩
abbrev main_v725 : Ref sig .tc := ⟨.hbm, 995, rfl⟩
abbrev main_v726 : Ref sig .tc := ⟨.hbm, 996, rfl⟩
abbrev main_v727 : Ref sig .tc := ⟨.hbm, 997, rfl⟩
abbrev main_v728 : Ref sig .tc := ⟨.hbm, 998, rfl⟩
abbrev main_v729 : Ref sig .tc := ⟨.hbm, 999, rfl⟩
abbrev main_cst_263 : Ref sig .tc := ⟨.hbm, 1000, rfl⟩
abbrev main_v730 : Ref sig .tc := ⟨.hbm, 1001, rfl⟩
abbrev main_v731 : Ref sig .tc := ⟨.hbm, 1002, rfl⟩
abbrev main_c_264 : Ref sig .tc := ⟨.hbm, 1003, rfl⟩
abbrev main_v732 : Ref sig .tc := ⟨.hbm, 1004, rfl⟩
abbrev main_v733 : Ref sig .tc := ⟨.hbm, 1005, rfl⟩
abbrev main_v734 : Ref sig .tc := ⟨.hbm, 1006, rfl⟩
abbrev main_v735 : Ref sig .tc := ⟨.hbm, 1007, rfl⟩
abbrev main_v736 : Ref sig .tc := ⟨.hbm, 1008, rfl⟩
abbrev main_v737 : Ref sig .tc := ⟨.hbm, 1009, rfl⟩
abbrev main_v738 : Ref sig .tc := ⟨.hbm, 1010, rfl⟩
abbrev main_v739 : Ref sig .tc := ⟨.hbm, 1011, rfl⟩
abbrev main_c_265 : Ref sig .tc := ⟨.hbm, 1012, rfl⟩
abbrev main_v740 : Ref sig .tc := ⟨.hbm, 1013, rfl⟩
abbrev main_v741 : Ref sig .tc := ⟨.hbm, 1014, rfl⟩
abbrev main_v742 : Ref sig .tc := ⟨.hbm, 1015, rfl⟩
abbrev main_v743 : Ref sig .tc := ⟨.hbm, 1016, rfl⟩
abbrev main_v744 : Ref sig .tc := ⟨.hbm, 1017, rfl⟩
abbrev main_cst_266 : Ref sig .tc := ⟨.hbm, 1018, rfl⟩
abbrev main_v745 : Ref sig .tc := ⟨.hbm, 1019, rfl⟩
abbrev main_v746 : Ref sig .tc := ⟨.hbm, 1020, rfl⟩
abbrev main_cst_267 : Ref sig .tc := ⟨.hbm, 1021, rfl⟩
abbrev main_v747 : Ref sig .tc := ⟨.hbm, 1022, rfl⟩

abbrev nD : Nat := 1
abbrev τ : Topo := Topo.v7x

variable {F : FTy → Type} [FloatOps F]
-- ==== Proof.FrameKernel.lean ====
/- The frame of `Kernel`: the program terminates without a fault, its two arguments end unchanged and every semaphore
   counter ends at zero. The kernel's two nested counted loops are gone through by invariants: the inner one's is
   generated, the outer one's (below) keeps the blocks that are read and says of each buffer written only that it is held. -/
module

public import proofs.«01_k».proof.Proof.Gen.Kernel.Loops
public import proofs.«01_k».proof.Proof.Gen.Kernel.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose)

variable {F : FTy → Type} [BitOps F]

local notation "𝕄" => MT nD τ sig Unit (Elt F) ℕ (UR sig nD τ) ℕ

/-- A buffer held whole at some contents. -/
abbrev heldAny (c : Dev nD) {sp : Space} {S : Shape} {e : EltTy} (M : Memref sig .tc sp S e) : sProp 𝕄 :=
  iprop(∃ f, M.view.loc (c : Thread nD τ) ↦[M.view.set]{fullShare} f)

set_option maxHeartbeats 1600000 in
set_option warn.classDefReducibility false in
/-- The outer loop: the input block and the permutation stay as they are, every buffer written stays held. -/
@[sl_loop] def loopInv_k0_t1 (c : Dev nD) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole) (arg0 : BitVec 32) (v0 : Elt F .i32) (v1 : Elt F .i32) (v2 : IVec S8x128 32)
    (X2 : BufTy.Contents (Elt F) arg2.view.ty) (X3 : BufTy.Contents (Elt F) arg3.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg0 v0 v1 v2 where
  inv := fun _ _ => iprop((arg2.view.loc (c : Thread nD τ) ↦[arg2.view.set]{fullShare} X2)
    ∗ (arg3.view.loc (c : Thread nD τ) ↦[arg3.view.set]{fullShare} X3)
    ∗ heldAny c arg4 ∗ heldAny c arg5 ∗ heldAny c arg6 ∗ heldAny c arg7 ∗ heldAny c arg8 ∗ heldAny c arg9)
  step := fun k acc => by
    unfold k0_t1_body
    iintro ⟨H2, H3, ⟨%f4, H4⟩, ⟨%f5, H5⟩, ⟨%f6, H6⟩, ⟨%f7, H7⟩, ⟨%f8, H8⟩, ⟨%f9, H9⟩⟩
    sl_exec
    sl_step
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

set_option maxHeartbeats 1600000 in
/-- The kernel's body on whole buffers: it runs to its end with the inputs as they were and the other buffers held. -/
theorem sound_kernel (c : Dev nD) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole)
    (x1 : Vec F S2 .i32) (x2 : Vec F S128x20480 .bf16) (x3 : Vec F S512x512 .bf16) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) Set.univ (cc0_quant i arg1 harg1 arg2 harg2 arg3 harg3 arg4 harg4 arg5 harg5 arg6 harg6 arg7 harg7 arg8 harg8 arg9 harg9) K := by
  simp only [cc0_quant_eq_skeleton]; unfold cc0_quant_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf1 hf2 hf3
  by_cases hc : Scalar.cmpi .ne (Scalar.extui (Scalar.cmpi .eq (BitVec.ofNat 32 (i 0).val) 0#32) : BitVec 32) 0#32 = 1#1
  all_goals
    sl_exec (disch := sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; iexists _; isplitr; swap; (· iexact H4); ipureintro; rfl
    isplitl [H5]
    · iexists _; iexists _; isplitr; swap; (· iexact H5); ipureintro; rfl
    isplitl [H6]
    · iexists _; iexists _; isplitr; swap; (· iexact H6); ipureintro; rfl
    isplitl [H7]
    · iexists _; iexists _; isplitr; swap; (· iexact H7); ipureintro; rfl
    isplitl [H8]
    · iexists _; iexists _; isplitr; swap; (· iexact H8); ipureintro; rfl
    iexists _; iexists _; isplitr; swap; (· iexact H9); ipureintro; rfl

/-! ## The pipeline's proof data: the inputs at their blocks, the outputs not named -/

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
    | ⟨4, _⟩ => Dat.unnamed (cfg := cfg0) 4 t
    | ⟨5, _⟩ => Dat.unnamed (cfg := cfg0) 5 t
    | ⟨6, _⟩ => Dat.unnamed (cfg := cfg0) 6 t
  Φ _ := Pipeline.ΦA spec0 c
  q _ := fullShare
  owed _ := 0

/-- The outputs are the windows nothing is said of. -/
def fgt : Fin cfg0.W → Bool := fun w => decide (3 ≤ w.val)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The two scratch buffers as the launch hands them over, and the generator register. -/
theorem phi_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)) ∗ ∃ r, prngReg c r) := by
  unfold Pipeline.ΦA; rw [scopedRest0_eq]; simp only [owns_whole]

/-- What the body is called with at a point, window by window, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, phi_eq]
  iintro ⟨⟨⟨H8, H9⟩, Hr⟩, Ho, ⟨%d0, H0⟩, ⟨%d1, H1⟩, ⟨%d2, H2⟩, H3, H4, H5, H6⟩
  iapply (sound_kernel c (grid0.coords t) _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro ⟨H0, H1, H2, H3, H4, H5, H6, H8, H9⟩
  isplitl [H8 H9 Hr]
  · isplitl [H8 H9]
    · isplitl [H8]; · iexact H8
      iexact H9
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run -/

/-- The buffers the host lines after the kernel write. -/
def T : Finset (Ref sig .tc) := {main_v20, main_v21, main_v22, main_v23, main_v24, main_cst}

theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals
    intro b hb
    simp only [StableHlo.nullary_writes, StableHlo.unary_writes, StableHlo.binary_writes, StableHlo.ternary_writes, StableHlo.quaternary_writes, StableHlo.reshape_writes, StableHlo.binaryIndexed_writes, Finset.mem_singleton] at hb
    have := Proc.devRef_injective .tc hb
    subst this; decide

set_option backward.isDefEq.respectTransparency.types false in
theorem run_main_quiescent : θ_run defs (onTc (τ := τ) (main (F := F))) (s₀ m ρ) (fun r =>
    RDat.FramePostR cfg0 (fun c => (dats m 0 c).toRForget fgt) T (fun c b => V0 m c (Proc.devRef .tc b)) r ∧ r.2.sem = fun _ => 0) :=
  Pipeline.θ_run_frame_around_T_forget (Q' := _) cfgs (dats m) (0 : Fin 1) launch0 defs₀ Variants.none fgt T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (V_main_arg0 m c),
      (((dats m 0 c).toRForget_arrAt_iff (fgt := fgt) (w := 0) (by decide) _ _).mp ((h.1 c).1 0)).trans (((dats m 0 c).arrAt_in 0 rfl _).trans ((A_eq m c 0).trans (V_main_arg1 m c)))⟩, h.2⟩)
    (run_main_quiescent m ρ)

end Cert.Proof.Kernel

end
-- ==== Proof.FrameKernelIdeal.lean ====
/- The frame of `KernelIdeal`: the program terminates without a fault, its two arguments end unchanged and every semaphore
   counter ends at zero. The kernel's two nested counted loops are gone through by invariants: the inner one's is
   generated, the outer one's (below) keeps the blocks that are read and says of each buffer written only that it is held. -/
module

public import proofs.«01_k».proof.Proof.Gen.KernelIdeal.Loops
public import proofs.«01_k».proof.Proof.Gen.KernelIdeal.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose)

variable {F : FTy → Type} [FloatOps F]

local notation "𝕄" => MT nD τ sig Unit (Elt F) ℕ (UR sig nD τ) ℕ

/-- A buffer held whole at some contents. -/
abbrev heldAny (c : Dev nD) {sp : Space} {S : Shape} {e : EltTy} (M : Memref sig .tc sp S e) : sProp 𝕄 :=
  iprop(∃ f, M.view.loc (c : Thread nD τ) ↦[M.view.set]{fullShare} f)

set_option maxHeartbeats 1600000 in
set_option warn.classDefReducibility false in
/-- The outer loop: the input block and the permutation stay as they are, every buffer written stays held. -/
@[sl_loop] def loopInv_k0_t1 (c : Dev nD) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole) (arg0 : BitVec 32) (v0 : Elt F .i32) (v1 : Elt F .i32) (v2 : IVec S8x128 32)
    (X2 : BufTy.Contents (Elt F) arg2.view.ty) (X3 : BufTy.Contents (Elt F) arg3.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg0 v0 v1 v2 where
  inv := fun _ _ => iprop((arg2.view.loc (c : Thread nD τ) ↦[arg2.view.set]{fullShare} X2)
    ∗ (arg3.view.loc (c : Thread nD τ) ↦[arg3.view.set]{fullShare} X3)
    ∗ heldAny c arg4 ∗ heldAny c arg5 ∗ heldAny c arg6 ∗ heldAny c arg7 ∗ heldAny c arg8 ∗ heldAny c arg9)
  step := fun k acc => by
    unfold k0_t1_body
    iintro ⟨H2, H3, ⟨%f4, H4⟩, ⟨%f5, H5⟩, ⟨%f6, H6⟩, ⟨%f7, H7⟩, ⟨%f8, H8⟩, ⟨%f9, H9⟩⟩
    sl_exec
    sl_step
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

set_option maxHeartbeats 1600000 in
/-- The kernel's body on whole buffers: it runs to its end with the inputs as they were and the other buffers held. -/
theorem sound_kernel (c : Dev nD) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole)
    (x1 : Vec F S2 .i32) (x2 : Vec F S128x20480 .bf16) (x3 : Vec F S512x512 .bf16) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) Set.univ (cc0_quant i arg1 harg1 arg2 harg2 arg3 harg3 arg4 harg4 arg5 harg5 arg6 harg6 arg7 harg7 arg8 harg8 arg9 harg9) K := by
  simp only [cc0_quant_eq_skeleton]; unfold cc0_quant_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf1 hf2 hf3
  by_cases hc : Scalar.cmpi .ne (Scalar.extui (Scalar.cmpi .eq (BitVec.ofNat 32 (i 0).val) 0#32) : BitVec 32) 0#32 = 1#1
  all_goals
    sl_exec (disch := sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; iexists _; isplitr; swap; (· iexact H4); ipureintro; rfl
    isplitl [H5]
    · iexists _; iexists _; isplitr; swap; (· iexact H5); ipureintro; rfl
    isplitl [H6]
    · iexists _; iexists _; isplitr; swap; (· iexact H6); ipureintro; rfl
    isplitl [H7]
    · iexists _; iexists _; isplitr; swap; (· iexact H7); ipureintro; rfl
    isplitl [H8]
    · iexists _; iexists _; isplitr; swap; (· iexact H8); ipureintro; rfl
    iexists _; iexists _; isplitr; swap; (· iexact H9); ipureintro; rfl

/-! ## The pipeline's proof data: the inputs at their blocks, the outputs not named -/

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
    | ⟨4, _⟩ => Dat.unnamed (cfg := cfg0) 4 t
    | ⟨5, _⟩ => Dat.unnamed (cfg := cfg0) 5 t
    | ⟨6, _⟩ => Dat.unnamed (cfg := cfg0) 6 t
  Φ _ := Pipeline.ΦA spec0 c
  q _ := fullShare
  owed _ := 0

/-- The outputs are the windows nothing is said of. -/
def fgt : Fin cfg0.W → Bool := fun w => decide (3 ≤ w.val)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The two scratch buffers as the launch hands them over, and the generator register. -/
theorem phi_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)) ∗ ∃ r, prngReg c r) := by
  unfold Pipeline.ΦA; rw [scopedRest0_eq]; simp only [owns_whole]

/-- What the body is called with at a point, window by window, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, phi_eq]
  iintro ⟨⟨⟨H8, H9⟩, Hr⟩, Ho, ⟨%d0, H0⟩, ⟨%d1, H1⟩, ⟨%d2, H2⟩, H3, H4, H5, H6⟩
  iapply (sound_kernel c (grid0.coords t) _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro ⟨H0, H1, H2, H3, H4, H5, H6, H8, H9⟩
  isplitl [H8 H9 Hr]
  · isplitl [H8 H9]
    · isplitl [H8]; · iexact H8
      iexact H9
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run -/

/-- The buffers the host lines after the kernel write. -/
def T : Finset (Ref sig .tc) := {main_v20, main_v21, main_v22, main_v23, main_v24, main_cst}

theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals
    intro b hb
    simp only [StableHlo.nullary_writes, StableHlo.unary_writes, StableHlo.binary_writes, StableHlo.ternary_writes, StableHlo.quaternary_writes, StableHlo.reshape_writes, StableHlo.binaryIndexed_writes, Finset.mem_singleton] at hb
    have := Proc.devRef_injective .tc hb
    subst this; decide

set_option backward.isDefEq.respectTransparency.types false in
theorem run_main_quiescent : θ_run defs (onTc (τ := τ) (main (F := F))) (s₀ m ρ) (fun r =>
    RDat.FramePostR cfg0 (fun c => (dats m 0 c).toRForget fgt) T (fun c b => V0 m c (Proc.devRef .tc b)) r ∧ r.2.sem = fun _ => 0) :=
  Pipeline.θ_run_frame_around_T_forget (Q' := _) cfgs (dats m) (0 : Fin 1) launch0 defs₀ Variants.none fgt T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (V_main_arg0 m c),
      (((dats m 0 c).toRForget_arrAt_iff (fgt := fgt) (w := 0) (by decide) _ _).mp ((h.1 c).1 0)).trans (((dats m 0 c).arrAt_in 0 rfl _).trans ((A_eq m c 0).trans (V_main_arg1 m c)))⟩, h.2⟩)
    (run_main_quiescent m ρ)

end Cert.Proof.KernelIdeal

end
-- ==== Proof.Tile.lean ====
/- The kernel's arithmetic on one slab of eight rows, written as functions: the generator's words, the group maximum,
   the exponent, the code bytes. The generated trip of the inner loop spells the same operations out slab by slab. -/
module

public import proofs.«01_k».proof.Proof.Gen.KernelIdeal.Loops

@[expose] public section

noncomputable section

namespace Cert.Proof.Tile

open Cert.KernelIdeal Cert.KernelIdeal.Gen
open Idealize.ShloMosaic Idealize.ShloMosaic.TcCoe

variable {F : FTy → Type} [FloatOps F]

/-- A word on every lane. -/
abbrev bc (w : BitVec 32) : IVec S8x128 32 := broadcast S8x128 w

/-! ## The generator -/

def hi0 (x : IVec S8x128 32) : IVec S8x128 32 :=
  addi (muli (bc 53841#32) (shrui x (bc 16#32)))
    (shrui (addi (muli (bc 53841#32) (andi x (bc 65535#32)))
      (addi (muli (bc 8019#32) (shrui x (bc 16#32))) (shrui (muli (bc 8019#32) (andi x (bc 65535#32))) (bc 16#32)))) (bc 16#32))
def lo0 (x : IVec S8x128 32) : IVec S8x128 32 := muli (bc 3528531795#32) x
def hi1 (x : IVec S8x128 32) : IVec S8x128 32 :=
  addi (muli (bc 52638#32) (shrui x (bc 16#32)))
    (shrui (addi (muli (bc 26319#32) (andi x (bc 65535#32)))
      (shrui (addi (muli (bc 36183#32) (shrui x (bc 16#32))) (shrui (muli (bc 36183#32) (andi x (bc 65535#32))) (bc 16#32))) (bc 1#32)))
      (bc 15#32))
def lo1 (x : IVec S8x128 32) : IVec S8x128 32 := muli (bc 3449720151#32) x

/-- The high half of the first multiplier times a scalar word. -/
def shi0 (x : BitVec 32) : BitVec 32 :=
  Scalar.addi (Scalar.muli 53841#32 (Scalar.shrui x 16#32))
    (Scalar.shrui (Scalar.addi (Scalar.muli 53841#32 (Scalar.andi x 65535#32))
      (Scalar.addi (Scalar.muli 8019#32 (Scalar.shrui x 16#32)) (Scalar.shrui (Scalar.muli 8019#32 (Scalar.andi x 65535#32)) 16#32))) 16#32)
def slo0 (x : BitVec 32) : BitVec 32 := Scalar.muli 3528531795#32 x

/-- The round keys. -/
def key0 (k : BitVec 32) : ℕ → BitVec 32
  | 0 => k
  | n + 1 => Scalar.addi (key0 k n) 2654435769#32
def key1 (k : BitVec 32) : ℕ → BitVec 32
  | 0 => k
  | n + 1 => Scalar.addi (key1 k n) 3144134277#32

/-- The counter's four words. -/
structure Ctr where
  c0 : IVec S8x128 32
  c1 : IVec S8x128 32
  c2 : IVec S8x128 32
  c3 : IVec S8x128 32

def round (a b : BitVec 32) (c : Ctr) : Ctr :=
  ⟨xori (hi1 c.c2) (xori c.c1 (bc a)), lo1 c.c2, xori (hi0 c.c0) (xori c.c3 (bc b)), lo0 c.c0⟩

/-- The counter after two rounds, the first two rounds' constant parts taken once for the whole slab. -/
def two (a b : BitVec 32) (n : IVec S8x128 32) : Ctr :=
  let x := xori (hi0 n) (bc b)
  let y := xori (hi1 x) (bc (key0 a 1))
  let z := xori (lo0 n) (bc (Scalar.xori (shi0 a) (key1 b 1)))
  ⟨xori (hi1 z) (xori (lo1 x) (bc (key0 a 2))), lo1 z, xori (hi0 y) (bc (Scalar.xori (slo0 a) (key1 b 2))), lo0 y⟩

def three (a b : BitVec 32) (n : IVec S8x128 32) : Ctr := round (key0 a 3) (key1 b 3) (two a b n)
def four (a b : BitVec 32) (n : IVec S8x128 32) : Ctr := round (key0 a 4) (key1 b 4) (three a b n)
def five (a b : BitVec 32) (n : IVec S8x128 32) : Ctr := round (key0 a 5) (key1 b 5) (four a b n)
def six (a b : BitVec 32) (n : IVec S8x128 32) : Ctr := round (key0 a 6) (key1 b 6) (five a b n)
def seven (a b : BitVec 32) (n : IVec S8x128 32) : Ctr := round (key0 a 7) (key1 b 7) (six a b n)
def eight (a b : BitVec 32) (n : IVec S8x128 32) : Ctr := round (key0 a 8) (key1 b 8) (seven a b n)
/-- The ten rounds, the last round's keys complemented. -/
def words (a b : BitVec 32) (n : IVec S8x128 32) : Ctr :=
  round (Scalar.xori (key0 a 9) 4294967295#32) (Scalar.xori (key1 b 9) 4294967295#32) (eight a b n)

/-! ## The group maximum and its exponent -/

/-- The lanes gathered at an index vector, the index first brought into range. -/
def gather (v : FVec F S8x128 .f32) (idx : IVec S8x128 32) : FVec F S8x128 .f32 :=
  dynamicGather 1 v (shapeCast S8x128 (shapeCast S8x128x1
    (select (cmpi .slt idx (bc 0#32)) (addi idx (bc 128#32)) idx) shapeCasts_S8x128_S8x128x1) shapeCasts_S8x128x1_S8x128)

def maxStep (lane : IVec S8x128 32) (b : BitVec 32) (m : FVec F S8x128 .f32) : FVec F S8x128 .f32 :=
  maximumf m (gather m (xori lane (bc b)))

def groupMax (lane : IVec S8x128 32) (y0 y1 y2 y3 : FVec F S8x128 .f32) : FVec F S8x128 .f32 :=
  maxStep lane 8#32 (maxStep lane 4#32 (maxStep lane 2#32
    (maximumf (maximumf (absf y0) (absf y1)) (maximumf (absf y2) (absf y3)))))

def expStep (m : FVec F S8x128 .f32) (b : BitVec 32) (e : IVec S8x128 32) : IVec S8x128 32 :=
  select (cmpf .oge m (bitcastToFloat .f32 (addi e (bc b)))) (addi e (bc b)) e

def expBits (m : FVec F S8x128 .f32) : IVec S8x128 32 :=
  expStep m 8388608#32 (expStep m 16777216#32 (expStep m 33554432#32 (expStep m 67108864#32 (expStep m 134217728#32
    (expStep m 268435456#32 (expStep m 536870912#32 (expStep m 1073741824#32 (bc 0#32))))))))

def scaleOf (m : FVec F S8x128 .f32) : FVec F S8x128 .f32 :=
  bitcastToFloat .f32 (subi (bc 2160066560#32) (expBits m))

/-! ## The code bytes -/

abbrev fc (w : BitVec 32) : FVec F S8x128 .f32 := broadcast S8x128 (Scalar.ofBits .f32 w : F .f32)

def fracOf (q : FVec F S8x128 .f32) : IVec S8x128 32 :=
  select (cmpf .olt q (fc 0x40800000#32))
    (shli (fptosi 32 (roundeven (ceil (mulf q (fc 0x4B000000#32))))) (bc 4#32))
    (shli (addi
      (fptosi 32 (roundeven (ceil (mulf q (select (cmpf .olt q (fc 0x41000000#32)) (fc 0x4B000000#32)
        (select (cmpf .olt q (fc 0x41800000#32)) (fc 0x4A800000#32) (fc 0x4A000000#32)))))))
      (select (cmpf .olt q (fc 0x41000000#32)) (bc 0#32)
        (select (cmpf .olt q (fc 0x41800000#32)) (bc 33554432#32) (bc 67108864#32)))) (bc 4#32))

def codeFrac (y s : FVec F S8x128 .f32) : IVec S8x128 32 := fracOf (mulf (absf y) s)

def dither (y : FVec F S8x128 .f32) (w : IVec S8x128 32) : IVec S8x128 32 :=
  ori (shrui w (bc 4#32))
    (select (cmpf .olt y (constant S8x128 .f32 0x00000000#32)) (bc 2147483648#32) (bc 0#32))

def byteOf (y0 y1 s : FVec F S8x128 .f32) (nw0 w1 : IVec S8x128 32) : IVec S8x128 32 :=
  shrui (subi (shrui (addi (codeFrac y0 s) (dither y0 nw0)) (bc 4#32))
    (andi (subi (dither y1 w1) (codeFrac y1 s)) (bc 4026531840#32))) (bc 24#32)

/-! ## One trip: sixteen slabs of eight rows, four groups of four slabs -/

/-- The column tile's number, and the slot inside its scale tile. -/
def slotOf (k : Fin k0_t2_loop.trips) : BitVec 32 := Scalar.addi 0#32 (Scalar.muli (Scf.iv 0#32 1#32 k) 1#32)
def pairOf (v32 : BitVec 32) (k : Fin k0_t2_loop.trips) : BitVec 32 := Scalar.addi (Scalar.muli v32 8#32) (slotOf k)

/-- The generator's call numbers on slab `g`. -/
def calls (arg0 : BitVec 32) (v17 : IVec S8x128 32) (u : BitVec 32) (g : Fin 16) : IVec S8x128 32 :=
  addi v17 (bc (Scalar.addi (Scalar.muli (Scalar.addi (Scalar.muli arg0 128#32) (BitVec.ofNat 32 (8 * g.val))) 5120#32)
    (Scalar.muli u 128#32)))

section Slab

variable (T : Fin 16 → Fin 4 → FVec F S8x128 .f32) (lane : IVec S8x128 32)

def slabMax (g : Fin 16) : FVec F S8x128 .f32 := groupMax lane (T g 0) (T g 1) (T g 2) (T g 3)

def loByte (v0 v1 : BitVec 32) (n : Fin 16 → IVec S8x128 32) (g : Fin 16) : IVec S8x128 32 :=
  byteOf (T g 0) (T g 1) (scaleOf (slabMax T lane g)) (words v0 v1 (n g)).c0 (words v0 v1 (n g)).c1
def hiByte (v0 v1 : BitVec 32) (n : Fin 16 → IVec S8x128 32) (g : Fin 16) : IVec S8x128 32 :=
  byteOf (T g 2) (T g 3) (scaleOf (slabMax T lane g)) (words v0 v1 (n g)).c2 (words v0 v1 (n g)).c3

/-- The group maxima a slab puts into its slot's sixteen lanes. -/
def slabKeep (v26 : IVec S8x128 32) (slot : BitVec 32) (old : Vec F S8x128 .f32) (g : Fin 16) : FVec F S8x128 .f32 :=
  shapeCast S8x128 (select (cmpi .eq (shrsi lane (bc 4#32)) (bc slot)) (gather (slabMax T lane g) v26) old) shapeCasts_S8x128_S8x128

end Slab

/-- The slabs `4 q .. 4 q + 3`. -/
def slabs (q : Fin 4) (t : Fin 4) : Fin 16 := ⟨4 * q.val + t.val, by omega⟩

def pack (b : Fin 16 → IVec S8x128 32) (q : Fin 4) : IVec S8x128 32 :=
  bitcast S8x128 32 (trunci 8 (concatenate S32x128 0 [⟨S8x128, b (slabs q 0)⟩, ⟨S8x128, b (slabs q 1)⟩, ⟨S8x128, b (slabs q 2)⟩,
    ⟨S8x128, b (slabs q 3)⟩] concatenates_S8x128_S8x128_S8x128_S8x128_S32x128_d0) natLt_8_32) bitcasts_S32x128_w8_S8x128_w32
def outEven (even : IVec S8x128 1) (lo hi : Fin 16 → IVec S8x128 32) (q : Fin 4) : IVec S32x128 8 :=
  bitcast S32x128 8 (select even (pack lo q) (dynamicRotate 1 1#32 none (pack hi q) rotates_S8x128_d1)) bitcasts_S8x128_w32_S32x128_w8
def outOdd (even : IVec S8x128 1) (lo hi : Fin 16 → IVec S8x128 32) (q : Fin 4) : IVec S32x128 8 :=
  bitcast S32x128 8 (select even (dynamicRotate 1 127#32 none (pack lo q) rotates_S8x128_d1) (pack hi q)) bitcasts_S8x128_w32_S32x128_w8

end Cert.Proof.Tile

end
-- ==== Proof.Trip.lean ====
/- One trip of the inner loop, its stores read back as the functions of `Tile`. -/
module

public import proofs.«01_k».proof.Proof.Tile

@[expose] public section

noncomputable section

namespace Cert.Proof.Tile

open Cert.KernelIdeal Cert.KernelIdeal.Gen
open Idealize.ShloMosaic Idealize.ShloMosaic.TcCoe

variable {F : FTy → Type} [FloatOps F]

theorem inbT (g : Fin 16) (j : Fin 4) : ∀ a, (![8 * g.val, 128 * j.val] : Fin 2 → ℕ) a + S8x128.size a ≤ S128x512.size a := by
  intro a; have := g.isLt; have := j.isLt
  fin_cases a <;> simp [S8x128, S128x512, Shape.size] <;> omega
theorem inbK (g : Fin 16) : ∀ a, (![8 * g.val, 0] : Fin 2 → ℕ) a + S8x128.size a ≤ S128x128.size a := by
  intro a; have := g.isLt
  fin_cases a <;> simp [S8x128, S128x128, Shape.size] <;> omega

/-- The product with the permutation that a trip stores. -/
def prodOf (arg2 : Memref sig .tc .vmem S128x20480 .bf16) (arg3 : Memref sig .tc .vmem S512x512 .bf16) (k0_t1 : Fin k0_t1_loop.trips)
    (X2 : BufTy.Contents (Elt F) arg2.view.ty) (X3 : BufTy.Contents (Elt F) arg3.view.ty) (k : Fin k0_t2_loop.trips) : FVec F S128x512 .f32 :=
  k0_pay7 (arg2.view.readAt (Elt F) (Rect.unit (s := S128x20480) (k0_off1 k0_t1 k) S128x512.size (k0_off1_inb k0_t1 k)).toLoadRect X2)
    (arg3.view.readAt (Elt F) (Rect.unit (s := S512x512) ![0, 0] S512x512.size inb_S512x512_S512x512_0_0).toLoadRect X3)

/-- Its slabs, as the trip loads them back. -/
def prodTile (arg2 : Memref sig .tc .vmem S128x20480 .bf16) (arg3 : Memref sig .tc .vmem S512x512 .bf16) (arg8 : Memref sig .tc .vmem S128x512 .f32)
    (k0_t1 : Fin k0_t1_loop.trips) (X2 : BufTy.Contents (Elt F) arg2.view.ty) (X3 : BufTy.Contents (Elt F) arg3.view.ty) (k : Fin k0_t2_loop.trips)
    (g : Fin 16) (j : Fin 4) : FVec F S8x128 .f32 :=
  View.readCov (Val := Elt F) arg8.view [⟨Rect.unit (s := S128x512) ![0, 0] S128x512.size inb_S128x512_S128x512_0_0, prodOf arg2 arg3 k0_t1 X2 X3 k⟩]
    (Rect.unit (s := S128x512) ![8 * g.val, 128 * j.val] S8x128.size (inbT g j)).toLoadRect

def gPiece (arg9 : Memref sig .tc .vmem S128x128 .f32) (T : Fin 16 → Fin 4 → FVec F S8x128 .f32) (lane v26 : IVec S8x128 32) (slot : BitVec 32)
    (f9 : BufTy.Contents (Elt F) arg9.view.ty) (g : Fin 16) : View.Piece (Elt F) S128x128 .f32 :=
  ⟨Rect.unit (s := S128x128) ![8 * g.val, 0] S8x128.size (inbK g),
    slabKeep T lane v26 slot (arg9.view.readAt (Elt F) (Rect.unit (s := S128x128) ![8 * g.val, 0] S8x128.size (inbK g)).toLoadRect f9) g⟩

section

variable (𝒱 : Variants) (c : Dev nD) (bd : Option 𝒱.V) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole) (arg0 : BitVec 32) (v0 : Elt F .i32) (v1 : Elt F .i32) (v2 : IVec S8x128 32) (v7 : IVec S8x128 1) (v17 : IVec S8x128 32) (v26 : IVec S8x128 32) (c0_i32_5 : BitVec 32) (c1_i32_6 : BitVec 32) (k0_t1 : Fin k0_t1_loop.trips) (v32 : BitVec 32) (X_arg2 : BufTy.Contents (Elt F) arg2.view.ty) (X_arg3 : BufTy.Contents (Elt F) arg3.view.ty) (k : Fin k0_t2_loop.trips)
  (f4 : BufTy.Contents (Elt F) arg4.view.ty) (f6 : BufTy.Contents (Elt F) arg6.view.ty) (f8 : BufTy.Contents (Elt F) arg8.view.ty) (f9 : BufTy.Contents (Elt F) arg9.view.ty)

set_option maxRecDepth 20000 in
set_option maxHeartbeats 4000000 in
theorem trip_dbias : (trip_k0_t2 (F := F) 𝒱 c bd i arg1 harg1 arg2 harg2 arg3 harg3 arg4 harg4 arg5 harg5 arg6 harg6 arg7 harg7 arg8 harg8 arg9 harg9 arg0 v0 v1 v2 v7 v17 v26 c0_i32_5 c1_i32_6 k0_t1 v32 X_arg2 X_arg3 k).2.1 f4 f6 f8 f9
    = [⟨Rect.unit (s := S8x20480) (k0_off2 k0_t1 k) S8x512.size (k0_off2_inb k0_t1 k),
        k0_pay8 (arg2.view.readAt (Elt F) (Rect.unit (s := S128x20480) (k0_off1 k0_t1 k) S128x512.size (k0_off1_inb k0_t1 k)).toLoadRect X_arg2)
          (arg6.view.readAt (Elt F) (Rect.unit (s := S8x20480) (k0_off2 k0_t1 k) S8x512.size (k0_off2_inb k0_t1 k)).toLoadRect f6)⟩] := by
  unfold trip_k0_t2; dsimp only

set_option maxRecDepth 20000 in
set_option maxHeartbeats 4000000 in
theorem trip_gmax : (trip_k0_t2 (F := F) 𝒱 c bd i arg1 harg1 arg2 harg2 arg3 harg3 arg4 harg4 arg5 harg5 arg6 harg6 arg7 harg7 arg8 harg8 arg9 harg9 arg0 v0 v1 v2 v7 v17 v26 c0_i32_5 c1_i32_6 k0_t1 v32 X_arg2 X_arg3 k).2.2.2.1 f4 f6 f8 f9
    = ([15, 14, 13, 12, 11, 10, 9, 8, 7, 6, 5, 4, 3, 2, 1, 0] : List (Fin 16)).map
        (gPiece arg9 (prodTile arg2 arg3 arg8 k0_t1 X_arg2 X_arg3 k) v2 v26 (slotOf k) f9) := by
  unfold trip_k0_t2; dsimp only; rfl

set_option maxRecDepth 20000 in
set_option maxHeartbeats 4000000 in
theorem trip_codes : (trip_k0_t2 (F := F) 𝒱 c bd i arg1 harg1 arg2 harg2 arg3 harg3 arg4 harg4 arg5 harg5 arg6 harg6 arg7 harg7 arg8 harg8 arg9 harg9 arg0 v0 v1 v2 v7 v17 v26 c0_i32_5 c1_i32_6 k0_t1 v32 X_arg2 X_arg3 k).1 f4 f6 f8 f9
    = let T := prodTile arg2 arg3 arg8 k0_t1 X_arg2 X_arg3 k
      let lo := loByte T v2 v0 v1 (calls arg0 v17 (pairOf v32 k))
      let hi := hiByte T v2 v0 v1 (calls arg0 v17 (pairOf v32 k))
      [⟨Rect.unit (s := S128x10240) (k0_off10 k0_t1 k) S32x128.size (k0_off10_inb k0_t1 k), outOdd v7 lo hi 3⟩,
       ⟨Rect.unit (s := S128x10240) (k0_off9 k0_t1 k) S32x128.size (k0_off9_inb k0_t1 k), outEven v7 lo hi 3⟩,
       ⟨Rect.unit (s := S128x10240) (k0_off8 k0_t1 k) S32x128.size (k0_off8_inb k0_t1 k), outOdd v7 lo hi 2⟩,
       ⟨Rect.unit (s := S128x10240) (k0_off7 k0_t1 k) S32x128.size (k0_off7_inb k0_t1 k), outEven v7 lo hi 2⟩,
       ⟨Rect.unit (s := S128x10240) (k0_off6 k0_t1 k) S32x128.size (k0_off6_inb k0_t1 k), outOdd v7 lo hi 1⟩,
       ⟨Rect.unit (s := S128x10240) (k0_off5 k0_t1 k) S32x128.size (k0_off5_inb k0_t1 k), outEven v7 lo hi 1⟩,
       ⟨Rect.unit (s := S128x10240) (k0_off4 k0_t1 k) S32x128.size (k0_off4_inb k0_t1 k), outOdd v7 lo hi 0⟩,
       ⟨Rect.unit (s := S128x10240) (k0_off3 k0_t1 k) S32x128.size (k0_off3_inb k0_t1 k), outEven v7 lo hi 0⟩] := by
  unfold trip_k0_t2; dsimp only; rfl

end

end Cert.Proof.Tile

end
-- ==== Proof.Layout.lean ====
/- How the kernel lays its code bytes out: four rows' bytes packed in a word, the words of two tiles interleaved lane by
   lane, and the words read back as bytes. Each byte of the result is one element of one slab. -/
module

public import proofs.«01_k».proof.Proof.Tile
public import Idealize.ShloMosaic.Lib.BitcastFour
public import Idealize.ShloMosaic.Lib.Pipeline.Value

@[expose] public section

noncomputable section

namespace Cert.Proof.Tile

open Cert.KernelIdeal Cert.KernelIdeal.Gen
open Idealize.ShloMosaic Idealize.ShloMosaic.TcCoe
open Idealize.ShloMosaic.ValueIdx (ix2)

theorem sel_true {α : Type} (a b : α) : Scalar.select (BitVec.ofBool true) a b = a := rfl
theorem sel_false {α : Type} (a b : α) : Scalar.select (BitVec.ofBool false) a b = b := rfl

/-- A word vector read as bytes: byte row `i` is byte `i % 4` of word row `i / 4`. -/
theorem bytes_getLsbD (W : IVec S8x128 32) (i : Fin 32) (l : Fin 128) (p : ℕ) (hp : p < 8) :
    (bitcast S32x128 8 W bitcasts_S8x128_w32_S32x128_w8 (ix2 i l)).getLsbD p
      = (W (ix2 ⟨i.val / 4, by omega⟩ l)).getLsbD (8 * (i.val % 4) + p) := by
  rw [bitcast_getLsbD W bitcasts_S8x128_w32_S32x128_w8 _ p hp (by decide)]
  have hrow : (S32x128 : Shape).row (ix2 i l) = i.val := rfl
  congr 1
  · congr 1
    funext c
    match c with
    | ⟨0, _⟩ =>
      refine Fin.ext ((Shape.Bitcasts.srcIdx_row _ _ _ _ ⟨0, Nat.zero_lt_two⟩ rfl).trans ?_)
      show (S32x128.row (ix2 i l) * 8 + p) / 32 = i.val / 4
      rw [hrow]; omega
    | ⟨1, _⟩ => exact Fin.ext (Shape.Bitcasts.srcIdx_other _ _ _ _ ⟨1, Nat.one_lt_two⟩ (by show ¬ 1 + 2 = 2; omega))
  · rw [hrow]; omega

/-- A packed word's byte `k`: row `4 s + k` of the four slabs stacked. -/
theorem pack_getLsbD (b : Fin 16 → IVec S8x128 32) (q : Fin 4) (s : Fin 8) (l : Fin 128) (k p : ℕ) (hk : k < 4) (hp : p < 8) :
    (pack b q (ix2 s l)).getLsbD (8 * k + p)
      = ((b (slabs q ⟨(4 * s.val + k) / 8, by omega⟩) (ix2 ⟨(4 * s.val + k) % 8, by omega⟩ l)).setWidth 8).getLsbD p := by
  unfold pack
  refine (bitcast_8_32_getLsbD_ix2 _ _ s l (8 * k + p) (by omega) ⟨4 * s.val + k, by omega⟩ (by dsimp only; omega)).trans ?_
  rw [show (8 * k + p) % 8 = p by omega]
  congr 1
  show (concatenate S32x128 0 (List.ofFn fun n : Fin 4 => (⟨S8x128, b (slabs q n)⟩ : (s : Shape) × (s.Idx → BitVec 32))) _ _).setWidth 8 = _
  congr 1
  refine concatenate_ofFn_apply (t := S32x128) (s₁ := S8x128) 0 (fun n : Fin 4 => b (slabs q n)) _ rfl 8 rfl (ix2 (⟨4 * s.val + k, by omega⟩ : Fin 32) l)
    ⟨(4 * s.val + k) / 8, by omega⟩ rfl (ix2 (⟨(4 * s.val + k) % 8, by omega⟩ : Fin 8) l) rfl ?_
  intro c hc
  match c with
  | ⟨0, _⟩ => exact absurd rfl hc
  | ⟨1, _⟩ => rfl

/-- Byte row `i` of the packed slabs. -/
def rowOf (b : Fin 16 → IVec S8x128 32) (q : Fin 4) (i : Fin 32) (l : Fin 128) : BitVec 8 :=
  (b (slabs q ⟨i.val / 8, by omega⟩) (ix2 ⟨i.val % 8, by omega⟩ l)).setWidth 8

theorem bytes_of_pack (b : Fin 16 → IVec S8x128 32) (q : Fin 4) (W : IVec S8x128 32) (i : Fin 32) (l l' : Fin 128)
    (h : W (ix2 ⟨i.val / 4, by omega⟩ l) = pack b q (ix2 ⟨i.val / 4, by omega⟩ l')) :
    bitcast S32x128 8 W bitcasts_S8x128_w32_S32x128_w8 (ix2 i l) = rowOf b q i l' := by
  apply BitVec.eq_of_getLsbD_eq
  intro p hp
  rw [bytes_getLsbD W i l p hp, h, pack_getLsbD b q _ l' (i.val % 4) p (by omega) hp]
  unfold rowOf
  have e : 4 * (i.val / 4) + i.val % 4 = i.val := by omega
  simp only [e]

theorem rot_apply (W : IVec S8x128 32) (n : BitVec 32) (s : Fin 8) (l : Fin 128) :
    dynamicRotate 1 n none W rotates_S8x128_d1 (ix2 s l)
      = W (ix2 s ⟨(l.val + 128 - n.toNat % 128) % 128, by omega⟩) := by
  unfold dynamicRotate
  dsimp only
  congr 1
  funext c
  match c with
  | ⟨0, _⟩ => rfl
  | ⟨1, _⟩ => rfl

theorem outEven_apply (even : IVec S8x128 1) (he : ∀ s l, even (ix2 s l) = BitVec.ofBool (l.val % 2 == 0))
    (lo hi : Fin 16 → IVec S8x128 32) (q : Fin 4) (i : Fin 32) (l : Fin 128) :
    outEven even lo hi q (ix2 i l) = if l.val % 2 = 0 then rowOf lo q i l else rowOf hi q i ⟨l.val - 1, by omega⟩ := by
  unfold outEven
  split
  · next h =>
    refine bytes_of_pack lo q _ i l l ?_
    show Scalar.select (even _) _ _ = _
    rw [he, show (l.val % 2 == 0) = true by simpa using h]; rfl
  · next h =>
    refine bytes_of_pack hi q _ i l _ ?_
    show Scalar.select (even _) _ _ = _
    rw [he, show (l.val % 2 == 0) = false by simpa using h, sel_false]
    refine (rot_apply _ _ _ _).trans ?_
    congr 2
    refine Fin.ext ?_
    show (l.val + 128 - 1 % 128) % 128 = l.val - 1
    omega

theorem outOdd_apply (even : IVec S8x128 1) (he : ∀ s l, even (ix2 s l) = BitVec.ofBool (l.val % 2 == 0))
    (lo hi : Fin 16 → IVec S8x128 32) (q : Fin 4) (i : Fin 32) (l : Fin 128) :
    outOdd even lo hi q (ix2 i l) = if h : l.val % 2 = 0 then rowOf lo q i ⟨l.val + 1, by omega⟩ else rowOf hi q i l := by
  unfold outOdd
  split
  · next h =>
    refine bytes_of_pack lo q _ i l _ ?_
    show Scalar.select (even _) _ _ = _
    rw [he, show (l.val % 2 == 0) = true by simpa using h, sel_true]
    refine (rot_apply _ _ _ _).trans ?_
    congr 2
    refine Fin.ext ?_
    show (l.val + 128 - 127 % 128) % 128 = l.val + 1
    omega
  · next h =>
    refine bytes_of_pack hi q _ i l l ?_
    show Scalar.select (even _) _ _ = _
    rw [he, show (l.val % 2 == 0) = false by simpa using h]; rfl

/-- The even lanes. -/
theorem even_apply (s : Fin 8) (l : Fin 128) : k0_pay1 (ix2 s l) = BitVec.ofBool (l.val % 2 == 0) := by
  have : ∀ l : Fin 128, (IntOp.cmpi .eq (IntOp.andi (BitVec.ofNat 32 (0 * 128 + l.val)) 1#32) 0#32) = BitVec.ofBool (l.val % 2 == 0) := by
    decide +kernel
  exact this l

end Cert.Proof.Tile

end
-- ==== Proof.Point.lean ====
/- One trip's tiles at the exact numbers: the product with the permutation only moves elements, and the kernel's lane-wise
   maximum is the maximum of the 32 elements of a group. -/
module

public import proofs.«01_k».proof.Proof.Trip
public import proofs.«01_k».proof.Proof.Layout
public import Idealize.ShloMosaic.Lib.MatmulPlain
public import Idealize.ShloMosaic.Lib.WritesUnit

@[expose] public section

noncomputable section

namespace Cert.Proof.Tile

open Cert.KernelIdeal Cert.KernelIdeal.Gen
open Idealize.ShloMosaic Idealize.ShloMosaic.TcCoe
open Idealize.ShloMosaic.ValueIdx (ix2)
open scoped BigOperators

/-- A matrix read at natural-number coordinates. -/
def at2 {α : Type} {M N : ℕ} [NeZero M] [NeZero N] (x : (⟨2, ![M, N]⟩ : Shape).Idx → α) (r c : ℕ) : α :=
  x (ix2 (Fin.ofNat M r) (Fin.ofNat N c))

theorem at2_eq {α : Type} {M N : ℕ} [NeZero M] [NeZero N] (x : (⟨2, ![M, N]⟩ : Shape).Idx → α) (y : (⟨2, ![M, N]⟩ : Shape).Idx)
    (r c : ℕ) (hr : (y 0).val = r) (hc : (y 1).val = c) : x y = at2 x r c := by
  unfold at2
  congr 1
  funext a
  match a with
  | ⟨0, _⟩ => exact Fin.ext (hr.trans (Nat.mod_eq_of_lt (hr ▸ (y 0).isLt)).symm)
  | ⟨1, _⟩ => exact Fin.ext (hc.trans (Nat.mod_eq_of_lt (hc ▸ (y 1).isLt)).symm)

/-- Where lane `l` of part `j` of a reordered tile comes from. -/
def permCol (j l : ℕ) : ℕ := l % 2 * 256 + 4 * (l / 2) + j

/-- The permutation matrix. -/
def IsPerm (p : ℕ → ℕ → EReal) : Prop := ∀ k j l, k < 512 → j < 4 → l < 128 → p k (128 * j + l) = if k = permCol j l then 1 else 0

theorem permCol_lt {j l : ℕ} (hj : j < 4) (hl : l < 128) : permCol j l < 512 := by unfold permCol; omega

theorem zero_bits : (Ideal.ofBits .f32 0x00000000#32 : EReal) = 0 := by
  simp [Ideal.ofBits, Ideal.ieee]
theorem one_bits : (Ideal.ofBits .bf16 0x3F80#16 : EReal) = 1 := by
  simp [Ideal.ofBits, Ideal.ieee]
  rw [← EReal.coe_mul]
  norm_num

theorem pay7_apply (xb : Vec Ideal S128x512 .bf16) (pm : Vec Ideal S512x512 .bf16) (hp : IsPerm (at2 pm)) (r : Fin 128) (j l : ℕ) (hj : j < 4) (hl : l < 128) :
    k0_pay7 (F := Ideal) xb pm (ix2 r ⟨128 * j + l, by omega⟩) = xb (ix2 r ⟨permCol j l, permCol_lt hj hl⟩) := by
  unfold k0_pay7 k0_pay6
  dsimp only
  simp only [shapeCast_self]
  refine (Ideal.matmul_plain_apply (M := 128) (K := 512) (N := 512) none xb pm _ r ⟨128 * j + l, by omega⟩).trans ?_
  have h0 : (constant S128x512 .f32 0x00000000#32 : FVec Ideal S128x512 .f32) (ix2 r ⟨128 * j + l, by omega⟩) = 0 := zero_bits
  rw [h0, zero_add]
  have hk : ∀ k : Fin 512, pm (ix2 k ⟨128 * j + l, by omega⟩) = if k = ⟨permCol j l, permCol_lt hj hl⟩ then 1 else 0 := by
    intro k
    rw [at2_eq pm (ix2 k ⟨128 * j + l, by omega⟩) k.val (128 * j + l) rfl rfl, hp k.val j l k.isLt hj hl]
    simp [Fin.ext_iff]
  simp only [hk, mul_ite, mul_one, mul_zero, Finset.sum_ite_eq', Finset.mem_univ, if_true]

theorem pay8_apply (xb : Vec Ideal S128x512 .bf16) (d : Vec Ideal S8x512 .f32) (s : Fin 8) (c : Fin 512) :
    k0_pay8 (F := Ideal) xb d (ix2 s c) = d (ix2 s c) + ∑ r : Fin 128, xb (ix2 r c) := by
  unfold k0_pay8 k0_pay6
  dsimp only
  simp only [shapeCast_self]
  refine congrArg (d (ix2 s c) + ·) ?_
  refine (Ideal.matmul_plain_apply (M := 8) (K := 128) (N := 512) none _ xb _ s c).trans ?_
  have h0 : (constant S8x512 .f32 0x00000000#32 : FVec Ideal S8x512 .f32) (ix2 s c) = 0 := zero_bits
  rw [h0, zero_add]
  refine Finset.sum_congr rfl fun r _ => ?_
  show (Ideal.ofBits .bf16 0x3F80#16 : EReal) * _ = _
  rw [one_bits, one_mul]

theorem gather_apply (v : FVec Ideal S8x128 .f32) (idx : IVec S8x128 32) (s : Fin 8) (l l' : Fin 128)
    (h : idx (ix2 s l) = BitVec.ofNat 32 l'.val) : gather v idx (ix2 s l) = v (ix2 s l') := by
  unfold gather
  rw [shapeCast_shapeCast]
  unfold dynamicGather
  congr 1
  have hs : ∀ l' : Fin 128, (Scalar.select (IntOp.cmpi .slt (BitVec.ofNat 32 l'.val) 0#32) (IntOp.addi (BitVec.ofNat 32 l'.val) 128#32)
      (BitVec.ofNat 32 l'.val)).toNat % 128 = l'.val := by decide +kernel
  funext a
  match a with
  | ⟨0, _⟩ => rfl
  | ⟨1, _⟩ =>
    refine Fin.ext ?_
    show (Scalar.select (IntOp.cmpi .slt (idx (ix2 s l)) 0#32) (IntOp.addi (idx (ix2 s l)) 128#32) (idx (ix2 s l))).toNat % 128 = l'.val
    rw [h]; exact hs l'

/-- The lane numbers. -/
abbrev lanes : IVec S8x128 32 := iota .tc S8x128 32 [1] iota_S8x128_d1_w32
theorem lanes_apply (s : Fin 8) (l : Fin 128) : lanes (ix2 s l) = BitVec.ofNat 32 l.val := by
  show BitVec.ofNat 32 (0 * 128 + l.val) = _
  rw [Nat.zero_mul, Nat.zero_add]

/-- Lane `l` with its bits `b` turned. -/
def turn (b : ℕ) (l : Fin 128) : Fin 128 := ⟨(l.val ^^^ b) % 128, by omega⟩

theorem maxStep_apply (b : ℕ) (hb : b ∈ [2, 4, 8]) (m : FVec Ideal S8x128 .f32) (s : Fin 8) (l : Fin 128) :
    maxStep lanes (BitVec.ofNat 32 b) m (ix2 s l) = max (m (ix2 s l)) (m (ix2 s (turn b l))) := by
  unfold maxStep
  show max (m (ix2 s l)) (gather m _ (ix2 s l)) = _
  congr 1
  refine gather_apply m _ s l _ ?_
  show IntOp.xori (lanes (ix2 s l)) (BitVec.ofNat 32 b) = _
  rw [lanes_apply]
  have : ∀ b ∈ [2, 4, 8], ∀ l : Fin 128, IntOp.xori (BitVec.ofNat 32 l.val) (BitVec.ofNat 32 b) = BitVec.ofNat 32 (turn b l).val := by decide +kernel
  exact this b hb l

/-- The magnitude. -/
def mag (x : EReal) : EReal := max x (-x)

theorem groupMax_le (T : Fin 4 → FVec Ideal S8x128 .f32) (s : Fin 8) (l : Fin 128) (b : EReal) :
    groupMax lanes (T 0) (T 1) (T 2) (T 3) (ix2 s l) ≤ b
      ↔ ∀ j : Fin 4, ∀ i ∈ [0, 2, 4, 6, 8, 10, 12, 14], mag (T j (ix2 s (turn i l))) ≤ b := by
  unfold groupMax
  rw [maxStep_apply 8 (by decide), maxStep_apply 4 (by decide), maxStep_apply 4 (by decide)]
  simp only [show (2#32 : BitVec 32) = BitVec.ofNat 32 2 from rfl, maxStep_apply 2 (by decide)]
  have ht : ∀ l : Fin 128, turn 0 l = l ∧ turn 2 (turn 4 l) = turn 6 l ∧ turn 2 (turn 8 l) = turn 10 l ∧ turn 4 (turn 8 l) = turn 12 l
      ∧ turn 2 (turn 12 l) = turn 14 l := by decide +kernel
  obtain ⟨h0, h6, h10, h12, h14⟩ := ht l
  rw [h6, h10, h12, h14]
  have hm : ∀ l' : Fin 128, maximumf (maximumf (absf (T 0)) (absf (T 1))) (maximumf (absf (T 2)) (absf (T 3))) (ix2 s l') ≤ b
      ↔ ∀ j : Fin 4, mag (T j (ix2 s l')) ≤ b := fun l' => by
    show max (max (mag (T 0 (ix2 s l'))) (mag (T 1 (ix2 s l')))) (max (mag (T 2 (ix2 s l'))) (mag (T 3 (ix2 s l')))) ≤ b ↔ _
    rw [max_le_iff, max_le_iff, max_le_iff]
    exact ⟨fun h j => by fin_cases j; exacts [h.1.1, h.1.2, h.2.1, h.2.2], fun h => ⟨⟨h 0, h 1⟩, h 2, h 3⟩⟩
  have hswap : (∀ j : Fin 4, ∀ i ∈ [0, 2, 4, 6, 8, 10, 12, 14], mag (T j (ix2 s (turn i l))) ≤ b)
      ↔ ∀ i ∈ [0, 2, 4, 6, 8, 10, 12, 14], ∀ j : Fin 4, mag (T j (ix2 s (turn i l))) ≤ b :=
    ⟨fun h i hi j => h j i hi, fun h j i hi => h i hi j⟩
  rw [hswap]
  simp only [max_le_iff, hm, List.forall_mem_cons, h0]
  exact ⟨fun ⟨⟨⟨a0, a2⟩, a4, a6⟩, ⟨a8, a10⟩, a12, a14⟩ => ⟨a0, a2, a4, a6, a8, a10, a12, a14, fun _ h => absurd h List.not_mem_nil⟩,
    fun ⟨a0, a2, a4, a6, a8, a10, a12, a14, _⟩ => ⟨⟨⟨a0, a2⟩, a4, a6⟩, ⟨a8, a10⟩, a12, a14⟩⟩

/-- The largest magnitude of group `g` of row `r`. -/
def GM (x : ℕ → ℕ → EReal) (r g : ℕ) : EReal := Finset.univ.sup fun e : Fin 32 => mag (x r (32 * g + e.val))

theorem group_lanes : ∀ l : Fin 128, (∀ j : Fin 4, ∀ i ∈ [0, 2, 4, 6, 8, 10, 12, 14], permCol j.val (turn i l).val / 32 = l.val % 2 * 8 + l.val / 16)
    ∧ ∀ e : Fin 32, permCol (e.val % 4) (turn ((l.val % 16 / 2 * 2) ^^^ (e.val / 4 * 2)) l).val = 32 * (l.val % 2 * 8 + l.val / 16) + e.val := by
  decide +kernel

theorem groupMax_eq (x : ℕ → ℕ → EReal) (r u : ℕ) (T : Fin 4 → FVec Ideal S8x128 .f32) (s : Fin 8)
    (hT : ∀ (j : Fin 4) (l : Fin 128), T j (ix2 s l) = x r (512 * u + permCol j.val l.val)) (l : Fin 128) :
    groupMax lanes (T 0) (T 1) (T 2) (T 3) (ix2 s l) = GM x r (16 * u + (l.val % 2 * 8 + l.val / 16)) := by
  refine eq_of_forall_ge_iff fun b => ?_
  rw [groupMax_le]
  unfold GM
  simp only [Finset.sup_le_iff, Finset.mem_univ, true_implies, hT]
  obtain ⟨h1, h2⟩ := group_lanes l
  constructor
  · intro h e
    have := h ⟨e.val % 4, by omega⟩ ((l.val % 16 / 2 * 2) ^^^ (e.val / 4 * 2)) (by
      have : ∀ l : Fin 128, ∀ e : Fin 32, ((l.val % 16 / 2 * 2) ^^^ (e.val / 4 * 2)) ∈ [0, 2, 4, 6, 8, 10, 12, 14] := by decide +kernel
      exact this l e)
    rw [h2 e] at this
    rwa [show 32 * (16 * u + (l.val % 2 * 8 + l.val / 16)) + e.val = 512 * u + (32 * (l.val % 2 * 8 + l.val / 16) + e.val) by ring]
  · intro h j i hi
    have hd := h1 j i hi
    have := h ⟨permCol j.val (turn i l).val % 32, by omega⟩
    rwa [show 32 * (16 * u + (l.val % 2 * 8 + l.val / 16)) + permCol j.val (turn i l).val % 32 = 512 * u + permCol j.val (turn i l).val by omega] at this

/-- Where slot lane `l` takes its group maximum from. -/
theorem source_apply (s : Fin 8) (l : Fin 128) : k0_pay3 (ix2 s l) = BitVec.ofNat 32 (l.val % 8 * 16 + l.val / 8 % 2) := by
  have : ∀ l : Fin 128, IntOp.addi (IntOp.muli (IntOp.andi (BitVec.ofNat 32 (0 * 128 + l.val)) 7#32) 16#32)
      (IntOp.andi (IntOp.shrsi .vector (BitVec.ofNat 32 (0 * 128 + l.val)) 3#32) 1#32) = BitVec.ofNat 32 (l.val % 8 * 16 + l.val / 8 % 2) := by decide +kernel
  exact this l

end Cert.Proof.Tile

end
-- ==== Proof.Inner.lean ====
/- What one trip of the inner loop leaves in each buffer, element by element, and what the eight trips leave together. -/
module

public import proofs.«01_k».proof.Proof.Point

@[expose] public section

noncomputable section

namespace Cert.Proof.Tile

open Cert.KernelIdeal Cert.KernelIdeal.Gen
open Idealize.ShloMosaic Idealize.ShloMosaic.TcCoe
open Idealize.ShloMosaic.ValueIdx (ix2)
open scoped BigOperators

theorem readAt_unit {M N m n : ℕ} [NeZero M] [NeZero N] {κ : Kind} {sp : Space} {e : EltTy} {Val : EltTy → Type}
    (v : View sig κ sp (⟨2, ![M, N]⟩ : Shape) e) (f : v.ty.Contents Val) (off : Fin 2 → ℕ) (o p : ℕ)
    (inb : ∀ a, off a + (![m, n] : Fin 2 → ℕ) a ≤ (⟨2, ![M, N]⟩ : Shape).size a) (heq : off = ![o, p]) (x : (⟨2, ![m, n]⟩ : Shape).Idx) :
    v.readAt Val (Rect.unit (s := ⟨2, ![M, N]⟩) off ![m, n] inb).toLoadRect f x = at2 (v.read Val f) (o + (x 0).val) (p + (x 1).val) := by
  subst heq
  rw [View.readAt_apply]
  exact at2_eq _ _ _ _ (by show o + 1 * (x 0).val = _; rw [Nat.one_mul]) (by show p + 1 * (x 1).val = _; rw [Nat.one_mul])

/-- The index where everything that does not depend on the index is read. -/
abbrev i0 : S8x128.Idx := ix2 0 0

/-- The counter with every lane replaced by lane `i`. -/
def Ctr.fix (c : Ctr) (i : S8x128.Idx) : Ctr := ⟨fun _ => c.c0 i, fun _ => c.c1 i, fun _ => c.c2 i, fun _ => c.c3 i⟩

theorem round_fix (a b : BitVec 32) (c : Ctr) (i : S8x128.Idx) : (round a b c).fix i = round a b (c.fix i) := rfl
theorem xori_app (x y : IVec S8x128 32) (i : S8x128.Idx) : xori x y i = IntOp.xori (x i) (y i) := rfl
/-- The high halves of one word's products. -/
def H0 (w : BitVec 32) : BitVec 32 := hi0 (fun _ => w) i0
def H1 (w : BitVec 32) : BitVec 32 := hi1 (fun _ => w) i0
theorem hi0_app (x : IVec S8x128 32) (i : S8x128.Idx) : hi0 x i = H0 (x i) := rfl
theorem hi1_app (x : IVec S8x128 32) (i : S8x128.Idx) : hi1 x i = H1 (x i) := rfl
theorem lo0_app (x : IVec S8x128 32) (i : S8x128.Idx) : lo0 x i = IntOp.muli 3528531795#32 (x i) := rfl
theorem lo1_app (x : IVec S8x128 32) (i : S8x128.Idx) : lo1 x i = IntOp.muli 3449720151#32 (x i) := rfl
theorem bc_app (w : BitVec 32) (i : S8x128.Idx) : bc w i = w := rfl
attribute [local irreducible] hi0 hi1 H0 H1 key0 key1 shi0 slo0 IntOp.xori IntOp.muli in
theorem two_fix (a b : BitVec 32) (n : IVec S8x128 32) (i : S8x128.Idx) : (two a b n).fix i = two a b (fun _ => n i) := by
  unfold two Ctr.fix
  dsimp only
  refine Ctr.mk.injEq .. |>.mpr ⟨funext fun _ => ?_, funext fun _ => ?_, funext fun _ => ?_, funext fun _ => ?_⟩
  all_goals simp only [xori_app, hi0_app, hi1_app, lo0_app, lo1_app, bc_app]
theorem words_fix (a b : BitVec 32) (n : IVec S8x128 32) (i : S8x128.Idx) : (words a b n).fix i = words a b (fun _ => n i) := by
  unfold words eight seven six five four three
  simp only [round_fix, two_fix]
theorem words_c0 (a b : BitVec 32) (n : IVec S8x128 32) (i : S8x128.Idx) : (words a b n).c0 i = (words a b (fun _ => n i)).c0 i0 := by
  rw [← words_fix]; rfl
theorem words_c1 (a b : BitVec 32) (n : IVec S8x128 32) (i : S8x128.Idx) : (words a b n).c1 i = (words a b (fun _ => n i)).c1 i0 := by
  rw [← words_fix]; rfl
theorem words_c2 (a b : BitVec 32) (n : IVec S8x128 32) (i : S8x128.Idx) : (words a b n).c2 i = (words a b (fun _ => n i)).c2 i0 := by
  rw [← words_fix]; rfl
theorem words_c3 (a b : BitVec 32) (n : IVec S8x128 32) (i : S8x128.Idx) : (words a b n).c3 i = (words a b (fun _ => n i)).c3 i0 := by
  rw [← words_fix]; rfl

theorem expStep_fix (m : FVec Ideal S8x128 .f32) (w : BitVec 32) (e : IVec S8x128 32) (i : S8x128.Idx) :
    expStep m w e i = expStep (fun _ => m i) w (fun _ => e i) i0 := rfl
theorem expBits_fix (m : FVec Ideal S8x128 .f32) (i : S8x128.Idx) : expBits m i = expBits (fun _ => m i) i0 := by
  have h : ∀ (w : BitVec 32) (e e' : IVec S8x128 32), e i = e' i0 → expStep m w e i = expStep (fun _ => m i) w e' i0 := by
    intro w e e' he
    rw [expStep_fix, he]; rfl
  unfold expBits
  exact h _ _ _ (h _ _ _ (h _ _ _ (h _ _ _ (h _ _ _ (h _ _ _ (h _ _ _ (h _ _ _ rfl)))))))
theorem scaleOf_fix (m : FVec Ideal S8x128 .f32) (i : S8x128.Idx) : scaleOf m i = scaleOf (fun _ => m i) i0 := by
  show FloatOps.ofBits .f32 (IntOp.subi 2160066560#32 (expBits m i)) = _
  rw [expBits_fix]; rfl

theorem codeFrac_fix (y s : FVec Ideal S8x128 .f32) (i : S8x128.Idx) : codeFrac y s i = codeFrac (fun _ => y i) (fun _ => s i) i0 := rfl
theorem dither_fix (y : FVec Ideal S8x128 .f32) (w : IVec S8x128 32) (i : S8x128.Idx) : dither y w i = dither (fun _ => y i) (fun _ => w i) i0 := rfl

/-- One byte from the words and the elements of one place. -/
def byte1 (y0 y1 s : EReal) (nw0 w1 : BitVec 32) : BitVec 32 :=
  IntOp.shrui .vector (IntOp.subi (IntOp.shrui .vector (IntOp.addi (codeFrac (F := Ideal) (fun _ => y0) (fun _ => s) i0) (dither (F := Ideal) (fun _ => y0) (fun _ => nw0) i0)) 4#32)
    (IntOp.andi (IntOp.subi (dither (F := Ideal) (fun _ => y1) (fun _ => w1) i0) (codeFrac (F := Ideal) (fun _ => y1) (fun _ => s) i0)) 4026531840#32)) 24#32

theorem byteOf_apply (y0 y1 s : FVec Ideal S8x128 .f32) (nw0 w1 : IVec S8x128 32) (i : S8x128.Idx) :
    byteOf y0 y1 s nw0 w1 i = byte1 (y0 i) (y1 i) (s i) (nw0 i) (w1 i) := by
  have e : byteOf y0 y1 s nw0 w1 i = IntOp.shrui .vector (IntOp.subi (IntOp.shrui .vector (IntOp.addi (codeFrac y0 s i) (dither y0 nw0 i)) 4#32)
    (IntOp.andi (IntOp.subi (dither y1 w1 i) (codeFrac y1 s i)) 4026531840#32)) 24#32 := rfl
  rw [e, codeFrac_fix, dither_fix, codeFrac_fix y1, dither_fix y1]; rfl

/-- The scale factor of a group maximum. -/
def scale1 (m : EReal) : EReal := scaleOf (F := Ideal) (fun _ => m) i0

/-- Byte `c` of row `r` of a block whose first row is row `row0` of the whole: elements `2 c` and `2 c + 1`. -/
def kbyte (x : ℕ → ℕ → EReal) (a b : BitVec 32) (row0 r c : ℕ) : BitVec 8 :=
  let w := words a b (fun _ => BitVec.ofNat 32 ((row0 + r) * 5120 + c / 2))
  (byte1 (x r (2 * c)) (x r (2 * c + 1)) (scale1 (GM x r (c / 16)))
    (if c % 2 = 0 then w.c0 i0 else w.c2 i0) (if c % 2 = 0 then w.c1 i0 else w.c3 i0)).setWidth 8

theorem calls_apply (step v : ℕ) (k : Fin k0_t2_loop.trips) (g : Fin 16) (s : Fin 8) (l : Fin 128) :
    calls (BitVec.ofNat 32 step) k0_pay2 (pairOf (BitVec.ofNat 32 v) k) g (ix2 s l)
      = BitVec.ofNat 32 ((128 * step + (8 * g.val + s.val)) * 5120 + (128 * (8 * v + k.val) + (64 * (l.val % 2) + l.val / 2))) := by
  have hb : ∀ l : Fin 128, IntOp.shrsi .vector (BitVec.ofNat 32 (0 * 128 + l.val)) 1#32 = BitVec.ofNat 32 (l.val / 2)
      ∧ IntOp.andi (BitVec.ofNat 32 (0 * 128 + l.val)) 1#32 = BitVec.ofNat 32 (l.val % 2) := by decide +kernel
  have hk : ∀ k : Fin k0_t2_loop.trips, slotOf k = BitVec.ofNat 32 k.val := by decide +kernel
  have hn : k0_pay2 (ix2 s l) = BitVec.ofNat 32 s.val * 5120#32 + BitVec.ofNat 32 (l.val / 2) + BitVec.ofNat 32 (l.val % 2) * 64#32 := by
    have e : k0_pay2 (ix2 s l) = BitVec.ofNat 32 (0 * 8 + s.val) * 5120#32 + IntOp.shrsi .vector (BitVec.ofNat 32 (0 * 128 + l.val)) 1#32
      + IntOp.andi (BitVec.ofNat 32 (0 * 128 + l.val)) 1#32 * 64#32 := rfl
    rw [e, (hb l).1, (hb l).2, Nat.zero_mul, Nat.zero_add]
  have e : calls (BitVec.ofNat 32 step) k0_pay2 (pairOf (BitVec.ofNat 32 v) k) g (ix2 s l)
      = IntOp.addi (k0_pay2 (ix2 s l)) (Scalar.addi (Scalar.muli (Scalar.addi (Scalar.muli (BitVec.ofNat 32 step) 128#32) (BitVec.ofNat 32 (8 * g.val))) 5120#32)
        (Scalar.muli (pairOf (BitVec.ofNat 32 v) k) 128#32)) := rfl
  rw [e, hn]
  unfold pairOf
  rw [hk]
  simp only [IntOp.addi, Scalar.addi, Scalar.muli, IntOp.muli]
  simp only [← BitVec.ofNat_add, ← BitVec.ofNat_mul]
  exact congrArg (BitVec.ofNat 32) (by ring)

section

variable (x : ℕ → ℕ → EReal) (a b : BitVec 32) (step v : ℕ) (k : Fin k0_t2_loop.trips) (T : Fin 16 → Fin 4 → FVec Ideal S8x128 .f32)

/-- A trip's tiles hold the block's elements reordered. -/
def IsTile (x : ℕ → ℕ → EReal) (u : ℕ) (T : Fin 16 → Fin 4 → FVec Ideal S8x128 .f32) : Prop :=
  ∀ (g : Fin 16) (j : Fin 4) (s : Fin 8) (l : Fin 128), T g j (ix2 s l) = x (8 * g.val + s.val) (512 * u + permCol j.val l.val)

variable (hT : IsTile x (8 * v + k.val) T)
include hT

theorem slabMax_apply (g : Fin 16) (s : Fin 8) (l : Fin 128) :
    slabMax T lanes g (ix2 s l) = GM x (8 * g.val + s.val) (16 * (8 * v + k.val) + (l.val % 2 * 8 + l.val / 16)) :=
  groupMax_eq x _ _ (T g) s (fun j l => hT g j s l) l

theorem lo_row (q : Fin 4) (i : Fin 32) (l : Fin 128) :
    rowOf (loByte T lanes a b (calls (BitVec.ofNat 32 step) k0_pay2 (pairOf (BitVec.ofNat 32 v) k))) q i l
      = kbyte x a b (128 * step) (32 * q.val + i.val) (256 * (8 * v + k.val) + 128 * (l.val % 2) + 2 * (l.val / 2)) := by
  set g : Fin 16 := slabs q ⟨i.val / 8, by omega⟩ with hg
  have hgv : 8 * g.val + i.val % 8 = 32 * q.val + i.val := by
    show 8 * (4 * q.val + i.val / 8) + _ = _; omega
  show (byteOf (T g 0) (T g 1) (scaleOf (slabMax T lanes g)) (words a b (calls (BitVec.ofNat 32 step) k0_pay2 (pairOf (BitVec.ofNat 32 v) k) g)).c0
    (words a b (calls (BitVec.ofNat 32 step) k0_pay2 (pairOf (BitVec.ofNat 32 v) k) g)).c1 (ix2 ⟨i.val % 8, by omega⟩ l)).setWidth 8 = _
  rw [byteOf_apply, scaleOf_fix, words_c0, words_c1]
  rw [hT, hT, slabMax_apply x v k T hT, calls_apply]
  unfold kbyte permCol scale1
  dsimp only
  rw [hgv, if_pos (by omega), if_pos (by omega)]
  have e1 : 512 * (8 * v + k.val) + (l.val % 2 * 256 + 4 * (l.val / 2) + ((0 : Fin 4) : ℕ))
      = 2 * (256 * (8 * v + k.val) + 128 * (l.val % 2) + 2 * (l.val / 2)) := by
    show 512 * (8 * v + k.val) + (l.val % 2 * 256 + 4 * (l.val / 2) + 0) = _; ring
  have e2 : 512 * (8 * v + k.val) + (l.val % 2 * 256 + 4 * (l.val / 2) + ((1 : Fin 4) : ℕ))
      = 2 * (256 * (8 * v + k.val) + 128 * (l.val % 2) + 2 * (l.val / 2)) + 1 := by
    show 512 * (8 * v + k.val) + (l.val % 2 * 256 + 4 * (l.val / 2) + 1) = _; ring
  have e3 : 16 * (8 * v + k.val) + (l.val % 2 * 8 + l.val / 16)
      = (256 * (8 * v + k.val) + 128 * (l.val % 2) + 2 * (l.val / 2)) / 16 := by omega
  have e4 : 128 * (8 * v + k.val) + (64 * (l.val % 2) + l.val / 2)
      = (256 * (8 * v + k.val) + 128 * (l.val % 2) + 2 * (l.val / 2)) / 2 := by omega
  rw [e1, e2, e3, e4]

theorem hi_row (q : Fin 4) (i : Fin 32) (l : Fin 128) :
    rowOf (hiByte T lanes a b (calls (BitVec.ofNat 32 step) k0_pay2 (pairOf (BitVec.ofNat 32 v) k))) q i l
      = kbyte x a b (128 * step) (32 * q.val + i.val) (256 * (8 * v + k.val) + 128 * (l.val % 2) + 2 * (l.val / 2) + 1) := by
  set g : Fin 16 := slabs q ⟨i.val / 8, by omega⟩ with hg
  have hgv : 8 * g.val + i.val % 8 = 32 * q.val + i.val := by
    show 8 * (4 * q.val + i.val / 8) + _ = _; omega
  show (byteOf (T g 2) (T g 3) (scaleOf (slabMax T lanes g)) (words a b (calls (BitVec.ofNat 32 step) k0_pay2 (pairOf (BitVec.ofNat 32 v) k) g)).c2
    (words a b (calls (BitVec.ofNat 32 step) k0_pay2 (pairOf (BitVec.ofNat 32 v) k) g)).c3 (ix2 ⟨i.val % 8, by omega⟩ l)).setWidth 8 = _
  rw [byteOf_apply, scaleOf_fix, words_c2, words_c3]
  rw [hT, hT, slabMax_apply x v k T hT, calls_apply]
  unfold kbyte permCol scale1
  dsimp only
  rw [hgv, if_neg (by omega), if_neg (by omega)]
  have e1 : 512 * (8 * v + k.val) + (l.val % 2 * 256 + 4 * (l.val / 2) + ((2 : Fin 4) : ℕ))
      = 2 * (256 * (8 * v + k.val) + 128 * (l.val % 2) + 2 * (l.val / 2) + 1) := by
    show 512 * (8 * v + k.val) + (l.val % 2 * 256 + 4 * (l.val / 2) + 2) = _; ring
  have e2 : 512 * (8 * v + k.val) + (l.val % 2 * 256 + 4 * (l.val / 2) + ((3 : Fin 4) : ℕ))
      = 2 * (256 * (8 * v + k.val) + 128 * (l.val % 2) + 2 * (l.val / 2) + 1) + 1 := by
    show 512 * (8 * v + k.val) + (l.val % 2 * 256 + 4 * (l.val / 2) + 3) = _; ring
  have e3 : 16 * (8 * v + k.val) + (l.val % 2 * 8 + l.val / 16)
      = (256 * (8 * v + k.val) + 128 * (l.val % 2) + 2 * (l.val / 2) + 1) / 16 := by omega
  have e4 : 128 * (8 * v + k.val) + (64 * (l.val % 2) + l.val / 2)
      = (256 * (8 * v + k.val) + 128 * (l.val % 2) + 2 * (l.val / 2) + 1) / 2 := by omega
  rw [e1, e2, e3, e4]

theorem even_bytes (q : Fin 4) (i : Fin 32) (l : Fin 128) :
    outEven k0_pay1 (loByte T lanes a b (calls (BitVec.ofNat 32 step) k0_pay2 (pairOf (BitVec.ofNat 32 v) k)))
        (hiByte T lanes a b (calls (BitVec.ofNat 32 step) k0_pay2 (pairOf (BitVec.ofNat 32 v) k))) q (ix2 i l)
      = kbyte x a b (128 * step) (32 * q.val + i.val) (256 * (8 * v + k.val) + l.val) := by
  rw [outEven_apply _ even_apply]
  split
  · rw [lo_row x a b step v k T hT]; congr 1; omega
  · rw [hi_row x a b step v k T hT]; congr 1
    show 256 * (8 * v + k.val) + 128 * ((l.val - 1) % 2) + 2 * ((l.val - 1) / 2) + 1 = _; omega

theorem odd_bytes (q : Fin 4) (i : Fin 32) (l : Fin 128) :
    outOdd k0_pay1 (loByte T lanes a b (calls (BitVec.ofNat 32 step) k0_pay2 (pairOf (BitVec.ofNat 32 v) k)))
        (hiByte T lanes a b (calls (BitVec.ofNat 32 step) k0_pay2 (pairOf (BitVec.ofNat 32 v) k))) q (ix2 i l)
      = kbyte x a b (128 * step) (32 * q.val + i.val) (256 * (8 * v + k.val) + 128 + l.val) := by
  rw [outOdd_apply _ even_apply]
  split
  · rw [lo_row x a b step v k T hT]; congr 1
    show 256 * (8 * v + k.val) + 128 * ((l.val + 1) % 2) + 2 * ((l.val + 1) / 2) = _; omega
  · rw [hi_row x a b step v k T hT]; congr 1; omega

end

end Cert.Proof.Tile

end
-- ==== Proof.Step.lean ====
/- What one trip of the inner loop leaves in each buffer, element by element. -/
module

public import proofs.«01_k».proof.Proof.Inner

@[expose] public section

noncomputable section

namespace Cert.Proof.Tile

open Cert.KernelIdeal Cert.KernelIdeal.Gen
open Idealize.ShloMosaic Idealize.ShloMosaic.TcCoe
open Idealize.ShloMosaic.ValueIdx (ix2)
open scoped BigOperators

theorem ix2_surj {m n : ℕ} (z : (⟨2, ![m, n]⟩ : Shape).Idx) : ∃ (s : Fin m) (l : Fin n), z = ix2 s l := by
  refine ⟨z 0, z 1, ?_⟩
  funext a
  match a with
  | ⟨0, _⟩ => rfl
  | ⟨1, _⟩ => rfl

theorem slot_lane (k : Fin k0_t2_loop.trips) (l : Fin 128) :
    IntOp.cmpi .eq (IntOp.shrsi .vector (BitVec.ofNat 32 l.val) 4#32) (slotOf k) = BitVec.ofBool (l.val / 16 == k.val) := by
  have : ∀ (k : Fin k0_t2_loop.trips) (l : Fin 128),
    IntOp.cmpi .eq (IntOp.shrsi .vector (BitVec.ofNat 32 l.val) 4#32) (slotOf k) = BitVec.ofBool (l.val / 16 == k.val) := by decide +kernel
  exact this k l

/-- The group maxima kept for one slab: lane `l` takes a new value when its slot is this trip's. -/
theorem keep_apply {x : ℕ → ℕ → EReal} (T : Fin 16 → Fin 4 → FVec Ideal S8x128 .f32) (v : ℕ) (k : Fin k0_t2_loop.trips)
    (hT : IsTile x (8 * v + k.val) T) (old : Vec Ideal S8x128 .f32) (g : Fin 16) (s : Fin 8) (l : Fin 128) :
    slabKeep T lanes k0_pay3 (slotOf k) old g (ix2 s l)
      = if l.val / 16 = k.val then GM x (8 * g.val + s.val) (128 * v + l.val) else old (ix2 s l) := by
  unfold slabKeep
  rw [shapeCast_self]
  show Scalar.select (IntOp.cmpi .eq (IntOp.shrsi .vector (lanes (ix2 s l)) 4#32) (slotOf k)) (gather _ k0_pay3 (ix2 s l)) _ = _
  rw [lanes_apply, slot_lane]
  by_cases h : l.val / 16 = k.val
  · rw [if_pos h, show (l.val / 16 == k.val) = true by simpa using h, sel_true,
      gather_apply _ _ _ _ (⟨l.val % 8 * 16 + l.val / 8 % 2, by omega⟩ : Fin 128) (source_apply _ _),
      slabMax_apply (x := x) (v := v) (k := k) (hT := hT)]
    congr 1
    have e1 : (l.val % 8 * 16 + l.val / 8 % 2) % 2 = l.val / 8 % 2 := by omega
    have e2 : (l.val % 8 * 16 + l.val / 8 % 2) / 16 = l.val % 8 := by omega
    dsimp only
    rw [e1, e2]
    omega
  · rw [if_neg h, show (l.val / 16 == k.val) = false by simpa using h, sel_false]

/-- One stored piece of codes agrees with the bytes of the whole. -/
theorem piece_bytes (G : S128x10240.Idx → BitVec 8) (H : ℕ → ℕ → BitVec 8) (o p : ℕ) (off : Fin 2 → ℕ)
    (inb : ∀ a, off a + S32x128.size a ≤ S128x10240.size a) (w : Vec Ideal S32x128 .i8) (hoff : off = ![o, p])
    (hw : ∀ (i : Fin 32) (l : Fin 128), w (ix2 i l) = H (o + i.val) (p + l.val))
    (hG : ∀ y : S128x10240.Idx, p ≤ (y 1).val → (y 1).val < p + 128 → G y = H (y 0).val (y 1).val) :
    ∀ z, w z = G ((Rect.unit (s := S128x10240) off S32x128.size inb).emb z) := by
  subst hoff
  intro z
  obtain ⟨i, l, rfl⟩ : ∃ (s : Fin 32) (l : Fin 128), z = ix2 s l := ix2_surj z
  have e0 : ((Rect.unit (s := S128x10240) ![o, p] S32x128.size inb).emb (ix2 i l) 0).val = o + i.val := by
    show o + 1 * i.val = _; omega
  have e1 : ((Rect.unit (s := S128x10240) ![o, p] S32x128.size inb).emb (ix2 i l) 1).val = p + l.val := by
    show p + 1 * l.val = _; omega
  rw [hG _ (by rw [e1]; omega) (by rw [e1]; omega), e0, e1]
  exact hw i l

theorem mem_bytes (o p : ℕ) (off : Fin 2 → ℕ) (inb : ∀ a, off a + S32x128.size a ≤ S128x10240.size a) (hoff : off = ![o, p])
    (y : S128x10240.Idx) (h0 : o ≤ (y 0).val ∧ (y 0).val < o + 32) (h1 : p ≤ (y 1).val ∧ (y 1).val < p + 128) :
    y ∈ (Rect.unit (s := S128x10240) off S32x128.size inb).set := by
  subst hoff
  rw [Rect.mem_set_unit]
  intro a
  match a with
  | ⟨0, _⟩ => exact h0
  | ⟨1, _⟩ => exact h1

section

variable (𝒱 : Variants) (c : Dev nD) (bd : Option 𝒱.V) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole) (v0 : Elt Ideal .i32) (v1 : Elt Ideal .i32) (c0_i32_5 : BitVec 32) (c1_i32_6 : BitVec 32) (k0_t1 : Fin k0_t1_loop.trips) (X_arg2 : BufTy.Contents (Elt Ideal) arg2.view.ty) (X_arg3 : BufTy.Contents (Elt Ideal) arg3.view.ty) (k : Fin k0_t2_loop.trips)
  (f4 : BufTy.Contents (Elt Ideal) arg4.view.ty) (f6 : BufTy.Contents (Elt Ideal) arg6.view.ty) (f8 : BufTy.Contents (Elt Ideal) arg8.view.ty) (f9 : BufTy.Contents (Elt Ideal) arg9.view.ty) (step : ℕ)
  (hp : IsPerm (at2 (arg3.view.read (Elt Ideal) X_arg3)))

/-- The block a trip reads. -/
abbrev blkOf (arg2 : Memref sig .tc .vmem S128x20480 .bf16) (X : BufTy.Contents (Elt Ideal) arg2.view.ty) : ℕ → ℕ → EReal :=
  at2 (M := 128) (N := 20480) (arg2.view.read (Elt Ideal) X)

include hp in
theorem prodTile_isTile : IsTile (blkOf arg2 X_arg2) (8 * k0_t1.val + k.val) (prodTile arg2 arg3 arg8 k0_t1 X_arg2 X_arg3 k) := by
  intro g j s l
  unfold prodTile View.readCov
  rw [View.readAt_apply]
  refine (View.read_writes_cons_unit_of_mem arg8.view _ _ _ [] _ (ix2 (⟨8 * g.val + s.val, by omega⟩ : Fin 128) (⟨128 * j.val + l.val, by omega⟩ : Fin 512)) rfl ?_).trans ?_
  · intro a
    match a with
    | ⟨0, _⟩ => show 8 * g.val + 1 * s.val = 0 + (8 * g.val + s.val); omega
    | ⟨1, _⟩ => show 128 * j.val + 1 * l.val = 0 + (128 * j.val + l.val); omega
  unfold prodOf
  have hp' : IsPerm (at2 (M := 512) (N := 512) (arg3.view.readAt (Elt Ideal) (Rect.unit (s := S512x512) ![0, 0] S512x512.size inb_S512x512_S512x512_0_0).toLoadRect X_arg3)) := by
    have e : (arg3.view.readAt (Elt Ideal) (Rect.unit (s := S512x512) ![0, 0] S512x512.size inb_S512x512_S512x512_0_0).toLoadRect X_arg3)
        = arg3.view.read (Elt Ideal) X_arg3 := by
      funext y
      refine (readAt_unit (M := 512) (N := 512) (m := 512) (n := 512) arg3.view X_arg3 _ 0 0 _ rfl y).trans ?_
      exact (at2_eq (M := 512) (N := 512) _ y _ _ (by omega) (by omega)).symm
    rw [e]; exact hp
  rw [pay7_apply _ _ hp' _ j.val l.val j.isLt l.isLt]
  refine (readAt_unit (M := 128) (N := 20480) (m := 128) (n := 512) arg2.view X_arg2 _ 0 (4096 * k0_t1.val + 512 * k.val) _ (k0_off1_eq k0_t1 k) _).trans ?_
  show at2 _ (0 + (8 * g.val + s.val)) (4096 * k0_t1.val + 512 * k.val + permCol j.val l.val) = _
  congr 1 <;> omega

theorem step_dbias (y : S8x20480.Idx) :
    arg6.view.read (Elt Ideal) (arg6.view.writes (Elt Ideal) f6 ((trip_k0_t2 (F := Ideal) 𝒱 c bd i arg1 harg1 arg2 harg2 arg3 harg3 arg4 harg4 arg5 harg5 arg6 harg6 arg7 harg7 arg8 harg8 arg9 harg9 (BitVec.ofNat 32 step) v0 v1 lanes k0_pay1 k0_pay2 k0_pay3 c0_i32_5 c1_i32_6 k0_t1 (BitVec.ofNat 32 k0_t1.val) X_arg2 X_arg3 k).2.1 f4 f6 f8 f9)) y
      = if 512 * (8 * k0_t1.val + k.val) ≤ (y 1).val ∧ (y 1).val < 512 * (8 * k0_t1.val + k.val) + 512
        then arg6.view.read (Elt Ideal) f6 y + ∑ r : Fin 128, blkOf arg2 X_arg2 r.val (y 1).val
        else arg6.view.read (Elt Ideal) f6 y := by
  rw [trip_dbias]
  have hy0 : (y 0).val < 8 := (y 0).isLt
  by_cases h : 512 * (8 * k0_t1.val + k.val) ≤ (y 1).val ∧ (y 1).val < 512 * (8 * k0_t1.val + k.val) + 512
  · rw [if_pos h]
    refine (View.read_writes_cons_unit_of_mem arg6.view f6 _ _ [] y (ix2 (⟨(y 0).val, hy0⟩ : Fin 8) (⟨(y 1).val - 512 * (8 * k0_t1.val + k.val), by omega⟩ : Fin 512)) (k0_off2_eq k0_t1 k) ?_).trans ?_
    · intro a
      match a with
      | ⟨0, _⟩ => show (y 0).val = 0 + (y 0).val; omega
      | ⟨1, _⟩ => show (y 1).val = 4096 * k0_t1.val + 512 * k.val + ((y 1).val - 512 * (8 * k0_t1.val + k.val)); omega
    rw [pay8_apply]
    congr 1
    · refine (readAt_unit (M := 8) (N := 20480) (m := 8) (n := 512) arg6.view f6 _ 0 (4096 * k0_t1.val + 512 * k.val) _ (k0_off2_eq k0_t1 k) _).trans ?_
      refine (at2_eq (M := 8) (N := 20480) _ y _ _ ?_ ?_).symm
      · show (y 0).val = 0 + (y 0).val; omega
      · show (y 1).val = 4096 * k0_t1.val + 512 * k.val + ((y 1).val - 512 * (8 * k0_t1.val + k.val)); omega
    · refine Finset.sum_congr rfl fun r _ => ?_
      refine (readAt_unit (M := 128) (N := 20480) (m := 128) (n := 512) arg2.view X_arg2 _ 0 (4096 * k0_t1.val + 512 * k.val) _ (k0_off1_eq k0_t1 k) _).trans ?_
      show at2 _ (0 + r.val) (4096 * k0_t1.val + 512 * k.val + ((y 1).val - 512 * (8 * k0_t1.val + k.val))) = _
      congr 1 <;> omega
  · rw [if_neg h]
    exact View.read_writes_cons_unit_of_not_mem arg6.view f6 _ _ [] y (k0_off2_eq k0_t1 k) 1 (by
      show (y 1).val < 4096 * k0_t1.val + 512 * k.val ∨ 4096 * k0_t1.val + 512 * k.val + 512 ≤ (y 1).val; omega)

include hp in
theorem step_gmax (y : S128x128.Idx) :
    arg9.view.read (Elt Ideal) (arg9.view.writes (Elt Ideal) f9 ((trip_k0_t2 (F := Ideal) 𝒱 c bd i arg1 harg1 arg2 harg2 arg3 harg3 arg4 harg4 arg5 harg5 arg6 harg6 arg7 harg7 arg8 harg8 arg9 harg9 (BitVec.ofNat 32 step) v0 v1 lanes k0_pay1 k0_pay2 k0_pay3 c0_i32_5 c1_i32_6 k0_t1 (BitVec.ofNat 32 k0_t1.val) X_arg2 X_arg3 k).2.2.2.1 f4 f6 f8 f9)) y
      = if (y 1).val / 16 = k.val then GM (blkOf arg2 X_arg2) (y 0).val (128 * k0_t1.val + (y 1).val)
        else arg9.view.read (Elt Ideal) f9 y := by
  rw [trip_gmax]
  have hT := prodTile_isTile arg2 arg3 arg8 k0_t1 X_arg2 X_arg3 k hp
  refine View.read_writes_apply_of_pieces arg9.view f9
    (fun y => if (y 1).val / 16 = k.val then GM (blkOf arg2 X_arg2) (y 0).val (128 * k0_t1.val + (y 1).val) else arg9.view.read (Elt Ideal) f9 y) _ ?_ y ?_
  · intro p hpm z
    obtain ⟨g, -, rfl⟩ := List.mem_map.mp hpm
    obtain ⟨s, l, rfl⟩ : ∃ (s : Fin 8) (l : Fin 128), z = ix2 s l := ix2_surj z
    have e0 : ((gPiece arg9 (prodTile arg2 arg3 arg8 k0_t1 X_arg2 X_arg3 k) lanes k0_pay3 (slotOf k) f9 g).1.emb (ix2 s l) 0).val = 8 * g.val + s.val := by
      show 8 * g.val + 1 * s.val = _; omega
    have e1 : ((gPiece arg9 (prodTile arg2 arg3 arg8 k0_t1 X_arg2 X_arg3 k) lanes k0_pay3 (slotOf k) f9 g).1.emb (ix2 s l) 1).val = l.val := by
      show 0 + 1 * l.val = _; omega
    refine (keep_apply _ k0_t1.val k hT _ g s l).trans ?_
    dsimp only
    rw [e0, e1]
    refine if_congr Iff.rfl rfl ?_
    refine (readAt_unit (M := 128) (N := 128) (m := 8) (n := 128) arg9.view f9 _ (8 * g.val) 0 _ rfl _).trans ?_
    refine (at2_eq (M := 128) (N := 128) _ _ _ _ ?_ ?_).symm
    · show 8 * g.val + 1 * s.val = 8 * g.val + s.val; omega
    · show 0 + 1 * l.val = 0 + l.val; omega
  · have hy0 : (y 0).val < 128 := (y 0).isLt
    have hy1 : (y 1).val < 128 := (y 1).isLt
    refine ⟨_, List.mem_map.mpr ⟨⟨(y 0).val / 8, by omega⟩, ?_, rfl⟩, ?_⟩
    · generalize (⟨(y 0).val / 8, by omega⟩ : Fin 16) = g
      revert g; decide
    · show y ∈ (Rect.unit (s := S128x128) ![8 * ((y 0).val / 8), 0] S8x128.size (inbK ⟨(y 0).val / 8, by omega⟩)).set
      rw [Rect.mem_set_unit]
      intro a
      match a with
      | ⟨0, _⟩ => show 8 * ((y 0).val / 8) ≤ (y 0).val ∧ (y 0).val < 8 * ((y 0).val / 8) + 8; omega
      | ⟨1, _⟩ => show 0 ≤ (y 1).val ∧ (y 1).val < 0 + 128; omega

include hp in
theorem step_codes (y : S128x10240.Idx) :
    arg4.view.read (Elt Ideal) (arg4.view.writes (Elt Ideal) f4 ((trip_k0_t2 (F := Ideal) 𝒱 c bd i arg1 harg1 arg2 harg2 arg3 harg3 arg4 harg4 arg5 harg5 arg6 harg6 arg7 harg7 arg8 harg8 arg9 harg9 (BitVec.ofNat 32 step) v0 v1 lanes k0_pay1 k0_pay2 k0_pay3 c0_i32_5 c1_i32_6 k0_t1 (BitVec.ofNat 32 k0_t1.val) X_arg2 X_arg3 k).1 f4 f6 f8 f9)) y
      = if 256 * (8 * k0_t1.val + k.val) ≤ (y 1).val ∧ (y 1).val < 256 * (8 * k0_t1.val + k.val) + 256
        then kbyte (blkOf arg2 X_arg2) v0 v1 (128 * step) (y 0).val (y 1).val
        else arg4.view.read (Elt Ideal) f4 y := by
  rw [trip_codes]
  have hT := prodTile_isTile arg2 arg3 arg8 k0_t1 X_arg2 X_arg3 k hp
  have hy0 : (y 0).val < 128 := (y 0).isLt
  dsimp only
  generalize prodTile arg2 arg3 arg8 k0_t1 X_arg2 X_arg3 k = T at hT ⊢
  have he := even_bytes (blkOf arg2 X_arg2) v0 v1 step k0_t1.val k T hT
  have ho := odd_bytes (blkOf arg2 X_arg2) v0 v1 step k0_t1.val k T hT
  have E : ∀ q : Fin 4, ∀ (i : Fin 32) (l : Fin 128), _ = kbyte (blkOf arg2 X_arg2) v0 v1 (128 * step) (32 * q.val + i.val) (2048 * k0_t1.val + 256 * k.val + l.val) :=
    fun q i l => (he q i l).trans (congrArg _ (by omega))
  have O : ∀ q : Fin 4, ∀ (i : Fin 32) (l : Fin 128), _ = kbyte (blkOf arg2 X_arg2) v0 v1 (128 * step) (32 * q.val + i.val) (2048 * k0_t1.val + 256 * k.val + 128 + l.val) :=
    fun q i l => (ho q i l).trans (congrArg _ (by omega))
  by_cases h : 256 * (8 * k0_t1.val + k.val) ≤ (y 1).val ∧ (y 1).val < 256 * (8 * k0_t1.val + k.val) + 256
  · rw [if_pos h]
    have hG : ∀ y : S128x10240.Idx, 2048 * k0_t1.val + 256 * k.val ≤ (y 1).val → (y 1).val < 2048 * k0_t1.val + 256 * k.val + 128 →
        (fun y : S128x10240.Idx => kbyte (blkOf arg2 X_arg2) v0 v1 (128 * step) (y 0).val (y 1).val) y
          = kbyte (blkOf arg2 X_arg2) v0 v1 (128 * step) (y 0).val (y 1).val := fun _ _ _ => rfl
    refine View.read_writes_apply_of_pieces arg4.view f4 (fun y => kbyte (blkOf arg2 X_arg2) v0 v1 (128 * step) (y 0).val (y 1).val) _ ?_ y ?_
    · simp only [List.forall_mem_cons, List.not_mem_nil, false_imp_iff, implies_true, and_true]
      exact ⟨piece_bytes _ _ 96 _ _ _ _ (k0_off10_eq k0_t1 k) (O 3) (fun _ _ _ => rfl), piece_bytes _ _ 96 _ _ _ _ (k0_off9_eq k0_t1 k) (E 3) (fun _ _ _ => rfl),
        piece_bytes _ _ 64 _ _ _ _ (k0_off8_eq k0_t1 k) (O 2) (fun _ _ _ => rfl), piece_bytes _ _ 64 _ _ _ _ (k0_off7_eq k0_t1 k) (E 2) (fun _ _ _ => rfl),
        piece_bytes _ _ 32 _ _ _ _ (k0_off6_eq k0_t1 k) (O 1) (fun _ _ _ => rfl), piece_bytes _ _ 32 _ _ _ _ (k0_off5_eq k0_t1 k) (E 1) (fun _ _ _ => rfl),
        piece_bytes _ _ 0 _ _ _ _ (k0_off4_eq k0_t1 k) (O 0) (fun _ _ _ => rfl), piece_bytes _ _ 0 _ _ _ _ (k0_off3_eq k0_t1 k) (E 0) (fun _ _ _ => rfl)⟩
    · simp only [List.exists_mem_cons_iff, List.not_mem_nil, false_and, exists_false, or_false]
      have hc : (y 1).val < 2048 * k0_t1.val + 256 * k.val + 128 ∨ 2048 * k0_t1.val + 256 * k.val + 128 ≤ (y 1).val := by omega
      have hr : (y 0).val / 32 = 0 ∨ (y 0).val / 32 = 1 ∨ (y 0).val / 32 = 2 ∨ (y 0).val / 32 = 3 := by omega
      rcases hc with hc | hc <;> rcases hr with hr | hr | hr | hr
      · exact .inr (.inr (.inr (.inr (.inr (.inr (.inr (mem_bytes 0 _ _ _ (k0_off3_eq k0_t1 k) y (by omega) (by omega))))))))
      · exact .inr (.inr (.inr (.inr (.inr (.inl (mem_bytes 32 _ _ _ (k0_off5_eq k0_t1 k) y (by omega) (by omega)))))))
      · exact .inr (.inr (.inr (.inl (mem_bytes 64 _ _ _ (k0_off7_eq k0_t1 k) y (by omega) (by omega)))))
      · exact .inr (.inl (mem_bytes 96 _ _ _ (k0_off9_eq k0_t1 k) y (by omega) (by omega)))
      · exact .inr (.inr (.inr (.inr (.inr (.inr (.inl (mem_bytes 0 _ _ _ (k0_off4_eq k0_t1 k) y (by omega) (by omega))))))))
      · exact .inr (.inr (.inr (.inr (.inl (mem_bytes 32 _ _ _ (k0_off6_eq k0_t1 k) y (by omega) (by omega))))))
      · exact .inr (.inr (.inl (mem_bytes 64 _ _ _ (k0_off8_eq k0_t1 k) y (by omega) (by omega))))
      · exact .inl (mem_bytes 96 _ _ _ (k0_off10_eq k0_t1 k) y (by omega) (by omega))
  · rw [if_neg h]
    have out : ∀ (o p : ℕ) (off : Fin 2 → ℕ) (inb : ∀ a, off a + S32x128.size a ≤ S128x10240.size a), off = ![o, p] →
        ((y 1).val < p ∨ p + 128 ≤ (y 1).val) → y ∉ (Rect.unit (s := S128x10240) off S32x128.size inb).set := by
      intro o p off inb hoff hp hm
      subst hoff
      rw [Rect.mem_set_unit] at hm
      have h1 : p ≤ (y 1).val ∧ (y 1).val < p + 128 := hm 1
      omega
    refine View.read_writes_apply_of_forall_not_mem arg4.view f4 y _ ?_
    simp only [List.forall_mem_cons, List.not_mem_nil, false_imp_iff, implies_true, and_true]
    exact ⟨out _ _ _ _ (k0_off10_eq k0_t1 k) (by omega), out _ _ _ _ (k0_off9_eq k0_t1 k) (by omega), out _ _ _ _ (k0_off8_eq k0_t1 k) (by omega),
      out _ _ _ _ (k0_off7_eq k0_t1 k) (by omega), out _ _ _ _ (k0_off6_eq k0_t1 k) (by omega), out _ _ _ _ (k0_off5_eq k0_t1 k) (by omega),
      out _ _ _ _ (k0_off4_eq k0_t1 k) (by omega), out _ _ _ _ (k0_off3_eq k0_t1 k) (by omega)⟩

end

end Cert.Proof.Tile

end
-- ==== Proof.Trips.lean ====
/- What the trips of the inner loop leave together, element by element. -/
module

public import proofs.«01_k».proof.Proof.Step

@[expose] public section

noncomputable section

namespace Cert.Proof.Tile

open Cert.KernelIdeal Cert.KernelIdeal.Gen
open Idealize.ShloMosaic Idealize.ShloMosaic.TcCoe
open Idealize.ShloMosaic.ValueIdx (ix2)
open scoped BigOperators

section

variable (𝒱 : Variants) (c : Dev nD) (bd : Option 𝒱.V) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole) (v0 : Elt Ideal .i32) (v1 : Elt Ideal .i32) (c0_i32_5 : BitVec 32) (c1_i32_6 : BitVec 32) (k0_t1 : Fin k0_t1_loop.trips) (X_arg2 : BufTy.Contents (Elt Ideal) arg2.view.ty) (X_arg3 : BufTy.Contents (Elt Ideal) arg3.view.ty) (g4 : BufTy.Contents (Elt Ideal) arg4.view.ty) (g6 : BufTy.Contents (Elt Ideal) arg6.view.ty) (g8 : BufTy.Contents (Elt Ideal) arg8.view.ty) (g9 : BufTy.Contents (Elt Ideal) arg9.view.ty) (step : ℕ)
  (hp : IsPerm (at2 (M := 512) (N := 512) (arg3.view.read (Elt Ideal) X_arg3)))

include hp in
/-- After `n` trips of the inner loop: the bytes, the column sums and the group maxima of the first `n` column tiles are in. -/
theorem inner (n : ℕ) (hn : n ≤ k0_t2_loop.trips) :
    (∀ y : S128x10240.Idx, arg4.view.read (Elt Ideal) (arg4.view.writes (Elt Ideal) g4 (pb_k0_t2 (F := Ideal) 𝒱 c bd i arg1 harg1 arg2 harg2 arg3 harg3 arg4 harg4 arg5 harg5 arg6 harg6 arg7 harg7 arg8 harg8 arg9 harg9 (BitVec.ofNat 32 step) v0 v1 lanes k0_pay1 k0_pay2 k0_pay3 c0_i32_5 c1_i32_6 k0_t1 (BitVec.ofNat 32 k0_t1.val) X_arg2 X_arg3 g4 g6 g8 g9 n).1) y
        = if 2048 * k0_t1.val ≤ (y 1).val ∧ (y 1).val < 2048 * k0_t1.val + 256 * n
          then kbyte (blkOf arg2 X_arg2) v0 v1 (128 * step) (y 0).val (y 1).val else arg4.view.read (Elt Ideal) g4 y)
    ∧ (∀ y : S8x20480.Idx, arg6.view.read (Elt Ideal) (arg6.view.writes (Elt Ideal) g6 (pb_k0_t2 (F := Ideal) 𝒱 c bd i arg1 harg1 arg2 harg2 arg3 harg3 arg4 harg4 arg5 harg5 arg6 harg6 arg7 harg7 arg8 harg8 arg9 harg9 (BitVec.ofNat 32 step) v0 v1 lanes k0_pay1 k0_pay2 k0_pay3 c0_i32_5 c1_i32_6 k0_t1 (BitVec.ofNat 32 k0_t1.val) X_arg2 X_arg3 g4 g6 g8 g9 n).2.1) y
        = if 4096 * k0_t1.val ≤ (y 1).val ∧ (y 1).val < 4096 * k0_t1.val + 512 * n
          then arg6.view.read (Elt Ideal) g6 y + ∑ r : Fin 128, blkOf arg2 X_arg2 r.val (y 1).val else arg6.view.read (Elt Ideal) g6 y)
    ∧ (∀ y : S128x128.Idx, arg9.view.read (Elt Ideal) (arg9.view.writes (Elt Ideal) g9 (pb_k0_t2 (F := Ideal) 𝒱 c bd i arg1 harg1 arg2 harg2 arg3 harg3 arg4 harg4 arg5 harg5 arg6 harg6 arg7 harg7 arg8 harg8 arg9 harg9 (BitVec.ofNat 32 step) v0 v1 lanes k0_pay1 k0_pay2 k0_pay3 c0_i32_5 c1_i32_6 k0_t1 (BitVec.ofNat 32 k0_t1.val) X_arg2 X_arg3 g4 g6 g8 g9 n).2.2.2) y
        = if (y 1).val / 16 < n then GM (blkOf arg2 X_arg2) (y 0).val (128 * k0_t1.val + (y 1).val) else arg9.view.read (Elt Ideal) g9 y) := by
  induction n with
  | zero =>
    refine ⟨fun y => ?_, fun y => ?_, fun y => ?_⟩
    · rw [if_neg (by omega)]; rfl
    · rw [if_neg (by omega)]; rfl
    · rw [if_neg (by omega)]; rfl
  | succ n ih =>
    obtain ⟨i1, i2, i3⟩ := ih (by omega)
    rw [pb_k0_t2_succ (k := ⟨n, hn⟩)]
    generalize (pb_k0_t2 (F := Ideal) 𝒱 c bd i arg1 harg1 arg2 harg2 arg3 harg3 arg4 harg4 arg5 harg5 arg6 harg6 arg7 harg7 arg8 harg8 arg9 harg9 (BitVec.ofNat 32 step) v0 v1 lanes k0_pay1 k0_pay2 k0_pay3 c0_i32_5 c1_i32_6 k0_t1 (BitVec.ofNat 32 k0_t1.val) X_arg2 X_arg3 g4 g6 g8 g9 n) = P at i1 i2 i3 ⊢
    refine ⟨fun y => ?_, fun y => ?_, fun y => ?_⟩
    · dsimp only
      rw [View.writes_append]
      refine (step_codes 𝒱 c bd i arg1 harg1 arg2 harg2 arg3 harg3 arg4 harg4 arg5 harg5 arg6 harg6 arg7 harg7 arg8 harg8 arg9 harg9 v0 v1 c0_i32_5 c1_i32_6 k0_t1 X_arg2 X_arg3 ⟨n, hn⟩ _ _ _ _ step hp y).trans ?_
      rw [i1 y]
      dsimp only
      split_ifs <;> first | rfl | omega
    · dsimp only
      rw [View.writes_append]
      refine (step_dbias 𝒱 c bd i arg1 harg1 arg2 harg2 arg3 harg3 arg4 harg4 arg5 harg5 arg6 harg6 arg7 harg7 arg8 harg8 arg9 harg9 v0 v1 c0_i32_5 c1_i32_6 k0_t1 X_arg2 X_arg3 ⟨n, hn⟩ _ _ _ _ step y).trans ?_
      rw [i2 y]
      dsimp only
      split_ifs <;> first | rfl | omega
    · dsimp only
      rw [View.writes_append]
      refine (step_gmax 𝒱 c bd i arg1 harg1 arg2 harg2 arg3 harg3 arg4 harg4 arg5 harg5 arg6 harg6 arg7 harg7 arg8 harg8 arg9 harg9 v0 v1 c0_i32_5 c1_i32_6 k0_t1 X_arg2 X_arg3 ⟨n, hn⟩ _ _ _ _ step hp y).trans ?_
      rw [i3 y]
      dsimp only
      split_ifs <;> first | rfl | omega

end

end Cert.Proof.Tile

end
-- ==== Proof.Outer.lean ====
/- The outer loop with its values: what the six buffers hold after each of its trips, given as a recursion over the inner
   loop's writes, and the loop gone through by the invariant that they hold just that. -/
module

public import proofs.«01_k».proof.Proof.Gen.KernelIdeal.Loops
public import proofs.«01_k».proof.Proof.Gen.KernelIdeal.Frame
public import proofs.«01_k».proof.Proof.Trips

@[expose] public section

noncomputable section

namespace Cert.Proof.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Proof.Tile (lanes)
open Idealize.SL.BI.BIBase Idealize.SL.BI.Laws Idealize.SL.ProofMode Idealize.SL.Sem
open Idealize.ShloMosaic.Pipeline (Dat RDat Cfg Window BodyObligation BodyObligationLoose)

local notation "𝕄" => MT nD τ sig Unit (Elt Ideal) ℕ (UR sig nD τ) ℕ

/-- What the six written buffers hold. -/
structure Bufs (arg4 : Memref sig .tc .vmem S128x10240 .i8) (arg5 : Memref sig .tc .vmem S128x640 .i8) (arg6 : Memref sig .tc .vmem S8x20480 .f32)
    (arg7 : Memref sig .tc .vmem S8x128 .f32) (arg8 : Memref sig .tc .vmem S128x512 .f32) (arg9 : Memref sig .tc .vmem S128x128 .f32) where
  c4 : BufTy.Contents (Elt Ideal) arg4.view.ty
  c5 : BufTy.Contents (Elt Ideal) arg5.view.ty
  c6 : BufTy.Contents (Elt Ideal) arg6.view.ty
  c7 : BufTy.Contents (Elt Ideal) arg7.view.ty
  c8 : BufTy.Contents (Elt Ideal) arg8.view.ty
  c9 : BufTy.Contents (Elt Ideal) arg9.view.ty

section

variable (c : Dev nD) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole) (arg0 : BitVec 32) (v0 : Elt Ideal .i32) (v1 : Elt Ideal .i32) (v2 : IVec S8x128 32)
  (X2 : BufTy.Contents (Elt Ideal) arg2.view.ty) (X3 : BufTy.Contents (Elt Ideal) arg3.view.ty)

/-- The eight trips of the inner loop within trip `k`, as lists of what was written. -/
abbrev innerPieces (k : Fin k0_t1_loop.trips) (b : Bufs arg4 arg5 arg6 arg7 arg8 arg9) :=
  pb_k0_t2 (F := Ideal) Variants.none c none i arg1 harg1 arg2 harg2 arg3 harg3 arg4 harg4 arg5 harg5 arg6 harg6 arg7 harg7 arg8 harg8 arg9 harg9 arg0 v0 v1 v2 k0_pay1 k0_pay2 k0_pay3 0#32 1#32 k
    (Scalar.addi 0#32 (Scalar.muli (Scf.iv 0#32 1#32 k) 1#32)) X2 X3 b.c4 b.c6 b.c8 b.c9 k0_t2_loop.trips

/-- The group maxima as read back after the inner loop. -/
abbrev readMax (f9 : BufTy.Contents (Elt Ideal) arg9.view.ty) : Vec Ideal S128x128 .f32 :=
  arg9.view.readAt (Elt Ideal) (Rect.unit (s := S128x128) ![0, 0] S128x128.size inb_S128x128_S128x128_0_0).toLoadRect f9

/-- One trip of the outer loop. -/
def outStep (k : Fin k0_t1_loop.trips) (b : Bufs arg4 arg5 arg6 arg7 arg8 arg9) : Bufs arg4 arg5 arg6 arg7 arg8 arg9 where
  c4 := arg4.view.writes (Elt Ideal) b.c4 (innerPieces c i arg1 harg1 arg2 harg2 arg3 harg3 arg4 harg4 arg5 harg5 arg6 harg6 arg7 harg7 arg8 harg8 arg9 harg9 arg0 v0 v1 v2 X2 X3 k b).1
  c5 := arg5.view.writes (Elt Ideal) b.c5 [⟨Rect.unit (s := S128x640) (k0_off11 k) S128x128.size (k0_off11_inb k),
    k0_pay1597 (readMax arg9 (arg9.view.writes (Elt Ideal) b.c9 (innerPieces c i arg1 harg1 arg2 harg2 arg3 harg3 arg4 harg4 arg5 harg5 arg6 harg6 arg7 harg7 arg8 harg8 arg9 harg9 arg0 v0 v1 v2 X2 X3 k b).2.2.2)) k0_pay1594 k0_pay1595 k0_pay1596⟩]
  c6 := arg6.view.writes (Elt Ideal) b.c6 (innerPieces c i arg1 harg1 arg2 harg2 arg3 harg3 arg4 harg4 arg5 harg5 arg6 harg6 arg7 harg7 arg8 harg8 arg9 harg9 arg0 v0 v1 v2 X2 X3 k b).2.1
  c7 := arg7.view.writes (Elt Ideal) b.c7 [⟨Rect.unit (s := S8x128) ![0, 0] S8x128.size inb_S8x128_S8x128_0_0,
    k0_pay1593 (readMax arg9 (arg9.view.writes (Elt Ideal) b.c9 (innerPieces c i arg1 harg1 arg2 harg2 arg3 harg3 arg4 harg4 arg5 harg5 arg6 harg6 arg7 harg7 arg8 harg8 arg9 harg9 arg0 v0 v1 v2 X2 X3 k b).2.2.2))
      (arg7.view.readAt (Elt Ideal) (Rect.unit (s := S8x128) ![0, 0] S8x128.size inb_S8x128_S8x128_0_0).toLoadRect b.c7)⟩]
  c8 := arg8.view.writes (Elt Ideal) b.c8 (innerPieces c i arg1 harg1 arg2 harg2 arg3 harg3 arg4 harg4 arg5 harg5 arg6 harg6 arg7 harg7 arg8 harg8 arg9 harg9 arg0 v0 v1 v2 X2 X3 k b).2.2.1
  c9 := arg9.view.writes (Elt Ideal) b.c9 (innerPieces c i arg1 harg1 arg2 harg2 arg3 harg3 arg4 harg4 arg5 harg5 arg6 harg6 arg7 harg7 arg8 harg8 arg9 harg9 arg0 v0 v1 v2 X2 X3 k b).2.2.2

/-- The buffers after `n` trips of the outer loop. -/
def outState (g4 : BufTy.Contents (Elt Ideal) arg4.view.ty) (g5 : BufTy.Contents (Elt Ideal) arg5.view.ty) (g6 : BufTy.Contents (Elt Ideal) arg6.view.ty)
    (g7 : BufTy.Contents (Elt Ideal) arg7.view.ty) (g8 : BufTy.Contents (Elt Ideal) arg8.view.ty) (g9 : BufTy.Contents (Elt Ideal) arg9.view.ty) :
    ℕ → Bufs arg4 arg5 arg6 arg7 arg8 arg9
  | 0 => ⟨g4, g5, g6, g7, g8, g9⟩
  | n + 1 => if h : n < k0_t1_loop.trips then outStep c i arg1 harg1 arg2 harg2 arg3 harg3 arg4 harg4 arg5 harg5 arg6 harg6 arg7 harg7 arg8 harg8 arg9 harg9 arg0 v0 v1 v2 X2 X3 ⟨n, h⟩ (outState g4 g5 g6 g7 g8 g9 n) else outState g4 g5 g6 g7 g8 g9 n

theorem outState_succ (g4 : BufTy.Contents (Elt Ideal) arg4.view.ty) (g5 : BufTy.Contents (Elt Ideal) arg5.view.ty) (g6 : BufTy.Contents (Elt Ideal) arg6.view.ty)
    (g7 : BufTy.Contents (Elt Ideal) arg7.view.ty) (g8 : BufTy.Contents (Elt Ideal) arg8.view.ty) (g9 : BufTy.Contents (Elt Ideal) arg9.view.ty) (k : Fin k0_t1_loop.trips) :
    outState c i arg1 harg1 arg2 harg2 arg3 harg3 arg4 harg4 arg5 harg5 arg6 harg6 arg7 harg7 arg8 harg8 arg9 harg9 arg0 v0 v1 v2 X2 X3 g4 g5 g6 g7 g8 g9 (k.val + 1)
      = outStep c i arg1 harg1 arg2 harg2 arg3 harg3 arg4 harg4 arg5 harg5 arg6 harg6 arg7 harg7 arg8 harg8 arg9 harg9 arg0 v0 v1 v2 X2 X3 k (outState c i arg1 harg1 arg2 harg2 arg3 harg3 arg4 harg4 arg5 harg5 arg6 harg6 arg7 harg7 arg8 harg8 arg9 harg9 arg0 v0 v1 v2 X2 X3 g4 g5 g6 g7 g8 g9 k.val) := by
  rw [outState.eq_2]; exact dif_pos k.isLt

set_option maxHeartbeats 1600000 in
set_option warn.classDefReducibility false in
/-- The outer loop: the input block and the permutation stay as they are, the six buffers hold what the recursion says. -/
@[sl_loop] def loopInv_k0_t1 (g4 : BufTy.Contents (Elt Ideal) arg4.view.ty) (g5 : BufTy.Contents (Elt Ideal) arg5.view.ty) (g6 : BufTy.Contents (Elt Ideal) arg6.view.ty)
    (g7 : BufTy.Contents (Elt Ideal) arg7.view.ty) (g8 : BufTy.Contents (Elt Ideal) arg8.view.ty) (g9 : BufTy.Contents (Elt Ideal) arg9.view.ty) :
    LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg0 v0 v1 v2 where
  inv := fun k _ => iprop((arg2.view.loc (c : Thread nD τ) ↦[arg2.view.set]{fullShare} X2)
    ∗ (arg3.view.loc (c : Thread nD τ) ↦[arg3.view.set]{fullShare} X3)
    ∗ (∃ f, (arg4.view.loc (c : Thread nD τ) ↦[arg4.view.set]{fullShare} f) ∗ ⌜f = (outState c i arg1 harg1 arg2 harg2 arg3 harg3 arg4 harg4 arg5 harg5 arg6 harg6 arg7 harg7 arg8 harg8 arg9 harg9 arg0 v0 v1 v2 X2 X3 g4 g5 g6 g7 g8 g9 k).c4⌝)
    ∗ (∃ f, (arg5.view.loc (c : Thread nD τ) ↦[arg5.view.set]{fullShare} f) ∗ ⌜f = (outState c i arg1 harg1 arg2 harg2 arg3 harg3 arg4 harg4 arg5 harg5 arg6 harg6 arg7 harg7 arg8 harg8 arg9 harg9 arg0 v0 v1 v2 X2 X3 g4 g5 g6 g7 g8 g9 k).c5⌝)
    ∗ (∃ f, (arg6.view.loc (c : Thread nD τ) ↦[arg6.view.set]{fullShare} f) ∗ ⌜f = (outState c i arg1 harg1 arg2 harg2 arg3 harg3 arg4 harg4 arg5 harg5 arg6 harg6 arg7 harg7 arg8 harg8 arg9 harg9 arg0 v0 v1 v2 X2 X3 g4 g5 g6 g7 g8 g9 k).c6⌝)
    ∗ (∃ f, (arg7.view.loc (c : Thread nD τ) ↦[arg7.view.set]{fullShare} f) ∗ ⌜f = (outState c i arg1 harg1 arg2 harg2 arg3 harg3 arg4 harg4 arg5 harg5 arg6 harg6 arg7 harg7 arg8 harg8 arg9 harg9 arg0 v0 v1 v2 X2 X3 g4 g5 g6 g7 g8 g9 k).c7⌝)
    ∗ (∃ f, (arg8.view.loc (c : Thread nD τ) ↦[arg8.view.set]{fullShare} f) ∗ ⌜f = (outState c i arg1 harg1 arg2 harg2 arg3 harg3 arg4 harg4 arg5 harg5 arg6 harg6 arg7 harg7 arg8 harg8 arg9 harg9 arg0 v0 v1 v2 X2 X3 g4 g5 g6 g7 g8 g9 k).c8⌝)
    ∗ (∃ f, (arg9.view.loc (c : Thread nD τ) ↦[arg9.view.set]{fullShare} f) ∗ ⌜f = (outState c i arg1 harg1 arg2 harg2 arg3 harg3 arg4 harg4 arg5 harg5 arg6 harg6 arg7 harg7 arg8 harg8 arg9 harg9 arg0 v0 v1 v2 X2 X3 g4 g5 g6 g7 g8 g9 k).c9⌝))
  step := fun k acc => by
    simp only [outState_succ]
    generalize outState c i arg1 harg1 arg2 harg2 arg3 harg3 arg4 harg4 arg5 harg5 arg6 harg6 arg7 harg7 arg8 harg8 arg9 harg9 arg0 v0 v1 v2 X2 X3 g4 g5 g6 g7 g8 g9 k.val = b
    unfold k0_t1_body
    iintro ⟨H2, H3, ⟨%f4, H4, %h4⟩, ⟨%f5, H5, %h5⟩, ⟨%f6, H6, %h6⟩, ⟨%f7, H7, %h7⟩, ⟨%f8, H8, %h8⟩, ⟨%f9, H9, %h9⟩⟩
    sl_exec
    sl_step
    isplitl [H2]; · iexact H2
    isplitl [H3]; · iexact H3
    isplitl [H4]; · iexists _; isplitl [H4]; (· iexact H4); ipureintro; subst h4 h5 h6 h7 h8 h9; rfl
    isplitl [H5]; · iexists _; isplitl [H5]; (· iexact H5); ipureintro; subst h4 h5 h6 h7 h8 h9; rfl
    isplitl [H6]; · iexists _; isplitl [H6]; (· iexact H6); ipureintro; subst h4 h5 h6 h7 h8 h9; rfl
    isplitl [H7]; · iexists _; isplitl [H7]; (· iexact H7); ipureintro; subst h4 h5 h6 h7 h8 h9; rfl
    isplitl [H8]; · iexists _; isplitl [H8]; (· iexact H8); ipureintro; subst h4 h5 h6 h7 h8 h9; rfl
    iexists _; isplitl [H9]; (· iexact H9); ipureintro; subst h4 h5 h6 h7 h8 h9; rfl

end

end Cert.Proof.Exact

end
-- ==== Proof.OuterVal.lean ====
/- The outer loop's buffers element by element: bytes, scale bytes, column sums and running maxima after each trip. -/
module

public import proofs.«01_k».proof.Proof.Outer

@[expose] public section

noncomputable section

namespace Cert.Proof.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Proof.Tile
open Idealize.ShloMosaic.ValueIdx (ix2)
open scoped BigOperators
open Idealize.SL.BI.BIBase Idealize.SL.BI.Laws Idealize.SL.ProofMode Idealize.SL.Sem
open Idealize.ShloMosaic.Pipeline (Dat RDat Cfg Window BodyObligation BodyObligationLoose)

/-- One step of the search for the exponent's bits. -/
def sStep (A : EReal) (b n : BitVec 32) : BitVec 32 :=
  Scalar.select (FloatOps.cmpf (F := Ideal) (φ := .f32) .oge A (FloatOps.ofBits (F := Ideal) .f32 (IntOp.addi n b))) (IntOp.addi n b) n

/-- The search from the top bit down. -/
def sExp (A : EReal) : BitVec 32 :=
  sStep A 8388608#32 (sStep A 16777216#32 (sStep A 33554432#32 (sStep A 67108864#32
    (sStep A 134217728#32 (sStep A 268435456#32 (sStep A 536870912#32 (sStep A 1073741824#32 0#32)))))))

/-- The scale byte from the exponent's bits. -/
def scaleTail (w : BitVec 32) : BitVec 8 :=
  (Scalar.select (IntOp.cmpi .eq (IntOp.shrsi .vector w 23#32) 0#32) 127#32 (IntOp.subi (IntOp.shrsi .vector w 23#32) 2#32)).setWidth 8

/-- The scale byte of a group maximum. -/
def kscale (A : EReal) : BitVec 8 := scaleTail (sExp A)

/-- A search step on a whole tile. -/
def bigStep (M : FVec Ideal S128x128 .f32) (b : BitVec 32) (n : IVec S128x128 32) : IVec S128x128 32 :=
  select (cmpf .oge M (bitcastToFloat .f32 (addi n (broadcast S128x128 b)))) (addi n (broadcast S128x128 b)) n

theorem bigStep_apply (M : FVec Ideal S128x128 .f32) (b : BitVec 32) (n : IVec S128x128 32) (y : S128x128.Idx) :
    bigStep M b n y = sStep (M y) b (n y) := rfl

def bigTail (E : IVec S128x128 32) : IVec S128x128 8 :=
  trunci 8 (select (cmpi .eq (shrsi E (broadcast S128x128 23#32)) (broadcast S128x128 0#32)) (broadcast S128x128 127#32)
    (subi (shrsi E (broadcast S128x128 23#32)) (broadcast S128x128 2#32))) natLt_8_32

theorem bigTail_apply (E : IVec S128x128 32) (y : S128x128.Idx) : bigTail E y = scaleTail (E y) := rfl

theorem scale_vec (M : Vec Ideal S128x128 .f32) :
    k0_pay1597 M k0_pay1594 k0_pay1595 k0_pay1596
      = bigTail (bigStep M 8388608#32 (bigStep M 16777216#32 (bigStep M 33554432#32 (bigStep M 67108864#32
          (bigStep M 134217728#32 (bigStep M 268435456#32 (bigStep M 536870912#32 (bigStep M 1073741824#32 k0_pay1594)))))))) := rfl

theorem scale_apply (M : Vec Ideal S128x128 .f32) (y : S128x128.Idx) :
    k0_pay1597 M k0_pay1594 k0_pay1595 k0_pay1596 y = kscale (M y) := by
  rw [scale_vec, bigTail_apply, bigStep_apply, bigStep_apply, bigStep_apply, bigStep_apply, bigStep_apply, bigStep_apply, bigStep_apply, bigStep_apply]
  unfold kscale sExp
  rfl

/-- The largest of rows `8 i + s` in lane `l`. -/
theorem runMax_apply (M : Vec Ideal S128x128 .f32) (d : Vec Ideal S8x128 .f32) (s : Fin 8) (l : Fin 128) :
    k0_pay1593 M d (ix2 s l) = max (d (ix2 s l)) ((Finset.range 16).sup fun i => at2 (M := 128) (N := 128) M (8 * i + s.val) l.val) := by
  have e : ∀ (i : ℕ) (hs : S128x128.Slices ![8 * i, 0] S8x128), i < 16 → extractStridedSlice S8x128 ![8 * i, 0] M hs (ix2 s l)
      = at2 (M := 128) (N := 128) M (8 * i + s.val) l.val := by
    intro i hs hi
    refine at2_eq (M := 128) (N := 128) M _ _ _ ?_ ?_
    · show 8 * i + s.val = _; omega
    · show 0 + l.val = _; omega
  have h : k0_pay1593 M d (ix2 s l) = max (max (max (max (max (max (max (max (max (max (max (max (max (max (max (max
      (d (ix2 s l)) (at2 (M := 128) (N := 128) M (8 * 0 + s.val) l.val)) (at2 (M := 128) (N := 128) M (8 * 1 + s.val) l.val))
      (at2 (M := 128) (N := 128) M (8 * 2 + s.val) l.val)) (at2 (M := 128) (N := 128) M (8 * 3 + s.val) l.val))
      (at2 (M := 128) (N := 128) M (8 * 4 + s.val) l.val)) (at2 (M := 128) (N := 128) M (8 * 5 + s.val) l.val))
      (at2 (M := 128) (N := 128) M (8 * 6 + s.val) l.val)) (at2 (M := 128) (N := 128) M (8 * 7 + s.val) l.val))
      (at2 (M := 128) (N := 128) M (8 * 8 + s.val) l.val)) (at2 (M := 128) (N := 128) M (8 * 9 + s.val) l.val))
      (at2 (M := 128) (N := 128) M (8 * 10 + s.val) l.val)) (at2 (M := 128) (N := 128) M (8 * 11 + s.val) l.val))
      (at2 (M := 128) (N := 128) M (8 * 12 + s.val) l.val)) (at2 (M := 128) (N := 128) M (8 * 13 + s.val) l.val))
      (at2 (M := 128) (N := 128) M (8 * 14 + s.val) l.val)) (at2 (M := 128) (N := 128) M (8 * 15 + s.val) l.val) := by
    rw [← e 0 slices_S128x128_o0_0_S8x128 (by omega), ← e 1 slices_S128x128_o8_0_S8x128 (by omega), ← e 2 slices_S128x128_o16_0_S8x128 (by omega),
      ← e 3 slices_S128x128_o24_0_S8x128 (by omega), ← e 4 slices_S128x128_o32_0_S8x128 (by omega), ← e 5 slices_S128x128_o40_0_S8x128 (by omega),
      ← e 6 slices_S128x128_o48_0_S8x128 (by omega), ← e 7 slices_S128x128_o56_0_S8x128 (by omega), ← e 8 slices_S128x128_o64_0_S8x128 (by omega),
      ← e 9 slices_S128x128_o72_0_S8x128 (by omega), ← e 10 slices_S128x128_o80_0_S8x128 (by omega), ← e 11 slices_S128x128_o88_0_S8x128 (by omega),
      ← e 12 slices_S128x128_o96_0_S8x128 (by omega), ← e 13 slices_S128x128_o104_0_S8x128 (by omega), ← e 14 slices_S128x128_o112_0_S8x128 (by omega),
      ← e 15 slices_S128x128_o120_0_S8x128 (by omega)]
    unfold k0_pay1593
    simp only [shapeCast_self]
    rfl
  rw [h]
  refine eq_of_forall_ge_iff fun z => ?_
  simp only [max_le_iff, Finset.sup_le_iff, Finset.mem_range]
  constructor
  · rintro ⟨⟨⟨⟨⟨⟨⟨⟨⟨⟨⟨⟨⟨⟨⟨⟨hd, h0⟩, h1⟩, h2⟩, h3⟩, h4⟩, h5⟩, h6⟩, h7⟩, h8⟩, h9⟩, h10⟩, h11⟩, h12⟩, h13⟩, h14⟩, h15⟩
    refine ⟨hd, fun i hi => ?_⟩
    interval_cases i <;> assumption
  · rintro ⟨hd, hh⟩
    exact ⟨⟨⟨⟨⟨⟨⟨⟨⟨⟨⟨⟨⟨⟨⟨⟨hd, hh 0 (by omega)⟩, hh 1 (by omega)⟩, hh 2 (by omega)⟩, hh 3 (by omega)⟩, hh 4 (by omega)⟩, hh 5 (by omega)⟩, hh 6 (by omega)⟩,
      hh 7 (by omega)⟩, hh 8 (by omega)⟩, hh 9 (by omega)⟩, hh 10 (by omega)⟩, hh 11 (by omega)⟩, hh 12 (by omega)⟩, hh 13 (by omega)⟩, hh 14 (by omega)⟩, hh 15 (by omega)⟩

/-- The largest group maximum over the first `n` blocks of 128 groups, rows `8 i + s`, lane `l`. -/
def GX (x : ℕ → ℕ → EReal) (n s l : ℕ) : EReal :=
  (Finset.range n).sup fun v => (Finset.range 16).sup fun i => GM x (8 * i + s) (128 * v + l)

theorem GX_succ (x : ℕ → ℕ → EReal) (n s l : ℕ) :
    GX x (n + 1) s l = max (GX x n s l) ((Finset.range 16).sup fun i => GM x (8 * i + s) (128 * n + l)) := by
  unfold GX
  rw [Finset.range_add_one, Finset.sup_insert]
  exact sup_comm _ _

section

variable (c : Dev nD) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole) (v0 : Elt Ideal .i32) (v1 : Elt Ideal .i32) (X2 : BufTy.Contents (Elt Ideal) arg2.view.ty) (X3 : BufTy.Contents (Elt Ideal) arg3.view.ty)
  (g4 : BufTy.Contents (Elt Ideal) arg4.view.ty) (g5 : BufTy.Contents (Elt Ideal) arg5.view.ty) (g6 : BufTy.Contents (Elt Ideal) arg6.view.ty)
  (g7 : BufTy.Contents (Elt Ideal) arg7.view.ty) (g8 : BufTy.Contents (Elt Ideal) arg8.view.ty) (g9 : BufTy.Contents (Elt Ideal) arg9.view.ty)
  (step : ℕ) (hp : IsPerm (at2 (M := 512) (N := 512) (arg3.view.read (Elt Ideal) X3)))

include hp in
theorem outer (n : ℕ) (hn : n ≤ k0_t1_loop.trips) :
    (∀ y : S128x10240.Idx, (y 1).val < 2048 * n → arg4.view.read (Elt Ideal) (outState c i arg1 harg1 arg2 harg2 arg3 harg3 arg4 harg4 arg5 harg5 arg6 harg6 arg7 harg7 arg8 harg8 arg9 harg9 (BitVec.ofNat 32 step) v0 v1 lanes X2 X3 g4 g5 g6 g7 g8 g9 n).c4 y = kbyte (blkOf arg2 X2) v0 v1 (128 * step) (y 0).val (y 1).val)
    ∧ (∀ y : S128x640.Idx, (y 1).val < 128 * n → arg5.view.read (Elt Ideal) (outState c i arg1 harg1 arg2 harg2 arg3 harg3 arg4 harg4 arg5 harg5 arg6 harg6 arg7 harg7 arg8 harg8 arg9 harg9 (BitVec.ofNat 32 step) v0 v1 lanes X2 X3 g4 g5 g6 g7 g8 g9 n).c5 y = kscale (GM (blkOf arg2 X2) (y 0).val (y 1).val))
    ∧ (∀ y : S8x20480.Idx, arg6.view.read (Elt Ideal) (outState c i arg1 harg1 arg2 harg2 arg3 harg3 arg4 harg4 arg5 harg5 arg6 harg6 arg7 harg7 arg8 harg8 arg9 harg9 (BitVec.ofNat 32 step) v0 v1 lanes X2 X3 g4 g5 g6 g7 g8 g9 n).c6 y
        = if (y 1).val < 4096 * n then arg6.view.read (Elt Ideal) g6 y + ∑ r : Fin 128, blkOf arg2 X2 r.val (y 1).val else arg6.view.read (Elt Ideal) g6 y)
    ∧ (∀ (s : Fin 8) (l : Fin 128), arg7.view.read (Elt Ideal) (outState c i arg1 harg1 arg2 harg2 arg3 harg3 arg4 harg4 arg5 harg5 arg6 harg6 arg7 harg7 arg8 harg8 arg9 harg9 (BitVec.ofNat 32 step) v0 v1 lanes X2 X3 g4 g5 g6 g7 g8 g9 n).c7 (ix2 s l)
        = max (arg7.view.read (Elt Ideal) g7 (ix2 s l)) (GX (blkOf arg2 X2) n s.val l.val)) := by
  induction n with
  | zero =>
    refine ⟨fun y h => absurd h (by omega), fun y h => absurd h (by omega), fun y => ?_, fun s l => ?_⟩
    · rw [if_neg (by omega)]; rfl
    · exact (max_eq_left bot_le).symm
  | succ n ih =>
    obtain ⟨i4, i5, i6, i7⟩ := ih (by omega)
    rw [outState_succ (k := ⟨n, hn⟩)]
    generalize outState c i arg1 harg1 arg2 harg2 arg3 harg3 arg4 harg4 arg5 harg5 arg6 harg6 arg7 harg7 arg8 harg8 arg9 harg9 (BitVec.ofNat 32 step) v0 v1 lanes X2 X3 g4 g5 g6 g7 g8 g9 n = b at i4 i5 i6 i7 ⊢
    have hv : Scalar.addi 0#32 (Scalar.muli (Scf.iv 0#32 1#32 (⟨n, hn⟩ : Fin k0_t1_loop.trips)) 1#32) = BitVec.ofNat 32 n := by
      have : ∀ k : Fin k0_t1_loop.trips, Scalar.addi 0#32 (Scalar.muli (Scf.iv 0#32 1#32 k) 1#32) = BitVec.ofNat 32 k.val := by decide +kernel
      exact this _
    obtain ⟨j4, j6, j9⟩ := inner Variants.none c none i arg1 harg1 arg2 harg2 arg3 harg3 arg4 harg4 arg5 harg5 arg6 harg6 arg7 harg7 arg8 harg8 arg9 harg9 v0 v1 0#32 1#32 ⟨n, hn⟩ X2 X3 b.c4 b.c6 b.c8 b.c9 step hp k0_t2_loop.trips (le_refl _)
    have hM : ∀ z : S128x128.Idx, readMax arg9 (arg9.view.writes (Elt Ideal) b.c9 (innerPieces c i arg1 harg1 arg2 harg2 arg3 harg3 arg4 harg4 arg5 harg5 arg6 harg6 arg7 harg7 arg8 harg8 arg9 harg9 (BitVec.ofNat 32 step) v0 v1 lanes X2 X3 ⟨n, hn⟩ b).2.2.2) z
        = GM (blkOf arg2 X2) (z 0).val (128 * n + (z 1).val) := by
      intro z
      refine (readAt_unit (M := 128) (N := 128) (m := 128) (n := 128) arg9.view _ _ 0 0 _ rfl z).trans ?_
      refine (at2_eq (M := 128) (N := 128) _ z _ _ (by omega) (by omega)).symm.trans ?_
      unfold innerPieces
      rw [hv]
      refine (j9 z).trans ?_
      have hz : (z 1).val < 128 := (z 1).isLt
      rw [if_pos (by show (z 1).val / 16 < 8; omega)]
    refine ⟨fun y h => ?_, fun y h => ?_, fun y => ?_, fun s l => ?_⟩
    · unfold outStep innerPieces
      dsimp only
      rw [hv]
      refine (j4 y).trans ?_
      dsimp only
      split_ifs with h2
      · rfl
      · refine i4 y ?_
        have h2' : ¬ (2048 * n ≤ (y 1).val ∧ (y 1).val < 2048 * n + 256 * 8) := h2
        omega
    · unfold outStep
      dsimp only
      by_cases h1 : 128 * n ≤ (y 1).val
      · have hy0 : (y 0).val < 128 := (y 0).isLt
        refine (View.read_writes_cons_unit_of_mem arg5.view b.c5 _ _ [] y (ix2 (⟨(y 0).val, hy0⟩ : Fin 128) (⟨(y 1).val - 128 * n, by omega⟩ : Fin 128)) (k0_off11_eq ⟨n, hn⟩) ?_).trans ?_
        · intro a
          match a with
          | ⟨0, _⟩ => show (y 0).val = 0 + (y 0).val; omega
          | ⟨1, _⟩ => show (y 1).val = 128 * n + ((y 1).val - 128 * n); omega
        rw [scale_apply, hM]
        congr 2
        show 128 * n + ((y 1).val - 128 * n) = _
        omega
      · refine (View.read_writes_cons_unit_of_not_mem arg5.view b.c5 _ _ [] y (k0_off11_eq ⟨n, hn⟩) 1 ?_).trans ?_
        · show (y 1).val < 128 * n ∨ 128 * n + 128 ≤ (y 1).val; omega
        · exact i5 y (by omega)
    · unfold outStep innerPieces
      dsimp only
      rw [hv]
      refine (j6 y).trans ?_
      rw [i6 y]
      have e8 : k0_t2_loop.trips = 8 := rfl
      rw [e8]
      dsimp only
      split_ifs <;> first | rfl | omega
    · unfold outStep
      dsimp only
      refine (View.read_writes_cons_unit_of_mem arg7.view b.c7 _ _ [] (ix2 s l) (ix2 s l) rfl ?_).trans ?_
      · intro a
        match a with
        | ⟨0, _⟩ => show s.val = 0 + s.val; omega
        | ⟨1, _⟩ => show l.val = 0 + l.val; omega
      rw [runMax_apply, GX_succ, ← max_assoc, ← i7 s l]
      congr 1
      · refine (readAt_unit (M := 8) (N := 128) (m := 8) (n := 128) arg7.view _ _ 0 0 _ rfl _).trans ?_
        refine (at2_eq (M := 8) (N := 128) _ _ _ _ ?_ ?_).symm
        · show s.val = 0 + s.val; omega
        · show l.val = 0 + l.val; omega
      · refine Finset.sup_congr rfl fun i hi => ?_
        have hi := Finset.mem_range.mp hi
        unfold at2
        rw [hM]
        have e1 : (8 * i + s.val) % 128 = 8 * i + s.val := Nat.mod_eq_of_lt (by omega)
        have e2 : l.val % 128 = l.val := Nat.mod_eq_of_lt l.isLt
        show GM _ ((8 * i + s.val) % 128) (128 * n + l.val % 128) = _
        rw [e1, e2]

end

end Cert.Proof.Exact

end
-- ==== Proof.BodyVal.lean ====
/- The kernel's body at one grid point, with its values. -/
module

public import proofs.«01_k».proof.Proof.OuterVal

@[expose] public section

noncomputable section

namespace Cert.Proof.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Proof.Tile
open Idealize.ShloMosaic.ValueIdx (ix1 ix2)
open scoped BigOperators
open Idealize.SL.BI.BIBase Idealize.SL.BI.Laws Idealize.SL.ProofMode Idealize.SL.Sem
open Idealize.ShloMosaic.Pipeline (Dat RDat Cfg Window BodyObligation BodyObligationLoose)

local notation "𝕄" => MT nD τ sig Unit (Elt Ideal) ℕ (UR sig nD τ) ℕ

/-- The codes of one block of rows. -/
def codesOf (x2 : Vec Ideal S128x20480 .bf16) (a b : BitVec 32) (step : ℕ) : Vec Ideal S128x10240 .i8 :=
  fun y => kbyte (at2 (M := 128) (N := 20480) x2) a b (128 * step) (y 0).val (y 1).val

/-- The scale bytes of one block of rows. -/
def scalesOf (x2 : Vec Ideal S128x20480 .bf16) : Vec Ideal S128x640 .i8 :=
  fun y => kscale (GM (at2 (M := 128) (N := 20480) x2) (y 0).val (y 1).val)

/-- The column sums so far. -/
def sumsOf (x2 : Vec Ideal S128x20480 .bf16) (d : Vec Ideal S8x20480 .f32) : Vec Ideal S8x20480 .f32 :=
  fun y => d y + ∑ r : Fin 128, at2 (M := 128) (N := 20480) x2 r.val (y 1).val

/-- The running maxima so far. -/
def maxOf (x2 : Vec Ideal S128x20480 .bf16) (d : Vec Ideal S8x128 .f32) : Vec Ideal S8x128 .f32 :=
  fun y => max (d y) (GX (at2 (M := 128) (N := 20480) x2) 5 (y 0).val (y 1).val)

/-- What the sums and the maxima start from at a point. -/
def start {s : Shape} (step : ℕ) (d : Vec Ideal s .f32) : Vec Ideal s .f32 := if step = 0 then fun _ => 0 else d

theorem idx1_ext {n : ℕ} {x y : (⟨1, ![n]⟩ : Shape).Idx} (h : (x 0).val = (y 0).val) : x = y := by
  funext a
  match a with
  | ⟨0, _⟩ => exact Fin.ext h

/-- The branch is taken at the first point. -/
theorem first_iff (i : grid0.Coords) : Scalar.cmpi .ne (Scalar.extui (Scalar.cmpi .eq (BitVec.ofNat 32 (i 0).val) 0#32) : BitVec 32) 0#32 = 1#1 ↔ (i 0).val = 0 := by
  have : ∀ j : Fin 9, Scalar.cmpi .ne (Scalar.extui (Scalar.cmpi .eq (BitVec.ofNat 32 j.val) 0#32) : BitVec 32) 0#32 = 1#1 ↔ j.val = 0 := by decide +kernel
  exact this (i 0)

section

variable (c : Dev nD) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole) (v0 : Elt Ideal .i32) (v1 : Elt Ideal .i32) (X2 : BufTy.Contents (Elt Ideal) arg2.view.ty) (X3 : BufTy.Contents (Elt Ideal) arg3.view.ty)
  (g4 : BufTy.Contents (Elt Ideal) arg4.view.ty) (g5 : BufTy.Contents (Elt Ideal) arg5.view.ty) (g6 : BufTy.Contents (Elt Ideal) arg6.view.ty)
  (g7 : BufTy.Contents (Elt Ideal) arg7.view.ty) (g8 : BufTy.Contents (Elt Ideal) arg8.view.ty) (g9 : BufTy.Contents (Elt Ideal) arg9.view.ty)
  (step : ℕ) (hp : IsPerm (at2 (M := 512) (N := 512) (arg3.view.read (Elt Ideal) X3)))

include hp in
/-- The buffers after the outer loop, read whole. -/
theorem outer_read :
    arg4.view.read (Elt Ideal) (outState c i arg1 harg1 arg2 harg2 arg3 harg3 arg4 harg4 arg5 harg5 arg6 harg6 arg7 harg7 arg8 harg8 arg9 harg9 (BitVec.ofNat 32 step) v0 v1 lanes X2 X3 g4 g5 g6 g7 g8 g9 k0_t1_loop.trips).c4 = codesOf (arg2.view.read (Elt Ideal) X2) v0 v1 step
    ∧ arg5.view.read (Elt Ideal) (outState c i arg1 harg1 arg2 harg2 arg3 harg3 arg4 harg4 arg5 harg5 arg6 harg6 arg7 harg7 arg8 harg8 arg9 harg9 (BitVec.ofNat 32 step) v0 v1 lanes X2 X3 g4 g5 g6 g7 g8 g9 k0_t1_loop.trips).c5 = scalesOf (arg2.view.read (Elt Ideal) X2)
    ∧ arg6.view.read (Elt Ideal) (outState c i arg1 harg1 arg2 harg2 arg3 harg3 arg4 harg4 arg5 harg5 arg6 harg6 arg7 harg7 arg8 harg8 arg9 harg9 (BitVec.ofNat 32 step) v0 v1 lanes X2 X3 g4 g5 g6 g7 g8 g9 k0_t1_loop.trips).c6 = sumsOf (arg2.view.read (Elt Ideal) X2) (arg6.view.read (Elt Ideal) g6)
    ∧ arg7.view.read (Elt Ideal) (outState c i arg1 harg1 arg2 harg2 arg3 harg3 arg4 harg4 arg5 harg5 arg6 harg6 arg7 harg7 arg8 harg8 arg9 harg9 (BitVec.ofNat 32 step) v0 v1 lanes X2 X3 g4 g5 g6 g7 g8 g9 k0_t1_loop.trips).c7 = maxOf (arg2.view.read (Elt Ideal) X2) (arg7.view.read (Elt Ideal) g7) := by
  have e5 : k0_t1_loop.trips = 5 := rfl
  obtain ⟨h4, h5, h6, h7⟩ := outer c i arg1 harg1 arg2 harg2 arg3 harg3 arg4 harg4 arg5 harg5 arg6 harg6 arg7 harg7 arg8 harg8 arg9 harg9 v0 v1 X2 X3 g4 g5 g6 g7 g8 g9 step hp k0_t1_loop.trips (le_refl _)
  refine ⟨funext fun y => h4 y ?_, funext fun y => h5 y ?_, funext fun y => (h6 y).trans ?_, funext fun y => ?_⟩
  · rw [e5]; exact (y 1).isLt
  · rw [e5]; exact (y 1).isLt
  · rw [if_pos (by rw [e5]; exact (y 1).isLt)]; rfl
  · obtain ⟨s, l, rfl⟩ : ∃ (s : Fin 8) (l : Fin 128), y = ix2 s l := ix2_surj y
    exact h7 s l

end

set_option maxHeartbeats 1600000 in
/-- The body on whole buffers. -/
theorem sound_kernel (c : Dev nD) (i : grid0.Coords) (arg1 : Memref sig .tc .smem S2 .i32) (harg1 : arg1.IsWhole) (arg2 : Memref sig .tc .vmem S128x20480 .bf16) (harg2 : arg2.IsWhole) (arg3 : Memref sig .tc .vmem S512x512 .bf16) (harg3 : arg3.IsWhole) (arg4 : Memref sig .tc .vmem S128x10240 .i8) (harg4 : arg4.IsWhole) (arg5 : Memref sig .tc .vmem S128x640 .i8) (harg5 : arg5.IsWhole) (arg6 : Memref sig .tc .vmem S8x20480 .f32) (harg6 : arg6.IsWhole) (arg7 : Memref sig .tc .vmem S8x128 .f32) (harg7 : arg7.IsWhole) (arg8 : Memref sig .tc .vmem S128x512 .f32) (harg8 : arg8.IsWhole) (arg9 : Memref sig .tc .vmem S128x128 .f32) (harg9 : arg9.IsWhole)
    (x1 : Vec Ideal S2 .i32) (x2 : Vec Ideal S128x20480 .bf16) (x3 : Vec Ideal S512x512 .bf16) (d6 : Vec Ideal S8x20480 .f32) (d7 : Vec Ideal S8x128 .f32)
    (hp : IsPerm (at2 (M := 512) (N := 512) x3)) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ owns (c : Thread nD τ) arg6 fullShare d6 ∗ owns (c : Thread nD τ) arg7 fullShare d7
        ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (codesOf x2 (x1 (ix1 0)) (x1 (ix1 1)) (i 0).val) ∗ owns (c : Thread nD τ) arg5 fullShare (scalesOf x2)
            ∗ owns (c : Thread nD τ) arg6 fullShare (sumsOf x2 (start (i 0).val d6)) ∗ owns (c : Thread nD τ) arg7 fullShare (maxOf x2 (start (i 0).val d7))
            ∗ (∃ d, owns (c : Thread nD τ) arg8 fullShare d) ∗ (∃ d, owns (c : Thread nD τ) arg9 fullShare d)) -∗ K ⟨⟩))
      ⊢ wp frame (wpE (defs₀ (F := Ideal)) Variants.none c none) Set.univ (cc0_quant i arg1 harg1 arg2 harg2 arg3 harg3 arg4 harg4 arg5 harg5 arg6 harg6 arg7 harg7 arg8 harg8 arg9 harg9) K := by
  simp only [cc0_quant_eq_skeleton]; unfold cc0_quant_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%d8, %f8, -, H8⟩, ⟨%d9, %f9, -, H9⟩, Hk⟩
  subst hf1 hf2 hf3 hf6 hf7
  by_cases hc : Scalar.cmpi .ne (Scalar.extui (Scalar.cmpi .eq (BitVec.ofNat 32 (i 0).val) 0#32) : BitVec 32) 0#32 = 1#1
  · have hz : (i 0).val = 0 := (first_iff i).mp hc
    sl_exec (disch := sl_exact hc)
    generalize hg6 : arg6.view.writes (Elt Ideal) arg6.view.junk _ = g6
    generalize hg7 : arg7.view.writes (Elt Ideal) arg7.view.junk _ = g7
    have e6 : arg6.view.read (Elt Ideal) g6 = fun _ => 0 := by
      rw [← hg6]
      funext y
      refine (View.read_writes_cons_unit_of_mem arg6.view _ _ _ [] y y rfl ?_).trans zero_bits
      intro a
      match a with
      | ⟨0, _⟩ => show (y 0).val = 0 + (y 0).val; omega
      | ⟨1, _⟩ => show (y 1).val = 0 + (y 1).val; omega
    have e7 : arg7.view.read (Elt Ideal) g7 = fun _ => 0 := by
      rw [← hg7]
      funext y
      refine (View.read_writes_cons_unit_of_mem arg7.view _ _ _ [] y y rfl ?_).trans zero_bits
      intro a
      match a with
      | ⟨0, _⟩ => show (y 0).val = 0 + (y 0).val; omega
      | ⟨1, _⟩ => show (y 1).val = 0 + (y 1).val; omega
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; swap; (· iexact H4); ipureintro
      refine (outer_read c i arg1 harg1 arg2 harg2 arg3 harg3 arg4 harg4 arg5 harg5 arg6 harg6 arg7 harg7 arg8 harg8 arg9 harg9 (sound_kernel.sl.r c arg1 f1) (sound_kernel.sl.r_1 c arg1 f1) f2 f3 f4 f5 g6 g7 f8 f9 (i 0).val hp).1.trans ?_
      unfold sound_kernel.sl.r sound_kernel.sl.r_1
      rw [View.readAt_apply, View.readAt_apply]
      exact congrArg₂ (fun p q => codesOf _ (arg1.view.read (Elt Ideal) f1 p) (arg1.view.read (Elt Ideal) f1 q) _) (idx1_ext rfl) (idx1_ext rfl)
    isplitl [H5]
    · iexists _; isplitr; swap; (· iexact H5); ipureintro
      exact (outer_read c i arg1 harg1 arg2 harg2 arg3 harg3 arg4 harg4 arg5 harg5 arg6 harg6 arg7 harg7 arg8 harg8 arg9 harg9 _ _ f2 f3 f4 f5 g6 g7 f8 f9 (i 0).val hp).2.1
    isplitl [H6]
    · iexists _; isplitr; swap; (· iexact H6); ipureintro
      refine ((outer_read c i arg1 harg1 arg2 harg2 arg3 harg3 arg4 harg4 arg5 harg5 arg6 harg6 arg7 harg7 arg8 harg8 arg9 harg9 _ _ f2 f3 f4 f5 g6 g7 f8 f9 (i 0).val hp).2.2.1).trans (congrArg _ ?_)
      unfold start; rw [if_pos hz]; exact e6
    isplitl [H7]
    · iexists _; isplitr; swap; (· iexact H7); ipureintro
      refine ((outer_read c i arg1 harg1 arg2 harg2 arg3 harg3 arg4 harg4 arg5 harg5 arg6 harg6 arg7 harg7 arg8 harg8 arg9 harg9 _ _ f2 f3 f4 f5 g6 g7 f8 f9 (i 0).val hp).2.2.2).trans (congrArg _ ?_)
      unfold start; rw [if_pos hz]; exact e7
    isplitl [H8]
    · iexists _; iexists _; isplitr; swap; (· iexact H8); ipureintro; rfl
    iexists _; iexists _; isplitr; swap; (· iexact H9); ipureintro; rfl
  · have hz : ¬ (i 0).val = 0 := fun h => hc ((first_iff i).mpr h)
    sl_exec (disch := sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; swap; (· iexact H4); ipureintro
      refine (outer_read c i arg1 harg1 arg2 harg2 arg3 harg3 arg4 harg4 arg5 harg5 arg6 harg6 arg7 harg7 arg8 harg8 arg9 harg9 (sound_kernel.sl.r_2 c arg1 f1) (sound_kernel.sl.r_3 c arg1 f1) f2 f3 f4 f5 f6 f7 f8 f9 (i 0).val hp).1.trans ?_
      unfold sound_kernel.sl.r_2 sound_kernel.sl.r_3
      rw [View.readAt_apply, View.readAt_apply]
      exact congrArg₂ (fun p q => codesOf _ (arg1.view.read (Elt Ideal) f1 p) (arg1.view.read (Elt Ideal) f1 q) _) (idx1_ext rfl) (idx1_ext rfl)
    isplitl [H5]
    · iexists _; isplitr; swap; (· iexact H5); ipureintro
      exact (outer_read c i arg1 harg1 arg2 harg2 arg3 harg3 arg4 harg4 arg5 harg5 arg6 harg6 arg7 harg7 arg8 harg8 arg9 harg9 _ _ f2 f3 f4 f5 f6 f7 f8 f9 (i 0).val hp).2.1
    isplitl [H6]
    · iexists _; isplitr; swap; (· iexact H6); ipureintro
      refine ((outer_read c i arg1 harg1 arg2 harg2 arg3 harg3 arg4 harg4 arg5 harg5 arg6 harg6 arg7 harg7 arg8 harg8 arg9 harg9 _ _ f2 f3 f4 f5 f6 f7 f8 f9 (i 0).val hp).2.2.1).trans (congrArg _ ?_)
      unfold start; rw [if_neg hz]
    isplitl [H7]
    · iexists _; isplitr; swap; (· iexact H7); ipureintro
      refine ((outer_read c i arg1 harg1 arg2 harg2 arg3 harg3 arg4 harg4 arg5 harg5 arg6 harg6 arg7 harg7 arg8 harg8 arg9 harg9 _ _ f2 f3 f4 f5 f6 f7 f8 f9 (i 0).val hp).2.2.2).trans (congrArg _ ?_)
      unfold start; rw [if_neg hz]
    isplitl [H8]
    · iexists _; iexists _; isplitr; swap; (· iexact H8); ipureintro; rfl
    iexists _; iexists _; isplitr; swap; (· iexact H9); ipureintro; rfl

end Cert.Proof.Exact

end
-- ==== Proof.Data.lean ====
/- The run of the kernel with its values: what every point leaves in every window, and the arrays at the end. -/
module

public import proofs.«01_k».proof.Proof.BodyVal
public import Idealize.ShloMosaic.Lib.Pipeline.ValueKit

@[expose] public section

noncomputable section

namespace Cert.Proof.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Proof.Tile

open scoped BigOperators
open Idealize.SL.BI.BIBase Idealize.SL.BI.Laws Idealize.SL.ProofMode Idealize.SL.Sem
open Idealize.ShloMosaic.Pipeline (Dat RDat Cfg Window BodyObligation BodyObligationLoose)

local notation "𝕄" => MT nD τ sig Unit (Elt Ideal) ℕ (UR sig nD τ) ℕ

/-! ## The permutation the host builds -/

variable (m : (ℓ : Loc nD τ sig) → Buf (Elt Ideal) ℓ) (ρ : Dev nD → PrngReg)

/-- A block of rows, the two seeds and the permutation, as the body is given them. -/
abbrev seeds (c : Dev nD) (t : Fin cfg0.N) : Vec Ideal S2 .i32 := iblk m c 0 t
abbrev block (c : Dev nD) (t : Fin cfg0.N) : Vec Ideal S128x20480 .bf16 := iblk m c 1 t
abbrev perm (c : Dev nD) (t : Fin cfg0.N) : Vec Ideal S512x512 .bf16 := iblk m c 2 t

/-- The column sums after `n` blocks. -/
def sums (c : Dev nD) : ℕ → Vec Ideal S8x20480 .f32
  | 0 => fun _ => 0
  | n + 1 => if h : n < cfg0.N then sumsOf (block m c ⟨n, h⟩) (sums c n) else sums c n

/-- The running maxima after `n` blocks. -/
def maxs (c : Dev nD) : ℕ → Vec Ideal S8x128 .f32
  | 0 => fun _ => 0
  | n + 1 => if h : n < cfg0.N then maxOf (block m c ⟨n, h⟩) (maxs c n) else maxs c n

theorem sums_succ (c : Dev nD) (t : Fin cfg0.N) : sums m c (t.val + 1) = sumsOf (block m c t) (sums m c t.val) := by
  show (if h : t.val < cfg0.N then _ else _) = _
  rw [dif_pos t.isLt]
theorem maxs_succ (c : Dev nD) (t : Fin cfg0.N) : maxs m c (t.val + 1) = maxOf (block m c t) (maxs m c t.val) := by
  show (if h : t.val < cfg0.N then _ else _) = _
  rw [dif_pos t.isLt]

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesOf (block m c t) (seeds m c t (ValueIdx.ix1 0)) (seeds m c t (ValueIdx.ix1 1)) t.val
    | ⟨4, _⟩ => scalesOf (block m c t)
    | ⟨5, _⟩ => sums m c (t.val + 1)
    | ⟨6, _⟩ => maxs m c (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = codesOf (block m c t) (seeds m c t (ValueIdx.ix1 0)) (seeds m c t (ValueIdx.ix1 1)) t.val := by dsimp only [dats]
theorem after0_4 (c : Dev nD) (t : Fin cfg0.N) : (dats m 0 c).after 4 t = scalesOf (block m c t) := by dsimp only [dats]
theorem after0_5 (c : Dev nD) (t : Fin cfg0.N) : (dats m 0 c).after 5 t = sums m c (t.val + 1) := by dsimp only [dats]
theorem after0_6 (c : Dev nD) (t : Fin cfg0.N) : (dats m 0 c).after 6 t = maxs m c (t.val + 1) := by dsimp only [dats]

theorem before0_5 (c : Dev nD) (t : Fin cfg0.N) (d) : start t.val ((dats m 0 c).before 5 t d) = sums m c t.val := by
  unfold start
  by_cases h : t.val = 0
  · rw [if_pos h, h]; rfl
  · rw [if_neg h, Dat.before_out_kept _ 5 rfl t h (Bool.eq_false_iff.mpr fun hh => by
      have : (t.val - 1) % 9 = 8 := (flush0_5 _).mp hh; have := lt_of_lt_of_eq t.isLt (show cfg0.N = 9 from rfl); omega)
      (fun _ => rfl) (fun _ _ => rfl), after0_5]
    exact congrArg (sums m c) (Nat.succ_pred_eq_of_pos (Nat.pos_of_ne_zero h))

theorem before0_6 (c : Dev nD) (t : Fin cfg0.N) (d) : start t.val ((dats m 0 c).before 6 t d) = maxs m c t.val := by
  unfold start
  by_cases h : t.val = 0
  · rw [if_pos h, h]; rfl
  · rw [if_neg h, Dat.before_out_kept _ 6 rfl t h (Bool.eq_false_iff.mpr fun hh => by
      have : (t.val - 1) % 9 = 8 := (flush0_6 _).mp hh; have := lt_of_lt_of_eq t.isLt (show cfg0.N = 9 from rfl); omega)
      (fun _ => rfl) (fun _ _ => rfl), after0_6]
    exact congrArg (maxs m c) (Nat.succ_pred_eq_of_pos (Nat.pos_of_ne_zero h))

theorem coords_val (t : Fin cfg0.N) : (grid0.coords t 0).val = t.val := by
  have : ∀ t : Fin cfg0.N, (grid0.coords t 0).val = t.val := by decide +kernel
  exact this t

/-- The two scratch buffers as the launch hands them over, and the generator register. -/
theorem phi_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)) ∗ ∃ r, prngReg c r) := by
  unfold Pipeline.ΦA; rw [scopedRest0_eq]; simp only [owns_whole]

/-- What the body is called with at a point, window by window, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (hp : ∀ (c : Dev nD) (t : Fin cfg0.N), IsPerm (at2 (M := 512) (N := 512) (perm m c t))) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, phi_eq]
  iintro ⟨⟨⟨H8, H9⟩, Hr⟩, Ho, ⟨%d0, H0⟩, ⟨%d1, H1⟩, ⟨%d2, H2⟩, ⟨%d3, H3⟩, ⟨%d4, H4⟩, ⟨%d5, H5⟩, ⟨%d6, H6⟩⟩
  rw [sums_succ, maxs_succ, ← before0_5 m c t d5, ← before0_6 m c t d6, ← coords_val t]
  iapply (sound_kernel c (grid0.coords t) _ _ _ _ _ _ _ _ _ _ _ _ _ _ _ _ _ _ (iblk m c 0 t) (iblk m c 1 t) (iblk m c 2 t) _ _ (hp c t) _)
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexact H6
  isplitl [H8]; · iexact H8
  isplitl [H9]; · iexact H9
  iintro ⟨H0, H1, H2, H3, H4, H5, H6, H8, H9⟩
  isplitl [H8 H9 Hr]
  · isplitl [H8 H9]
    · isplitl [H8]; · iexact H8
      iexact H9
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := Ideal) .tc cfg0.body (cfg0.bodyArgs t (cfg0.slots t)) = bodyAt0 t := by
  unfold defs₀; rw [Defs.onTc_tc]

theorem body_obligation (hp : ∀ (c : Dev nD) (t : Fin cfg0.N), IsPerm (at2 (M := 512) (N := 512) (perm m c t))) (c : Dev nD) :
    BodyObligation (dats m 0 c) (defs₀ (F := Ideal)) Variants.none () Set.univ := fun t => by
  rw [bigSep_W0, bigSep_W0, defs₀_row]
  exact triple_restated (sound_body m hp c t) rfl .rfl fun _ => .rfl

set_option backward.isDefEq.respectTransparency.types false in
theorem run_main (hp : ∀ (c : Dev nD) (t : Fin cfg0.N), IsPerm (at2 (M := 512) (N := 512) (perm m c t))) :
    θ_run defs (onTc (τ := τ) (main (F := Ideal))) (s₀ m ρ)
      (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m hp c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Proof.Exact

end
-- ==== Proof.Entry.lean ====
/- What the host hands the kernel, and what it makes of the kernel's arrays. -/
module

public import proofs.«01_k».proof.Proof.Data

@[expose] public section

noncomputable section

namespace Cert.Proof.Exact

open Cert.KernelIdeal Cert.KernelIdeal.Gen
open Idealize.ShloMosaic Idealize.ShloMosaic.TcCoe Idealize.ShloMosaic.Tactic
open Cert.Proof.Tile
open scoped BigOperators
open Idealize.SL.Sem

variable (m : (ℓ : Loc nD τ sig) → Buf (Elt Ideal) ℓ) (ρ : Dev nD → PrngReg)

/-- The host's iota, and a constant spread over the matrix. -/
abbrev lane1 : IVec S512x512 32 := iotaInDim S512x512 32 1
abbrev cst (n : BitVec 32) : IVec S512x512 32 := broadcastInDim S512x512 ![] bcast_S_S512x512 (constantI S_ 32 n)

/-- The matrix the host builds. -/
def hostPerm : FVec Ideal S512x512 .bf16 :=
  uitofp (F := Ideal) .bf16 (cmpi .eq (iotaInDim S512x512 32 0)
    (addi (addi (muli (andi (andi lane1 (cst 127#32)) (cst 1#32)) (cst 256#32))
      (muli (cst 4#32) (Host.shrsi (andi lane1 (cst 127#32)) (cst 1#32)))) (Host.shrsi lane1 (cst 7#32))))

set_option maxHeartbeats 1000000 in
theorem perm_eq (c : Dev nD) : (V m c main_v18 : Vec Ideal S512x512 .bf16) = hostPerm := by
  unfold V V0 hostOps0
  simp only [List.flatten_cons, List.flatten_nil, List.append_nil, StableHlo.after_cons, StableHlo.after_nil]
  after_results_simp
  rfl

theorem rows_eq (c : Dev nD) : (V m c main_v0 : Vec Ideal S1152x20480 .bf16) = shapeCast S1152x20480 (m ((c : Thread nD τ).loc main_arg0)) shapeCasts_S3x384x20480_S1152x20480 := by
  unfold V V0 hostOps0
  simp only [List.flatten_cons, List.flatten_nil, List.append_nil, StableHlo.after_cons, StableHlo.after_nil]
  after_results_simp
  rfl

section
variable (W : Valuation τ sig (Elt Ideal))

theorem tail_v20 : (StableHlo.after [hostOps1 (F := Ideal)].flatten W (Proc.devRef .tc main_v20) : Vec Ideal S3x384x10240 .i8)
    = shapeCast S3x384x10240 (W (Proc.devRef .tc main_v19_0)) shapeCasts_S1152x10240_S3x384x10240 := by
  unfold hostOps1
  simp only [List.flatten_cons, List.flatten_nil, List.append_nil, StableHlo.after_cons, StableHlo.after_nil]
  after_results_simp
  rfl
theorem tail_v21 : (StableHlo.after [hostOps1 (F := Ideal)].flatten W (Proc.devRef .tc main_v21) : Vec Ideal S3x384x640 .i8)
    = shapeCast S3x384x640 (W (Proc.devRef .tc main_v19_1)) shapeCasts_S1152x640_S3x384x640 := by
  unfold hostOps1
  simp only [List.flatten_cons, List.flatten_nil, List.append_nil, StableHlo.after_cons, StableHlo.after_nil]
  after_results_simp
  rfl
theorem tail_v23 (j : Fin 20480) : (StableHlo.after [hostOps1 (F := Ideal)].flatten W (Proc.devRef .tc main_v23) : Vec Ideal S20480 .f32) (ValueIdx.ix1 j)
    = (W (Proc.devRef .tc main_v19_2) : Vec Ideal S8x20480 .f32) (ValueIdx.ix2 0 j) := by
  unfold hostOps1
  simp only [List.flatten_cons, List.flatten_nil, List.append_nil, StableHlo.after_cons, StableHlo.after_nil]
  after_results_simp
  refine (shapeCast_apply _ _ _ (ValueIdx.ix2 (0 : Fin 1) j) ?_).trans ?_
  · refine (rowMajor_val2 _ _ rfl).trans ?_
    refine Eq.trans ?_ (rowMajor_val1 (d := ![20480]) (ValueIdx.ix1 j)).symm
    show 0 * 20480 + j.val = j.val
    omega
  · refine congrArg (W (Proc.devRef .tc main_v19_2) : Vec Ideal S8x20480 .f32) (funext fun a => ?_)
    match a with
    | ⟨0, _⟩ => rfl
    | ⟨1, _⟩ => exact Fin.ext (Nat.zero_add _)
theorem tail_v24 : (StableHlo.after [hostOps1 (F := Ideal)].flatten W (Proc.devRef .tc main_v24) : Vec Ideal S_ .f32)
    = Host.reduce (α := Ideal .f32) FloatOps.maximumf (W (Proc.devRef .tc main_v19_3) : FVec Ideal S8x128 .f32) (constant S_ .f32 0xFF800000#32) reducesTo_S8x128_S_d0_1 h_S_ := by
  unfold hostOps1
  simp only [List.flatten_cons, List.flatten_nil, List.append_nil, StableHlo.after_cons, StableHlo.after_nil]
  after_results_simp
end

/-- The tensor by its flat row and its column. -/
def XN (X : FVec Ideal S3x384x20480 .bf16) (R col : ℕ) : EReal :=
  X (ValueIdx.ix3 (Fin.ofNat 3 (R / 384)) (Fin.ofNat 384 R) (Fin.ofNat 20480 col))

theorem rows_apply (c : Dev nD) (y : S1152x20480.Idx) :
    (V m c main_v0 : Vec Ideal S1152x20480 .bf16) y = XN (m ((c : Thread nD τ).loc main_arg0)) (y 0).val (y 1).val := by
  rw [rows_eq]
  have h0 : (y 0).val < 1152 := (y 0).isLt
  have h1 : (y 1).val < 20480 := (y 1).isLt
  refine shapeCast_apply _ _ _ (ValueIdx.ix3 (Fin.ofNat 3 ((y 0).val / 384)) (Fin.ofNat 384 (y 0).val) (Fin.ofNat 20480 (y 1).val)) ?_
  rw [rowMajor_val2 _ _ rfl, rowMajor_val3 _ _ _ rfl rfl]
  show (y 0).val / 384 % 3 * (384 * 20480) + (y 0).val % 384 * 20480 + (y 1).val % 20480 = (y 0).val * 20480 + (y 1).val
  omega

theorem block_apply (c : Dev nD) (t : Fin cfg0.N) (r col : ℕ) (hr : r < 128) (hcol : col < 20480) :
    at2 (M := 128) (N := 20480) (block m c t) r col = XN (m ((c : Thread nD τ).loc main_arg0)) (128 * t.val + r) col := by
  unfold at2 block iblk
  blk_simp
  refine (rows_apply m c _).trans ?_
  refine congrArg₂ (XN _) ?_ ?_
  · refine (Pipeline.Window.rect_emb_val win0_1 t _ 0).trans ?_
    have h : win0_1.index t 0 * win0_1.size 0 = 128 * t.val := by
      have : ∀ t : Fin cfg0.N, win0_1.index t 0 * win0_1.size 0 = 128 * t.val := by decide +kernel
      exact this t
    rw [h]
    exact congrArg (128 * t.val + ·) (Nat.mod_eq_of_lt hr)
  · refine (Pipeline.Window.rect_emb_val win0_1 t _ 1).trans ?_
    have h : win0_1.index t 1 * win0_1.size 1 = 0 := by
      have : ∀ t : Fin cfg0.N, win0_1.index t 1 * win0_1.size 1 = 0 := by decide +kernel
      exact this t
    rw [h, Nat.zero_add]
    exact Nat.mod_eq_of_lt hcol

theorem perm_apply (c : Dev nD) (t : Fin cfg0.N) : perm m c t = hostPerm := by
  unfold perm iblk
  funext y
  blk_simp
  rw [perm_eq]
  refine congrArg hostPerm (funext fun a => Fin.ext ?_)
  match a with
  | ⟨0, _⟩ => exact Pipeline.Window.rect_emb_val_of_index_zero win0_2 t 0 rfl _
  | ⟨1, _⟩ => exact Pipeline.Window.rect_emb_val_of_index_zero win0_2 t 1 rfl _

theorem seeds_apply (c : Dev nD) (t : Fin cfg0.N) : seeds m c t = m ((c : Thread nD τ).loc main_arg1) := by
  unfold seeds iblk
  funext y
  blk_simp
  rw [V_main_arg1]
  refine congrArg (m ((c : Thread nD τ).loc main_arg1) : Vec Ideal S2 .i32) (funext fun a => Fin.ext ?_)
  match a with
  | ⟨0, _⟩ => exact Pipeline.Window.rect_emb_val_of_index_zero win0_0 t 0 rfl _

/-- The column the host's words name. -/
theorem col_word : ∀ l : Fin 512,
    IntOp.addi (IntOp.addi (IntOp.muli (IntOp.andi (IntOp.andi (BitVec.ofNat 32 l.val) 127#32) 1#32) 256#32)
      (IntOp.muli 4#32 (IntOp.shrsi .host (IntOp.andi (BitVec.ofNat 32 l.val) 127#32) 1#32))) (IntOp.shrsi .host (BitVec.ofNat 32 l.val) 7#32)
      = BitVec.ofNat 32 (permCol (l.val / 128) (l.val % 128)) := by decide +kernel

theorem hostPerm_isPerm : IsPerm (at2 (M := 512) (N := 512) hostPerm) := by
  intro k j l hk hj hl
  have hc : 128 * j + l < 512 := by omega
  have e : at2 (M := 512) (N := 512) hostPerm k (128 * j + l)
      = (((BitVec.ofBool (decide (BitVec.ofNat 32 k = BitVec.ofNat 32 (permCol j l)))).toNat : ℝ) : EReal) := by
    have hw := col_word ⟨128 * j + l, hc⟩
    rw [show (128 * j + l) / 128 = j by omega, show (128 * j + l) % 128 = l by omega] at hw
    rw [← hw]
    unfold at2 hostPerm
    rw [show (Fin.ofNat 512 k) = ⟨k, hk⟩ from Fin.ext (Nat.mod_eq_of_lt hk), show (Fin.ofNat 512 (128 * j + l)) = ⟨128 * j + l, hc⟩ from Fin.ext (Nat.mod_eq_of_lt hc)]
    rfl
  rw [e]
  have hp := permCol_lt hj hl
  by_cases h : k = permCol j l
  · rw [if_pos h, h]; simp
  · rw [if_neg h, decide_eq_false (fun hh => h (by
      have := congrArg BitVec.toNat hh
      rw [BitVec.toNat_ofNat, BitVec.toNat_ofNat, Nat.mod_eq_of_lt (by omega), Nat.mod_eq_of_lt (by omega)] at this
      exact this))]
    simp

end Cert.Proof.Exact

end
-- ==== Proof.Final.lean ====
/- The kernel's four results as functions of its arguments. -/
module

public import proofs.«01_k».proof.Proof.Entry

@[expose] public section

noncomputable section

namespace Cert.Proof.Exact

open Cert.KernelIdeal Cert.KernelIdeal.Gen
open Idealize.ShloMosaic Idealize.ShloMosaic.TcCoe Idealize.ShloMosaic.Tactic
open Cert.Proof.Tile
open scoped BigOperators
open Idealize.SL.Sem
open Idealize.ShloMosaic.Pipeline (Dat)

variable (m : (ℓ : Loc nD τ sig) → Buf (Elt Ideal) ℓ) (ρ : Dev nD → PrngReg)

/-- One code byte, one scale byte. -/
def kcode (X : FVec Ideal S3x384x20480 .bf16) (s : IVec S2 32) (R c : ℕ) : BitVec 8 :=
  kbyte (XN X) (s (ValueIdx.ix1 0)) (s (ValueIdx.ix1 1)) 0 R c
def kscl (X : FVec Ideal S3x384x20480 .bf16) (R g : ℕ) : BitVec 8 := kscale (GM (XN X) R g)

section
variable (c : Dev nD)

/-- The tensor and the seeds. -/
abbrev X₀ : FVec Ideal S3x384x20480 .bf16 := m ((c : Thread nD τ).loc main_arg0)
abbrev S₀ : IVec S2 32 := m ((c : Thread nD τ).loc main_arg1)

theorem GM_block (t : Fin cfg0.N) (r g : ℕ) (hr : r < 128) (hg : g < 640) :
    GM (at2 (M := 128) (N := 20480) (block m c t)) r g = GM (XN (X₀ m c)) (128 * t.val + r) g := by
  unfold GM
  exact Finset.sup_congr rfl fun e _ => congrArg mag (block_apply m c t r (32 * g + e.val) hr (by have := e.isLt; omega))

theorem codes_block (t : Fin cfg0.N) (r k : ℕ) (hr : r < 128) (hk : k < 10240) :
    kbyte (at2 (M := 128) (N := 20480) (block m c t)) (seeds m c t (ValueIdx.ix1 0)) (seeds m c t (ValueIdx.ix1 1)) (128 * t.val) r k
      = kcode (X₀ m c) (S₀ m c) (128 * t.val + r) k := by
  unfold kcode kbyte
  rw [GM_block m c t r _ hr (by omega), block_apply m c t r (2 * k) hr (by omega), block_apply m c t r (2 * k + 1) hr (by omega), seeds_apply,
    Nat.zero_add]

theorem final3 : (dats m 0 c).arrAt 3 cfg0.N = (fun y : S1152x10240.Idx => kcode (X₀ m c) (S₀ m c) (y 0).val (y 1).val) := by
  refine (dats m 0 c).arrAt_eq_of_covers 3 _ (by decide +kernel) fun t hf y => ?_
  blk_simp
  rw [after0_3]
  refine (codes_block m c t (y 0).val (y 1).val (y 0).isLt (y 1).isLt).trans (congrArg₂ (kcode (X₀ m c) (S₀ m c)) ?_ ?_)
  · have : ∀ t : Fin cfg0.N, win0_3.index t 0 * 128 = 128 * t.val := by decide +kernel
    exact congrArg (· + (y 0).val) (this t).symm
  · have : ∀ t : Fin cfg0.N, win0_3.index t 1 * 10240 = 0 := by decide +kernel
    exact (((congrArg (· + (y 1).val) (this t))).trans (Nat.zero_add _)).symm

theorem final4 : (dats m 0 c).arrAt 4 cfg0.N = (fun y : S1152x640.Idx => kscl (X₀ m c) (y 0).val (y 1).val) := by
  refine (dats m 0 c).arrAt_eq_of_covers 4 _ (by decide +kernel) fun t hf y => ?_
  blk_simp
  rw [after0_4]
  refine (congrArg kscale (GM_block m c t (y 0).val (y 1).val (y 0).isLt (y 1).isLt)).trans (congrArg₂ (kscl (X₀ m c)) ?_ ?_)
  · have : ∀ t : Fin cfg0.N, win0_4.index t 0 * 128 = 128 * t.val := by decide +kernel
    exact congrArg (· + (y 0).val) (this t).symm
  · have : ∀ t : Fin cfg0.N, win0_4.index t 1 * 640 = 0 := by decide +kernel
    exact (((congrArg (· + (y 1).val) (this t))).trans (Nat.zero_add _)).symm

theorem final5 : (dats m 0 c).arrAt 5 cfg0.N = sums m c 9 := by
  refine (dats m 0 c).arrAt_eq_of_after_last 5 ⟨8, by decide⟩ (by decide +kernel) _ fun y => ?_
  blk_simp
  exact congrFun (after0_5 m c ⟨8, by decide⟩) _

theorem final6 : (dats m 0 c).arrAt 6 cfg0.N = maxs m c 9 := by
  refine (dats m 0 c).arrAt_eq_of_after_last 6 ⟨8, by decide⟩ (by decide +kernel) _ fun y => ?_
  blk_simp
  exact congrFun (after0_6 m c ⟨8, by decide⟩) _

theorem sums_apply (n : ℕ) (hn : n ≤ 9) (y : S8x20480.Idx) : sums m c n y = ∑ R ∈ Finset.range (128 * n), XN (X₀ m c) R (y 1).val := by
  induction n with
  | zero => rfl
  | succ n ih =>
    have e := congrFun (sums_succ m c ⟨n, hn⟩) y
    refine e.trans ?_
    unfold sumsOf
    rw [ih (by omega), Nat.mul_succ, Finset.sum_range_add, Finset.sum_range (n := 128)]
    exact congrArg _ (Finset.sum_congr rfl fun r _ => block_apply m c ⟨n, hn⟩ r.val (y 1).val r.isLt (y 1).isLt)

theorem mag_nonneg (x : EReal) : 0 ≤ mag x := by
  unfold mag
  rcases le_total 0 x with h | h
  · exact le_max_of_le_left h
  · exact le_max_of_le_right (EReal.neg_nonneg.mpr h)

theorem GM_le (x : ℕ → ℕ → EReal) (R g : ℕ) (B : EReal) : GM x R g ≤ B ↔ ∀ e : Fin 32, mag (x R (32 * g + e.val)) ≤ B := by
  unfold GM
  simp [Finset.sup_le_iff]

theorem GX_le (x : ℕ → ℕ → EReal) (s l : ℕ) (B : EReal) :
    GX x 5 s l ≤ B ↔ ∀ v i, v < 5 → i < 16 → GM x (8 * i + s) (128 * v + l) ≤ B := by
  unfold GX
  simp only [Finset.sup_le_iff, Finset.mem_range]
  exact ⟨fun h v i hv hi => h v hv i hi, fun h v hv i hi => h v i hv hi⟩

theorem maxs_le (n : ℕ) (hn : n ≤ 9) (s : Fin 8) (l : Fin 128) (B : EReal) :
    maxs m c n (ValueIdx.ix2 s l) ≤ B ↔ 0 ≤ B ∧ ∀ t v i, t < n → v < 5 → i < 16 → GM (XN (X₀ m c)) (128 * t + (8 * i + s.val)) (128 * v + l.val) ≤ B := by
  induction n with
  | zero => exact ⟨fun h => ⟨h, fun t v i ht => absurd ht (Nat.not_lt_zero _)⟩, fun h => h.1⟩
  | succ n ih =>
    have e := congrFun (maxs_succ m c ⟨n, hn⟩) (ValueIdx.ix2 s l)
    rw [show maxs m c (n + 1) (ValueIdx.ix2 s l) = max (maxs m c n (ValueIdx.ix2 s l)) (GX (at2 (M := 128) (N := 20480) (block m c ⟨n, hn⟩)) 5 s.val l.val) from e,
      max_le_iff, ih (by omega), GX_le]
    have hb : ∀ v i, v < 5 → i < 16 → GM (at2 (M := 128) (N := 20480) (block m c ⟨n, hn⟩)) (8 * i + s.val) (128 * v + l.val)
        = GM (XN (X₀ m c)) (128 * n + (8 * i + s.val)) (128 * v + l.val) := fun v i hv hi =>
      GM_block m c ⟨n, hn⟩ _ _ (by have := s.isLt; omega) (by have := l.isLt; omega)
    constructor
    · rintro ⟨⟨h0, h1⟩, h2⟩
      refine ⟨h0, fun t v i ht hv hi => ?_⟩
      rcases Nat.lt_succ_iff_lt_or_eq.mp ht with h | rfl
      · exact h1 t v i h hv hi
      · rw [← hb v i hv hi]; exact h2 v i hv hi
    · rintro ⟨h0, h1⟩
      exact ⟨⟨h0, fun t v i ht => h1 t v i (by omega)⟩, fun v i hv hi => by rw [hb v i hv hi]; exact h1 n v i (by omega) hv hi⟩

/-- The largest of the maxima bounds exactly what bounds every element. -/
theorem amax_le (B : EReal) : (∀ (s : Fin 8) (l : Fin 128), maxs m c 9 (ValueIdx.ix2 s l) ≤ B)
    ↔ ∀ R col, R < 1152 → col < 20480 → mag (XN (X₀ m c) R col) ≤ B := by
  simp only [maxs_le m c 9 (le_refl _), GM_le]
  constructor
  · intro h R col hR hc
    have := (h ⟨R % 8, by omega⟩ ⟨col / 32 % 128, by omega⟩).2 (R / 128) (col / 32 / 128) (R % 128 / 8) (by omega) (by omega) (by omega) ⟨col % 32, by omega⟩
    dsimp only at this
    rwa [show 128 * (R / 128) + (8 * (R % 128 / 8) + R % 8) = R by omega, show 32 * (128 * (col / 32 / 128) + col / 32 % 128) + col % 32 = col by omega] at this
  · intro h s l
    refine ⟨(mag_nonneg _).trans (h 0 0 (by omega) (by omega)), fun t v i ht hv hi e => h _ _ ?_ ?_⟩
    · have := s.isLt; omega
    · have := l.isLt; have := e.isLt; omega

end

/-! ## The results -/

/-- The largest magnitude. -/
def topMag (X : FVec Ideal S3x384x20480 .bf16) : EReal := (Finset.range 1152).sup fun R => (Finset.range 20480).sup fun col => mag (XN X R col)

theorem topMag_le (X : FVec Ideal S3x384x20480 .bf16) (B : EReal) : topMag X ≤ B ↔ ∀ R col, R < 1152 → col < 20480 → mag (XN X R col) ≤ B := by
  unfold topMag
  simp only [Finset.sup_le_iff, Finset.mem_range]
  exact ⟨fun h R col hR hc => h R hR col hc, fun h R hR col hc => h R col hR hc⟩

theorem reduce_max {s t u : Shape} {axes : List (Fin s.rank)} (x : FVec Ideal s .f32) (init : FVec Ideal u .f32) (h : s.ReducesTo axes t)
    (hu : 0 < u.numel) (j : t.Idx) (hi : init (Shape.Idx.first hu) = (⊥ : EReal)) (B : EReal) :
    Host.reduce (α := Ideal .f32) FloatOps.maximumf x init h hu j ≤ B ↔ ∀ i : s.Idx, h.drop i = j → x i ≤ B := by
  rw [show (FloatOps.maximumf : Ideal .f32 → Ideal .f32 → Ideal .f32) = (max : EReal → EReal → EReal) from rfl]
  refine (iff_of_eq (congrArg (· ≤ B) (Host.reduce_eq_fold (α := EReal) max x init h hu j))).trans ?_
  rw [hi, Finset.fold_max_le]
  simp

theorem neg_inf_bits : (Ideal.ofBits .f32 0xFF800000#32 : EReal) = ⊥ := by
  simp [Ideal.ofBits, Ideal.ieee]

/-- THE RUN, its four results named. -/
theorem run : θ_run defs (onTc (τ := τ) (main (F := Ideal))) ⟨m, fun _ => 0, ρ⟩ (fun r => ∀ c : Dev nD,
      (∀ (i : Fin 3) (j : Fin 384) (k : Fin 10240), (r.2.mem ((c.tc : Thread nD τ).loc main_v20) : IVec S3x384x10240 8) (ValueIdx.ix3 i j k)
          = kcode (X₀ m c) (S₀ m c) (384 * i.val + j.val) k.val)
      ∧ (∀ (i : Fin 3) (j : Fin 384) (k : Fin 640), (r.2.mem ((c.tc : Thread nD τ).loc main_v21) : IVec S3x384x640 8) (ValueIdx.ix3 i j k)
          = kscl (X₀ m c) (384 * i.val + j.val) k.val)
      ∧ (∀ k : Fin 20480, (r.2.mem ((c.tc : Thread nD τ).loc main_v23) : FVec Ideal S20480 .f32) (ValueIdx.ix1 k)
          = ∑ R ∈ Finset.range 1152, XN (X₀ m c) R k.val)
      ∧ (∀ k : S_.Idx, (r.2.mem ((c.tc : Thread nD τ).loc main_v24) : FVec Ideal S_ .f32) k = topMag (X₀ m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ fun c t => by rw [perm_apply]; exact hostPerm_isPerm)
  have hr := fun b hb => (h c).2 b hb
  have hw := fun w => Pipeline.withArrays_arr spec0 launch0.win.arr_inj c (V0 m c) (fun w => (dats m 0 c).arrAt w cfg0.N) w
  refine ⟨fun i j k => ?_, fun i j k => ?_, fun k => ?_, fun k => ?_, ?_, ?_⟩
  · rw [hr main_v20 (Pipeline.mem_restRefs_of main_v20 (by decide) (by decide))]
    refine (congrFun (tail_v20 _) _).trans ?_
    have e := (hw 3).trans (final3 m c)
    refine (congrFun (congrArg (fun v : IVec S1152x10240 8 => shapeCast S3x384x10240 v shapeCasts_S1152x10240_S3x384x10240) e) _).trans ?_
    refine shapeCast_apply _ _ _ (ValueIdx.ix2 (⟨384 * i.val + j.val, by have := i.isLt; have := j.isLt; omega⟩ : Fin 1152) k) ?_
    rw [rowMajor_val2 _ _ rfl, rowMajor_val3 _ _ _ rfl rfl]
    show (384 * i.val + j.val) * 10240 + k.val = i.val * (384 * 10240) + j.val * 10240 + k.val
    omega
  · rw [hr main_v21 (Pipeline.mem_restRefs_of main_v21 (by decide) (by decide))]
    refine (congrFun (tail_v21 _) _).trans ?_
    have e := (hw 4).trans (final4 m c)
    refine (congrFun (congrArg (fun v : IVec S1152x640 8 => shapeCast S3x384x640 v shapeCasts_S1152x640_S3x384x640) e) _).trans ?_
    refine shapeCast_apply _ _ _ (ValueIdx.ix2 (⟨384 * i.val + j.val, by have := i.isLt; have := j.isLt; omega⟩ : Fin 1152) k) ?_
    rw [rowMajor_val2 _ _ rfl, rowMajor_val3 _ _ _ rfl rfl]
    show (384 * i.val + j.val) * 640 + k.val = i.val * (384 * 640) + j.val * 640 + k.val
    omega
  · rw [hr main_v23 (Pipeline.mem_restRefs_of main_v23 (by decide) (by decide))]
    refine (tail_v23 _ k).trans ?_
    refine (congrFun ((hw 5).trans (final5 m c)) _).trans ?_
    exact sums_apply m c 9 (le_refl _) _
  · rw [hr main_v24 (Pipeline.mem_restRefs_of main_v24 (by decide) (by decide))]
    refine (congrFun (tail_v24 _) _).trans ?_
    have e := (hw 6).trans (final6 m c)
    refine (congrFun (congrArg (fun v : FVec Ideal S8x128 .f32 => Host.reduce (α := Ideal .f32) FloatOps.maximumf v (constant S_ .f32 0xFF800000#32) reducesTo_S8x128_S_d0_1 h_S_) e) _).trans ?_
    refine eq_of_forall_ge_iff fun B => ?_
    rw [reduce_max _ _ _ _ _ neg_inf_bits, topMag_le, ← amax_le]
    constructor
    · exact fun h s l => h _ (funext fun a => a.elim0)
    · intro h i _
      obtain ⟨s, l, rfl⟩ : ∃ (s : Fin 8) (l : Fin 128), i = ValueIdx.ix2 s l := ix2_surj i
      exact h s l
  · exact ((h c).2 main_arg0 (Pipeline.mem_restRefs_of main_arg0 (by decide) (by decide))).trans (W_main_arg0 m (dats m) c)
  · exact ((h c).1 0).trans (((dats m 0 c).arrAt_in 0 rfl _).trans ((A_eq m c 0).trans (V_main_arg1 m c)))

end Cert.Proof.Exact

end
-- ==== Proof.Philox.lean ====
/- The generator: the kernel's specialised rounds against the plain ones. -/
module

public import proofs.«01_k».proof.Proof.Final

@[expose] public section

noncomputable section

namespace Cert.Proof.Exact

open Idealize.ShloMosaic Idealize.ShloMosaic.TcCoe
open Cert.Proof.Tile

/-- The high word of a product. -/
def mulhi (m : ℕ) (x : BitVec 32) : BitVec 32 := BitVec.ofNat 32 (m * x.toNat / 4294967296)

/-- The generator's four words. -/
structure St where
  c0 : BitVec 32
  c1 : BitVec 32
  c2 : BitVec 32
  c3 : BitVec 32

/-- One round. -/
def rstep (a b : BitVec 32) (s : St) : St :=
  ⟨mulhi 3449720151 s.c2 ^^^ s.c1 ^^^ a, 3449720151#32 * s.c2, mulhi 3528531795 s.c0 ^^^ s.c3 ^^^ b, 3528531795#32 * s.c0⟩

/-- The state after `k` rounds from counter `n`. -/
def rst (a b n : BitVec 32) : ℕ → St
  | 0 => ⟨n, 0#32, 0#32, 0#32⟩
  | k + 1 => rstep (key0 a k) (key1 b k) (rst a b n k)

theorem split_word (x : BitVec 32) : (x >>> 16).toNat = x.toNat / 65536 ∧ (x &&& 65535#32).toNat = x.toNat % 65536 := by
  constructor
  · rw [BitVec.toNat_ushiftRight, Nat.shiftRight_eq_div_pow]
  · rw [BitVec.toNat_and]
    exact Nat.and_two_pow_sub_one_eq_mod x.toNat 16

/-- The first multiplier's high word as the kernel takes it. -/
theorem khi0 (x : BitVec 32) : 53841#32 * (x >>> 16) + ((53841#32 * (x &&& 65535#32) + (8019#32 * (x >>> 16) + (8019#32 * (x &&& 65535#32)) >>> 16)) >>> 16)
    = mulhi 3528531795 x := by
  obtain ⟨h, l⟩ := split_word x
  have hx := x.isLt
  apply BitVec.eq_of_toNat_eq
  unfold mulhi
  simp only [BitVec.toNat_add, BitVec.toNat_mul, BitVec.toNat_ushiftRight, Nat.shiftRight_eq_div_pow, BitVec.toNat_ofNat, l]
  generalize x.toNat = n at *
  obtain ⟨xh, xl, h1, h2, rfl⟩ : ∃ xh xl, xh < 65536 ∧ xl < 65536 ∧ n = xh * 65536 + xl := ⟨n / 65536, n % 65536, by omega, by omega, by omega⟩
  have e1 : (xh * 65536 + xl) / 2 ^ 16 = xh := by omega
  have e2 : (xh * 65536 + xl) % 65536 = xl := by omega
  simp only [e1, e2]
  have p1 : 53841 % 2 ^ 32 * xh % 2 ^ 32 = 53841 * xh := Nat.mod_eq_of_lt (show 53841 * xh < 2 ^ 32 by omega)
  have p2 : 53841 % 2 ^ 32 * xl % 2 ^ 32 = 53841 * xl := Nat.mod_eq_of_lt (show 53841 * xl < 2 ^ 32 by omega)
  have p3 : 8019 % 2 ^ 32 * xh % 2 ^ 32 = 8019 * xh := Nat.mod_eq_of_lt (show 8019 * xh < 2 ^ 32 by omega)
  have p4 : 8019 % 2 ^ 32 * xl % 2 ^ 32 = 8019 * xl := Nat.mod_eq_of_lt (show 8019 * xl < 2 ^ 32 by omega)
  obtain ⟨T, t, ht, hT⟩ : ∃ T t, t < 65536 ∧ 8019 * xl = 65536 * T + t := ⟨8019 * xl / 65536, 8019 * xl % 65536, by omega, by omega⟩
  have a1 : 8019 * xl / 2 ^ 16 = T := by omega
  rw [p1, p2, p3, p4, a1, Nat.mod_eq_of_lt (show 8019 * xh + T < 2 ^ 32 by omega), Nat.mod_eq_of_lt (show 53841 * xl + (8019 * xh + T) < 2 ^ 32 by omega)]
  obtain ⟨C, c, hc, hC⟩ : ∃ C c, c < 65536 ∧ 53841 * xl + (8019 * xh + T) = 65536 * C + c :=
    ⟨(53841 * xl + (8019 * xh + T)) / 65536, (53841 * xl + (8019 * xh + T)) % 65536, by omega, by omega⟩
  have a2 : (53841 * xl + (8019 * xh + T)) / 2 ^ 16 = C := by omega
  have a3 : 3528531795 * (xh * 65536 + xl) / 4294967296 = 53841 * xh + C := by omega
  rw [a2, a3]

/-- The second multiplier's high word as the kernel takes it. -/
theorem khi1 (x : BitVec 32) : 52638#32 * (x >>> 16) + ((26319#32 * (x &&& 65535#32) + (36183#32 * (x >>> 16) + (36183#32 * (x &&& 65535#32)) >>> 16) >>> 1) >>> 15)
    = mulhi 3449720151 x := by
  obtain ⟨h, l⟩ := split_word x
  have hx := x.isLt
  apply BitVec.eq_of_toNat_eq
  unfold mulhi
  simp only [BitVec.toNat_add, BitVec.toNat_mul, BitVec.toNat_ushiftRight, Nat.shiftRight_eq_div_pow, BitVec.toNat_ofNat, l]
  generalize x.toNat = n at *
  obtain ⟨xh, xl, h1, h2, rfl⟩ : ∃ xh xl, xh < 65536 ∧ xl < 65536 ∧ n = xh * 65536 + xl := ⟨n / 65536, n % 65536, by omega, by omega, by omega⟩
  have e1 : (xh * 65536 + xl) / 2 ^ 16 = xh := by omega
  have e2 : (xh * 65536 + xl) % 65536 = xl := by omega
  simp only [e1, e2]
  have p1 : 52638 % 2 ^ 32 * xh % 2 ^ 32 = 52638 * xh := Nat.mod_eq_of_lt (show 52638 * xh < 2 ^ 32 by omega)
  have p2 : 26319 % 2 ^ 32 * xl % 2 ^ 32 = 26319 * xl := Nat.mod_eq_of_lt (show 26319 * xl < 2 ^ 32 by omega)
  have p3 : 36183 % 2 ^ 32 * xh % 2 ^ 32 = 36183 * xh := Nat.mod_eq_of_lt (show 36183 * xh < 2 ^ 32 by omega)
  have p4 : 36183 % 2 ^ 32 * xl % 2 ^ 32 = 36183 * xl := Nat.mod_eq_of_lt (show 36183 * xl < 2 ^ 32 by omega)
  obtain ⟨T, t, ht, hT⟩ : ∃ T t, t < 65536 ∧ 36183 * xl = 65536 * T + t := ⟨36183 * xl / 65536, 36183 * xl % 65536, by omega, by omega⟩
  have a1 : 36183 * xl / 2 ^ 16 = T := by omega
  rw [p1, p2, p3, p4, a1, Nat.mod_eq_of_lt (show 36183 * xh + T < 2 ^ 32 by omega)]
  obtain ⟨H, h, hh, hH⟩ : ∃ H h, h < 2 ∧ 36183 * xh + T = 2 * H + h := ⟨(36183 * xh + T) / 2, (36183 * xh + T) % 2, by omega, by omega⟩
  have a2 : (36183 * xh + T) / 2 ^ 1 = H := by omega
  rw [a2, Nat.mod_eq_of_lt (show 26319 * xl + H < 2 ^ 32 by omega)]
  obtain ⟨C, c, hc, hC⟩ : ∃ C c, c < 32768 ∧ 26319 * xl + H = 32768 * C + c := ⟨(26319 * xl + H) / 32768, (26319 * xl + H) % 32768, by omega, by omega⟩
  have a3 : (26319 * xl + H) / 2 ^ 15 = C := by omega
  have a4 : 3449720151 * (xh * 65536 + xl) / 4294967296 = 52638 * xh + C := by omega
  rw [a3, a4]

/-- The high word as the reference takes it, for a multiplier of halves `h` and `l`. -/
def rhi (h l x : BitVec 32) : BitVec 32 :=
  (h * (x >>> 16) + (h * (x &&& 65535#32) + (l * (x &&& 65535#32)) >>> 16) >>> 16)
    + (l * (x >>> 16) + ((h * (x &&& 65535#32) + (l * (x &&& 65535#32)) >>> 16) &&& 65535#32)) >>> 16

theorem and_low (x : BitVec 32) : (x &&& 65535#32).toNat = x.toNat % 65536 := (split_word x).2

theorem rhi0 (x : BitVec 32) : rhi 53841#32 8019#32 x = mulhi 3528531795 x := by
  have hx := x.isLt
  apply BitVec.eq_of_toNat_eq
  unfold mulhi rhi
  simp only [and_low, BitVec.toNat_add, BitVec.toNat_mul, BitVec.toNat_ushiftRight, Nat.shiftRight_eq_div_pow, BitVec.toNat_ofNat]
  generalize x.toNat = n at *
  obtain ⟨xh, xl, h1, h2, rfl⟩ : ∃ xh xl, xh < 65536 ∧ xl < 65536 ∧ n = xh * 65536 + xl := ⟨n / 65536, n % 65536, by omega, by omega, by omega⟩
  have e1 : (xh * 65536 + xl) / 2 ^ 16 = xh := by omega
  have e2 : (xh * 65536 + xl) % 65536 = xl := by omega
  simp only [e1, e2]
  have p1 : 53841 % 2 ^ 32 * xh % 2 ^ 32 = 53841 * xh := Nat.mod_eq_of_lt (show 53841 * xh < 2 ^ 32 by omega)
  have p2 : 53841 % 2 ^ 32 * xl % 2 ^ 32 = 53841 * xl := Nat.mod_eq_of_lt (show 53841 * xl < 2 ^ 32 by omega)
  have p3 : 8019 % 2 ^ 32 * xh % 2 ^ 32 = 8019 * xh := Nat.mod_eq_of_lt (show 8019 * xh < 2 ^ 32 by omega)
  have p4 : 8019 % 2 ^ 32 * xl % 2 ^ 32 = 8019 * xl := Nat.mod_eq_of_lt (show 8019 * xl < 2 ^ 32 by omega)
  obtain ⟨T, t, ht, hT⟩ : ∃ T t, t < 65536 ∧ 8019 * xl = 65536 * T + t := ⟨8019 * xl / 65536, 8019 * xl % 65536, by omega, by omega⟩
  have a1 : 8019 * xl / 2 ^ 16 = T := by omega
  rw [p1, p2, p3, p4, a1, Nat.mod_eq_of_lt (show 53841 * xl + T < 2 ^ 32 by omega)]
  obtain ⟨U, u, hu, hU⟩ : ∃ U u, u < 65536 ∧ 53841 * xl + T = 65536 * U + u := ⟨(53841 * xl + T) / 65536, (53841 * xl + T) % 65536, by omega, by omega⟩
  have a3 : (53841 * xl + T) / 2 ^ 16 = U := by omega
  have a4 : (53841 * xl + T) % 65536 = u := by omega
  rw [a3, a4, Nat.mod_eq_of_lt (show 8019 * xh + u < 2 ^ 32 by omega)]
  obtain ⟨C, c, hc, hC⟩ : ∃ C c, c < 65536 ∧ 8019 * xh + u = 65536 * C + c := ⟨(8019 * xh + u) / 65536, (8019 * xh + u) % 65536, by omega, by omega⟩
  have a5 : (8019 * xh + u) / 2 ^ 16 = C := by omega
  have a6 : 3528531795 * (xh * 65536 + xl) / 4294967296 = 53841 * xh + U + C := by omega
  rw [a5, a6]
  rw [Nat.mod_eq_of_lt (show 53841 * xh + U < 2 ^ 32 by omega)]

theorem rhi1 (x : BitVec 32) : rhi 52638#32 36183#32 x = mulhi 3449720151 x := by
  have hx := x.isLt
  apply BitVec.eq_of_toNat_eq
  unfold mulhi rhi
  simp only [and_low, BitVec.toNat_add, BitVec.toNat_mul, BitVec.toNat_ushiftRight, Nat.shiftRight_eq_div_pow, BitVec.toNat_ofNat]
  generalize x.toNat = n at *
  obtain ⟨xh, xl, h1, h2, rfl⟩ : ∃ xh xl, xh < 65536 ∧ xl < 65536 ∧ n = xh * 65536 + xl := ⟨n / 65536, n % 65536, by omega, by omega, by omega⟩
  have e1 : (xh * 65536 + xl) / 2 ^ 16 = xh := by omega
  have e2 : (xh * 65536 + xl) % 65536 = xl := by omega
  simp only [e1, e2]
  have p1 : 52638 % 2 ^ 32 * xh % 2 ^ 32 = 52638 * xh := Nat.mod_eq_of_lt (show 52638 * xh < 2 ^ 32 by omega)
  have p2 : 52638 % 2 ^ 32 * xl % 2 ^ 32 = 52638 * xl := Nat.mod_eq_of_lt (show 52638 * xl < 2 ^ 32 by omega)
  have p3 : 36183 % 2 ^ 32 * xh % 2 ^ 32 = 36183 * xh := Nat.mod_eq_of_lt (show 36183 * xh < 2 ^ 32 by omega)
  have p4 : 36183 % 2 ^ 32 * xl % 2 ^ 32 = 36183 * xl := Nat.mod_eq_of_lt (show 36183 * xl < 2 ^ 32 by omega)
  obtain ⟨T, t, ht, hT⟩ : ∃ T t, t < 65536 ∧ 36183 * xl = 65536 * T + t := ⟨36183 * xl / 65536, 36183 * xl % 65536, by omega, by omega⟩
  have a1 : 36183 * xl / 2 ^ 16 = T := by omega
  rw [p1, p2, p3, p4, a1, Nat.mod_eq_of_lt (show 52638 * xl + T < 2 ^ 32 by omega)]
  obtain ⟨U, u, hu, hU⟩ : ∃ U u, u < 65536 ∧ 52638 * xl + T = 65536 * U + u := ⟨(52638 * xl + T) / 65536, (52638 * xl + T) % 65536, by omega, by omega⟩
  have a3 : (52638 * xl + T) / 2 ^ 16 = U := by omega
  have a4 : (52638 * xl + T) % 65536 = u := by omega
  rw [a3, a4, Nat.mod_eq_of_lt (show 36183 * xh + u < 2 ^ 32 by omega)]
  obtain ⟨C, c, hc, hC⟩ : ∃ C c, c < 65536 ∧ 36183 * xh + u = 65536 * C + c := ⟨(36183 * xh + u) / 65536, (36183 * xh + u) % 65536, by omega, by omega⟩
  have a5 : (36183 * xh + u) / 2 ^ 16 = C := by omega
  have a6 : 3449720151 * (xh * 65536 + xl) / 4294967296 = 52638 * xh + U + C := by omega
  rw [a5, a6]
  rw [Nat.mod_eq_of_lt (show 52638 * xh + U < 2 ^ 32 by omega)]

/-! ## The kernel's words -/

theorem hi0_apply (x : IVec Cert.KernelIdeal.S8x128 32) (i : Cert.KernelIdeal.S8x128.Idx) : hi0 x i = mulhi 3528531795 (x i) := by
  rw [← khi0]; rfl
theorem hi1_apply (x : IVec Cert.KernelIdeal.S8x128 32) (i : Cert.KernelIdeal.S8x128.Idx) : hi1 x i = mulhi 3449720151 (x i) := by
  rw [← khi1]; rfl
theorem shi0_eq (x : BitVec 32) : shi0 x = mulhi 3528531795 x := by
  rw [← khi0]; rfl
theorem lo0_apply (x : IVec Cert.KernelIdeal.S8x128 32) (i : Cert.KernelIdeal.S8x128.Idx) : lo0 x i = 3528531795#32 * x i := rfl
theorem lo1_apply (x : IVec Cert.KernelIdeal.S8x128 32) (i : Cert.KernelIdeal.S8x128.Idx) : lo1 x i = 3449720151#32 * x i := rfl
theorem xori_at (x y : IVec Cert.KernelIdeal.S8x128 32) (i : Cert.KernelIdeal.S8x128.Idx) : xori x y i = x i ^^^ y i := rfl
theorem bc_at (w : BitVec 32) (i : Cert.KernelIdeal.S8x128.Idx) : bc w i = w := rfl
theorem sxor (x y : BitVec 32) : Scalar.xori x y = x ^^^ y := rfl

/-- A tile counter holds a state. -/
structure Holds (c : Ctr) (s : St) : Prop where
  e0 : c.c0 i0 = s.c0
  e1 : c.c1 i0 = s.c1
  e2 : c.c2 i0 = s.c2
  e3 : c.c3 i0 = s.c3

theorem Holds.round {c : Ctr} {s : St} (h : Holds c s) (a b : BitVec 32) : Holds (round a b c) (rstep a b s) := by
  constructor
  · show xori (hi1 c.c2) (xori c.c1 (bc a)) i0 = _
    rw [xori_at, hi1_apply, xori_at, bc_at, h.e1, h.e2, ← BitVec.xor_assoc]
    rfl
  · show lo1 c.c2 i0 = _
    rw [lo1_apply, h.e2]
    rfl
  · show xori (hi0 c.c0) (xori c.c3 (bc b)) i0 = _
    rw [xori_at, hi0_apply, xori_at, bc_at, h.e0, h.e3, ← BitVec.xor_assoc]
    rfl
  · show lo0 c.c0 i0 = _
    rw [lo0_apply, h.e0]
    rfl

theorem mulhi_zero (m : ℕ) : mulhi m 0#32 = 0#32 := by
  unfold mulhi
  simp

/-- The first three rounds, with their constant parts folded. -/
theorem holds_two (a b n : BitVec 32) : Holds (two a b (fun _ => n)) (rst a b n 3) := by
  have s1 : rst a b n 1 = ⟨a, 0#32, mulhi 3528531795 n ^^^ b, 3528531795#32 * n⟩ := by
    show rstep a b ⟨n, 0#32, 0#32, 0#32⟩ = _
    unfold rstep
    simp [mulhi_zero]
  have s2 : rst a b n 2 = ⟨mulhi 3449720151 (mulhi 3528531795 n ^^^ b) ^^^ key0 a 1, 3449720151#32 * (mulhi 3528531795 n ^^^ b),
      (3528531795#32 * n) ^^^ (mulhi 3528531795 a ^^^ key1 b 1), 3528531795#32 * a⟩ := by
    show rstep (key0 a 1) (key1 b 1) (rst a b n 1) = _
    rw [s1]
    unfold rstep
    simp only [BitVec.xor_zero]
    congr 1
    rw [BitVec.xor_comm (mulhi 3528531795 a), BitVec.xor_assoc]
  have s3 : rst a b n 3 = rstep (key0 a 2) (key1 b 2) (rst a b n 2) := rfl
  rw [s3, s2]
  unfold two
  constructor
  · dsimp only
    rw [xori_at, hi1_apply, xori_at, lo0_apply, bc_at, sxor, shi0_eq, xori_at, lo1_apply, xori_at, hi0_apply, bc_at, bc_at, ← BitVec.xor_assoc (mulhi 3449720151 _)]
    rfl
  · dsimp only
    rw [lo1_apply, xori_at, lo0_apply, bc_at, sxor, shi0_eq]
    rfl
  · dsimp only
    rw [xori_at, hi0_apply, xori_at, hi1_apply, xori_at, hi0_apply, bc_at, bc_at, bc_at, sxor, ← BitVec.xor_assoc (mulhi 3528531795 _)]
    rfl
  · dsimp only
    rw [lo0_apply, xori_at, hi1_apply, xori_at, hi0_apply, bc_at, bc_at]
    rfl

theorem holds_eight (a b n : BitVec 32) : Holds (eight a b (fun _ => n)) (rst a b n 9) :=
  ((((((holds_two a b n).round (key0 a 3) (key1 b 3)).round (key0 a 4) (key1 b 4)).round (key0 a 5) (key1 b 5)).round (key0 a 6) (key1 b 6)).round
    (key0 a 7) (key1 b 7)).round (key0 a 8) (key1 b 8)

theorem xor_ones (x k : BitVec 32) : x ^^^ (k ^^^ 4294967295#32) = ~~~ (x ^^^ k) := by
  rw [← BitVec.xor_assoc, show (4294967295#32 : BitVec 32) = BitVec.allOnes 32 from by decide, BitVec.xor_allOnes]

/-- The kernel's ten rounds: the first and third words complemented. -/
theorem words_eq (a b n : BitVec 32) : (words a b (fun _ => n)).c0 i0 = ~~~ (rst a b n 10).c0 ∧ (words a b (fun _ => n)).c1 i0 = (rst a b n 10).c1
    ∧ (words a b (fun _ => n)).c2 i0 = ~~~ (rst a b n 10).c2 ∧ (words a b (fun _ => n)).c3 i0 = (rst a b n 10).c3 := by
  have h := (holds_eight a b n).round (Scalar.xori (key0 a 9) 4294967295#32) (Scalar.xori (key1 b 9) 4294967295#32)
  have e : rst a b n 10 = rstep (key0 a 9) (key1 b 9) (rst a b n 9) := by rw [rst]
  rw [e]
  unfold words
  generalize rst a b n 9 = s at *
  generalize eight a b (fun _ => n) = c at *
  obtain ⟨h0, h1, h2, h3⟩ := h
  rw [h0, h1, h2, h3]
  unfold rstep
  rw [sxor, sxor]
  generalize key0 a 9 = k
  generalize key1 b 9 = l
  dsimp only
  exact ⟨xor_ones _ _, rfl, xor_ones _ _, rfl⟩

end Cert.Proof.Exact

end
-- ==== Proof.RefSums.lean ====
/- The reference's column sums and its largest magnitude. -/
module

public import proofs.«01_k».proof.Proof.Final
public import proofs.«01_k».proof.Proof.Gen.ReferenceIdeal

@[expose] public section

noncomputable section

namespace Cert.Proof.Exact

open Cert.ReferenceIdeal Cert.ReferenceIdeal.Gen
open Idealize.ShloMosaic Idealize.ShloMosaic.TcCoe
open scoped BigOperators

variable (X : FVec Ideal S3x384x20480 .bf16)

theorem XN_ix3 (i : Fin 3) (j : Fin 384) (k : Fin 20480) : XN X (384 * i.val + j.val) k.val = X (ValueIdx.ix3 i j k) := by
  unfold XN
  refine congrArg X (funext fun a => Fin.ext ?_)
  have hi := i.isLt; have hj := j.isLt; have hk := k.isLt
  match a with
  | ⟨0, _⟩ => show (384 * i.val + j.val) / 384 % 3 = i.val; omega
  | ⟨1, _⟩ => show (384 * i.val + j.val) % 384 = j.val; omega
  | ⟨2, _⟩ => show k.val % 20480 = k.val; omega

theorem ix3_surj {a b c : ℕ} (y : (⟨3, ![a, b, c]⟩ : Shape).Idx) : ∃ (i : Fin a) (j : Fin b) (k : Fin c), y = ValueIdx.ix3 i j k :=
  ⟨y 0, y 1, y 2, funext fun x => by match x with | ⟨0, _⟩ => rfl | ⟨1, _⟩ => rfl | ⟨2, _⟩ => rfl⟩

theorem drop_col (i : Fin 3) (j : Fin 384) (k : Fin 20480) :
    reducesTo_S3x384x20480_S20480_d0_1.drop (ValueIdx.ix3 i j k) = ValueIdx.ix1 k := by
  funext a
  match a with
  | ⟨0, _⟩ => rfl

theorem ref_sum (k : Fin 20480) : Host.reduceAdd (extf .f32 X bitsLt_bf16_f32 : FVec Ideal S3x384x20480 .f32) (constant S_ .f32 0x00000000#32)
      reducesTo_S3x384x20480_S20480_d0_1 h_S_ (ValueIdx.ix1 k) = ∑ R ∈ Finset.range 1152, XN X R k.val := by
  show Ideal.ofBits .f32 0x00000000#32 + ∑ i ∈ Finset.univ.filter (fun i => reducesTo_S3x384x20480_S20480_d0_1.drop i = ValueIdx.ix1 k), X i = _
  rw [Tile.zero_bits, zero_add]
  refine Finset.sum_bij' (fun i _ => 384 * (i 0).val + (i 1).val) (fun R _ => ValueIdx.ix3 (Fin.ofNat 3 (R / 384)) (Fin.ofNat 384 R) k) ?_ ?_ ?_ ?_ ?_
  · intro i _
    obtain ⟨a, b, c, rfl⟩ := ix3_surj i
    rw [Finset.mem_range]
    have := a.isLt; have := b.isLt
    show 384 * a.val + b.val < 1152
    omega
  · intro R _
    exact Finset.mem_filter.mpr ⟨Finset.mem_univ _, drop_col _ _ _⟩
  · intro i hi
    obtain ⟨a, b, c, rfl⟩ := ix3_surj i
    have hc : c = k := congrFun ((drop_col a b c).symm.trans (Finset.mem_filter.mp hi).2) 0
    subst hc
    funext x
    have := a.isLt; have := b.isLt
    match x with
    | ⟨0, _⟩ => exact Fin.ext (show (384 * a.val + b.val) / 384 % 3 = a.val by omega)
    | ⟨1, _⟩ => exact Fin.ext (show (384 * a.val + b.val) % 384 = b.val by omega)
    | ⟨2, _⟩ => rfl
  · intro R hR
    have := Finset.mem_range.mp hR
    show 384 * (R / 384 % 3) + R % 384 = R
    omega
  · intro i hi
    obtain ⟨a, b, c, rfl⟩ := ix3_surj i
    have hc : c = k := congrFun ((drop_col a b c).symm.trans (Finset.mem_filter.mp hi).2) 0
    subst hc
    exact (XN_ix3 X a b c).symm

theorem ref_max (k : S_.Idx) : Host.reduce (α := Ideal .f32) FloatOps.maximumf (Host.absf (extf .f32 X bitsLt_bf16_f32 : FVec Ideal S3x384x20480 .f32)) (constant S_ .f32 0xFF800000#32)
      reducesTo_S3x384x20480_S_d0_1_2 h_S_ k = topMag X := by
  refine eq_of_forall_ge_iff fun B => ?_
  rw [reduce_max _ _ _ _ _ neg_inf_bits, topMag_le]
  constructor
  · intro h R col hR hc
    exact h (ValueIdx.ix3 (Fin.ofNat 3 (R / 384)) (Fin.ofNat 384 R) (Fin.ofNat 20480 col)) (funext fun a => a.elim0)
  · intro h i _
    obtain ⟨a, b, c, rfl⟩ := ix3_surj i
    have e := h (384 * a.val + b.val) c.val (by have := a.isLt; have := b.isLt; omega) c.isLt
    rw [XN_ix3] at e
    exact e

end Cert.Proof.Exact

end
-- ==== Proof.Num.lean ====
/- Powers of two as bit patterns, and the search for the exponent of a group's largest magnitude. -/
module

public import proofs.«01_k».proof.Proof.RefSums

@[expose] public section

noncomputable section

namespace Cert.Proof.Exact

open Idealize.ShloMosaic Idealize.ShloMosaic.TcCoe
open Cert.Proof.Tile

/-- The value of a positive normal pattern from its exponent and fraction fields. -/
theorem bits_val (b : BitVec 32) (e f : ℕ) (hs : b.extractLsb' 31 1 = 0#1) (he : (b.extractLsb' 23 8).toNat = e)
    (hf : (b.extractLsb' 0 23).toNat = f) (h1 : 1 ≤ e) (h2 : e ≤ 254) :
    (Ideal.ofBits .f32 b : EReal) = (((2 ^ 23 + f : ℕ) * (2 : ℝ) ^ ((e : ℤ) - 127 - 23) : ℝ) : EReal) := by
  show Ideal.ieee 8 23 b = _
  unfold Ideal.ieee
  simp only [Nat.reduceAdd, hs, he, hf]
  rw [if_neg (by omega), if_neg (by omega)]
  norm_num

/-- The pattern of a power of two. -/
theorem pow_bits (n : ℕ) (h1 : 1 ≤ n) (h2 : n ≤ 254) :
    (Ideal.ofBits .f32 (BitVec.ofNat 32 n <<< 23) : EReal) = (((2 : ℝ) ^ ((n : ℤ) - 127) : ℝ) : EReal) := by
  have h : ∀ n : Fin 256, (BitVec.ofNat 32 n.val <<< 23).extractLsb' 31 1 = 0#1 ∧ ((BitVec.ofNat 32 n.val <<< 23).extractLsb' 23 8).toNat = n.val
      ∧ ((BitVec.ofNat 32 n.val <<< 23).extractLsb' 0 23).toNat = 0 := by decide +kernel
  obtain ⟨ha, hb, hc⟩ := h ⟨n, by omega⟩
  rw [bits_val _ n 0 ha hb hc h1 h2]
  refine congrArg (fun r : ℝ => (r : EReal)) ?_
  rw [zpow_sub₀ (by norm_num : (2 : ℝ) ≠ 0) ((n : ℤ) - 127) 23]
  norm_num
  ring

theorem top_bits : (Ideal.ofBits .f32 (BitVec.ofNat 32 255 <<< 23) : EReal) = ⊤ := by
  have h : (BitVec.ofNat 32 255 <<< 23).extractLsb' 31 1 = 0#1 ∧ ((BitVec.ofNat 32 255 <<< 23).extractLsb' 23 8).toNat = 255
      ∧ ((BitVec.ofNat 32 255 <<< 23).extractLsb' 0 23).toNat = 0 := by decide +kernel
  show Ideal.ieee 8 23 (BitVec.ofNat 32 255 <<< 23) = ⊤
  unfold Ideal.ieee
  simp only [Nat.reduceAdd, h.1, h.2.1, h.2.2]
  simp

/-- `A` lies in the binade whose exponent field is `E`. -/
def Binade (A : EReal) (E : ℕ) : Prop :=
  1 ≤ E ∧ E ≤ 254 ∧ ∃ a : ℝ, A = (a : EReal) ∧ (2 : ℝ) ^ ((E : ℤ) - 127) ≤ a ∧ a < (2 : ℝ) ^ ((E : ℤ) - 126)

/-- The range the scales are claimed on: zero, and the normal values. -/
def InRange (A : EReal) : Prop :=
  A = 0 ∨ ((Ideal.ofBits .f32 0x00800000#32 : EReal) ≤ A ∧ A ≤ (Ideal.ofBits .f32 0x7F7FFFFF#32 : EReal))

theorem range_cases (A : EReal) (h : InRange A) : A = 0 ∨ ∃ E, Binade A E := by
  rcases h with h | ⟨h1, h2⟩
  · exact Or.inl h
  refine Or.inr ?_
  rw [bits_val 0x00800000#32 1 0 (by decide) (by decide) (by decide) (by decide) (by decide)] at h1
  rw [bits_val 0x7F7FFFFF#32 254 8388607 (by decide) (by decide) (by decide) (by decide) (by decide)] at h2
  induction A with
  | bot => exact absurd h1 (not_le.mpr (EReal.bot_lt_coe _))
  | top => exact absurd h2 (not_le.mpr (EReal.coe_lt_top _))
  | coe a =>
    rw [EReal.coe_le_coe_iff] at h1 h2
    have l1 : (2 : ℝ) ^ (-126 : ℤ) ≤ a := le_trans (by norm_num) h1
    have l2 : a < (2 : ℝ) ^ (128 : ℤ) := lt_of_le_of_lt h2 (by norm_num)
    have ha : 0 < a := lt_of_lt_of_le (by positivity) l1
    have hone : (1 : ℝ) < 2 := by norm_num
    obtain ⟨n, p1, p2⟩ := exists_mem_Ico_zpow ha hone
    have q1 : (-126 : ℤ) < n + 1 := (zpow_lt_zpow_iff_right₀ hone).mp (lt_of_le_of_lt l1 p2)
    have q2 : n < 128 := (zpow_lt_zpow_iff_right₀ hone).mp (lt_of_le_of_lt p1 l2)
    refine ⟨(n + 127).toNat, by omega, by omega, a, rfl, ?_, ?_⟩
    · have e : (((n + 127).toNat : ℕ) : ℤ) - 127 = n := by omega
      rw [e]; exact p1
    · have e : (((n + 127).toNat : ℕ) : ℤ) - 126 = n + 1 := by omega
      rw [e]; exact p2

theorem threshold (A : EReal) (E n : ℕ) (h : Binade A E) (h1 : 1 ≤ n) (h2 : n ≤ 255) :
    (Ideal.ofBits .f32 (BitVec.ofNat 32 n <<< 23) : EReal) ≤ A ↔ n ≤ E := by
  obtain ⟨_, hE, a, rfl, ha, hb⟩ := h
  have hone : (1 : ℝ) < 2 := by norm_num
  rcases Nat.lt_or_ge n 255 with hn | hn
  · rw [pow_bits n h1 (by omega), EReal.coe_le_coe_iff]
    constructor
    · intro hle
      have := (zpow_lt_zpow_iff_right₀ hone).mp (lt_of_le_of_lt hle hb)
      omega
    · intro hle
      exact le_trans ((zpow_le_zpow_iff_right₀ hone).mpr (by omega)) ha
  · have : n = 255 := by omega
    subst this
    rw [top_bits]
    constructor
    · intro hle; exact absurd (EReal.coe_lt_top a) (not_lt.mpr hle)
    · intro hle; omega

theorem threshold_zero (n : ℕ) (h1 : 1 ≤ n) (h2 : n ≤ 255) :
    ¬ (Ideal.ofBits .f32 (BitVec.ofNat 32 n <<< 23) : EReal) ≤ 0 := by
  rcases Nat.lt_or_ge n 255 with hn | hn
  · rw [pow_bits n h1 (by omega)]
    have : (0 : ℝ) < (2 : ℝ) ^ ((n : ℤ) - 127) := by positivity
    exact not_le.mpr (by exact_mod_cast this)
  · have : n = 255 := by omega
    subst this
    rw [top_bits]
    simp

/-- The exponent field of a maximum: zero for zero. -/
def Field (A : EReal) (E : ℕ) : Prop := (A = 0 ∧ E = 0) ∨ Binade A E

theorem Field.lt {A : EReal} {E : ℕ} (h : Field A E) : E ≤ 254 := by
  rcases h with ⟨_, h⟩ | h
  · omega
  · exact h.2.1

theorem range_field (A : EReal) (h : InRange A) : ∃ E, Field A E := by
  rcases range_cases A h with h | ⟨E, h⟩
  · exact ⟨0, Or.inl ⟨h, rfl⟩⟩
  · exact ⟨E, Or.inr h⟩

theorem field_le {A : EReal} {E : ℕ} (h : Field A E) (n : ℕ) (h1 : 1 ≤ n) (h2 : n ≤ 255) :
    (Ideal.ofBits .f32 (BitVec.ofNat 32 n <<< 23) : EReal) ≤ A ↔ n ≤ E := by
  rcases h with ⟨rfl, rfl⟩ | h
  · constructor
    · intro hle; exact absurd hle (threshold_zero n h1 h2)
    · intro hle; omega
  · exact threshold A E n h h1 h2

/-- The exponent fields the codes are claimed for: a zero maximum, and the fields from three up. -/
def Coded (E : ℕ) : Prop := E = 0 ∨ 3 ≤ E

/-- The range the codes are claimed on. -/
def InCodeRange (A : EReal) : Prop :=
  A = 0 ∨ ((Ideal.ofBits .f32 0x01800000#32 : EReal) ≤ A ∧ A ≤ (Ideal.ofBits .f32 0x7F7FFFFF#32 : EReal))

theorem code_field (A : EReal) (h : InCodeRange A) : ∃ E, Field A E ∧ Coded E := by
  rcases h with h | ⟨h1, h2⟩
  · exact ⟨0, Or.inl ⟨h, rfl⟩, Or.inl rfl⟩
  · have hr : InRange A := by
      refine Or.inr ⟨le_trans ?_ h1, h2⟩
      rw [bits_val 0x00800000#32 1 0 (by decide) (by decide) (by decide) (by decide) (by decide),
        bits_val 0x01800000#32 3 0 (by decide) (by decide) (by decide) (by decide) (by decide), EReal.coe_le_coe_iff]
      norm_num
    obtain ⟨E, hE⟩ := range_field A hr
    exact ⟨E, hE, Or.inr ((field_le hE 3 (by omega) (by omega)).mp (by rw [show BitVec.ofNat 32 3 <<< 23 = 0x01800000#32 from by decide]; exact h1))⟩

def natStep (E b n : ℕ) : ℕ := if n + b ≤ E then n + b else n

theorem natStep_le (E b n m : ℕ) (h : n + b ≤ m) : natStep E b n ≤ m := by
  unfold natStep; split <;> omega

theorem ofBool_select {α : Type} (p : Prop) [Decidable p] (x y : α) : Scalar.select (BitVec.ofBool (decide p)) x y = if p then x else y := by
  by_cases h : p <;> simp [h, Scalar.select]

theorem sStep_nat {A : EReal} {E : ℕ} (h : Field A E) (b n : ℕ) (w : BitVec 32) (hw : w = BitVec.ofNat 32 b <<< 23) (hb : 1 ≤ b) (hn : n + b ≤ 255) :
    sStep A w (BitVec.ofNat 32 n <<< 23) = BitVec.ofNat 32 (natStep E b n) <<< 23 := by
  have e : IntOp.addi (BitVec.ofNat 32 n <<< 23) w = BitVec.ofNat 32 (n + b) <<< 23 := by
    subst hw
    show BitVec.ofNat 32 n <<< 23 + BitVec.ofNat 32 b <<< 23 = _
    apply BitVec.eq_of_toNat_eq
    simp only [BitVec.toNat_add, BitVec.toNat_shiftLeft, BitVec.toNat_ofNat, Nat.shiftLeft_eq]
    omega
  unfold sStep
  rw [e]
  show Scalar.select (BitVec.ofBool (decide ((Ideal.ofBits .f32 (BitVec.ofNat 32 (n + b) <<< 23) : EReal) ≤ A))) _ _ = _
  rw [ofBool_select]
  unfold natStep
  by_cases hle : n + b ≤ E
  · rw [if_pos hle, if_pos ((field_le h (n + b) (by omega) hn).mpr hle)]
  · rw [if_neg hle, if_neg (fun hh => hle ((field_le h (n + b) (by omega) hn).mp hh))]

theorem chain : ∀ E : Fin 256, natStep E 1 (natStep E 2 (natStep E 4 (natStep E 8 (natStep E 16 (natStep E 32 (natStep E 64 (natStep E 128 0))))))) = E.val := by
  decide +kernel

theorem sExp_eq {A : EReal} {E : ℕ} (h : Field A E) : sExp A = BitVec.ofNat 32 E <<< 23 := by
  have b1 := natStep_le E 128 0 128 (by omega)
  have b2 := natStep_le E 64 _ 192 (Nat.add_le_add_right b1 64)
  have b3 := natStep_le E 32 _ 224 (Nat.add_le_add_right b2 32)
  have b4 := natStep_le E 16 _ 240 (Nat.add_le_add_right b3 16)
  have b5 := natStep_le E 8 _ 248 (Nat.add_le_add_right b4 8)
  have b6 := natStep_le E 4 _ 252 (Nat.add_le_add_right b5 4)
  have b7 := natStep_le E 2 _ 254 (Nat.add_le_add_right b6 2)
  unfold sExp
  rw [show (0#32 : BitVec 32) = BitVec.ofNat 32 0 <<< 23 from by decide,
    sStep_nat h 128 0 _ (by decide) (by omega) (by omega),
    sStep_nat h 64 _ _ (by decide) (by omega) (by omega),
    sStep_nat h 32 _ _ (by decide) (by omega) (by omega),
    sStep_nat h 16 _ _ (by decide) (by omega) (by omega),
    sStep_nat h 8 _ _ (by decide) (by omega) (by omega),
    sStep_nat h 4 _ _ (by decide) (by omega) (by omega),
    sStep_nat h 2 _ _ (by decide) (by omega) (by omega),
    sStep_nat h 1 _ _ (by decide) (by omega) (by omega)]
  have := chain ⟨E, by have := h.lt; omega⟩
  simp only at this
  rw [this]

/-- The scale byte. -/
theorem kscale_eq {A : EReal} {E : ℕ} (h : Field A E) : kscale A = BitVec.ofNat 8 (if E = 0 then 127 else E + 254) := by
  unfold kscale
  rw [sExp_eq h]
  have e : ∀ E : Fin 256, scaleTail (BitVec.ofNat 32 E.val <<< 23) = BitVec.ofNat 8 (if E.val = 0 then 127 else E.val + 254) := by decide +kernel
  exact e ⟨E, by have := h.lt; omega⟩

/-- The reference's exponent word: zero for a zero maximum, and the count of powers of two not above it, less 129. -/
def rexp (A : EReal) (n : BitVec 32) : BitVec 32 :=
  Scalar.select (FloatOps.cmpf (F := Ideal) (φ := .f32) .oeq A (Ideal.ofBits .f32 0x00000000#32 : EReal)) 0#32
    (IntOp.subi (IntOp.subi n 126#32) 3#32)

theorem rexp_eq {A : EReal} {E : ℕ} (h : Field A E) :
    rexp A (BitVec.ofNat 32 E) = if E = 0 then 0#32 else BitVec.ofNat 32 E - 129#32 := by
  unfold rexp
  rw [zero_bits]
  show Scalar.select (BitVec.ofBool (decide (A = 0))) 0#32 _ = _
  rw [ofBool_select]
  have e : ∀ E : Fin 256, IntOp.subi (IntOp.subi (BitVec.ofNat 32 E.val) 126#32) 3#32 = BitVec.ofNat 32 E.val - 129#32 := by decide +kernel
  rw [show IntOp.subi (IntOp.subi (BitVec.ofNat 32 E) 126#32) 3#32 = _ from e ⟨E, by have := h.lt; omega⟩]
  rcases h with ⟨rfl, rfl⟩ | h
  · simp
  · obtain ⟨h3, _, a, rfl, ha, _⟩ := h
    have hp : (0 : ℝ) < a := lt_of_lt_of_le (by positivity) ha
    rw [if_neg (by exact_mod_cast hp.ne'), if_neg (by omega)]

/-- The reference's scale byte. -/
theorem rscale_eq {A : EReal} {E : ℕ} (h : Field A E) :
    (IntOp.addi (rexp A (BitVec.ofNat 32 E)) 127#32).setWidth 8 = kscale A := by
  rw [rexp_eq h, kscale_eq h]
  have e : ∀ E : Fin 256, (IntOp.addi (if E.val = 0 then 0#32 else BitVec.ofNat 32 E.val - 129#32) 127#32).setWidth 8
    = BitVec.ofNat 8 (if E.val = 0 then 127 else E.val + 254) := by decide +kernel
  exact e ⟨E, by have := h.lt; omega⟩

end Cert.Proof.Exact

end
-- ==== Proof.RefScale.lean ====
/- The reference's group maxima and scale bytes, read at an index. -/
module

public import proofs.«01_k».proof.Proof.Num
public import proofs.«01_k».proof.Proof.Gen.ReferenceIdeal.Run
public import Idealize.ShloMosaic.Lib.StableHlo.Predicate

@[expose] public section

noncomputable section

namespace Cert.Proof.Exact

open Cert.ReferenceIdeal Cert.ReferenceIdeal.Gen Cert.ReferenceIdeal.Value
open Cert.Proof.Tile
open Idealize.ShloMosaic Idealize.ShloMosaic.TcCoe
open scoped BigOperators

theorem ix4_surj {a b c d : ℕ} (y : (⟨4, ![a, b, c, d]⟩ : Shape).Idx) : ∃ (i : Fin a) (j : Fin b) (k : Fin c) (l : Fin d), y = ValueIdx.ix4 i j k l :=
  ⟨y 0, y 1, y 2, y 3, funext fun x => by match x with | ⟨0, _⟩ => rfl | ⟨1, _⟩ => rfl | ⟨2, _⟩ => rfl | ⟨3, _⟩ => rfl⟩

/-- Element `e` of group `g` of a row. -/
theorem group_apply {α : Type} (x : S3x384x20480.Idx → α) (i : Fin 3) (j : Fin 384) (g : Fin 640) (e : Fin 32) :
    shapeCast S3x384x640x32 x shapeCasts_S3x384x20480_S3x384x640x32 (ValueIdx.ix4 i j g e)
      = x (ValueIdx.ix3 i j ⟨32 * g.val + e.val, by have := g.isLt; have := e.isLt; omega⟩) := by
  refine shapeCast_apply x _ _ _ ?_
  rw [rowMajor_val4 _ _ _ _ rfl rfl rfl, rowMajor_val3 _ _ _ rfl rfl]
  show i.val * (384 * 20480) + j.val * 20480 + (32 * g.val + e.val) = i.val * (384 * (640 * 32)) + j.val * (640 * 32) + g.val * 32 + e.val
  ring

theorem drop_group (i : Fin 3) (j : Fin 384) (g : Fin 640) (e : Fin 32) :
    reducesTo_S3x384x640x32_S3x384x640_d3.drop (ValueIdx.ix4 i j g e) = ValueIdx.ix3 i j g := by
  funext a
  match a with
  | ⟨0, _⟩ => rfl
  | ⟨1, _⟩ => rfl
  | ⟨2, _⟩ => rfl

theorem ix3_inj {a b c : ℕ} {i i' : Fin a} {j j' : Fin b} {k k' : Fin c}
    (h : (ValueIdx.ix3 i j k : (⟨3, ![a, b, c]⟩ : Shape).Idx) = ValueIdx.ix3 i' j' k') : i = i' ∧ j = j' ∧ k = k' :=
  ⟨congrFun h 0, congrFun h 1, congrFun h 2⟩

variable (X : FVec Ideal S3x384x20480 .bf16)

/-- The largest magnitude of a group. -/
theorem group_max (h1 : S3x384x20480.ShapeCasts S3x384x640x32) (h2 : S3x384x640x32.ReducesTo [3] S3x384x640) (h3 : 0 < S_.numel)
    (i : Fin 3) (j : Fin 384) (g : Fin 640) :
    Host.reduce (α := Ideal .f32) FloatOps.maximumf (Host.absf (shapeCast S3x384x640x32 (extf .f32 X bitsLt_bf16_f32 : FVec Ideal S3x384x20480 .f32) h1 : FVec Ideal S3x384x640x32 .f32))
      (constant S_ .f32 0xFF800000#32) h2 h3 (ValueIdx.ix3 i j g) = GM (XN X) (384 * i.val + j.val) g.val := by
  refine eq_of_forall_ge_iff fun B => ?_
  rw [reduce_max _ _ _ _ _ neg_inf_bits]
  have hv : ∀ e : Fin 32, (Host.absf (shapeCast S3x384x640x32 (extf .f32 X bitsLt_bf16_f32 : FVec Ideal S3x384x20480 .f32) h1 : FVec Ideal S3x384x640x32 .f32)) (ValueIdx.ix4 i j g e)
      = mag (XN X (384 * i.val + j.val) (32 * g.val + e.val)) := by
    intro e
    have e1 := group_apply (extf .f32 X bitsLt_bf16_f32 : FVec Ideal S3x384x20480 .f32) i j g e
    show mag _ = _
    refine congrArg mag (e1.trans ?_)
    exact (XN_ix3 X i j ⟨32 * g.val + e.val, by have := g.isLt; have := e.isLt; omega⟩).symm
  unfold GM
  rw [Finset.sup_le_iff]
  constructor
  · intro h e _
    rw [← hv]
    exact h _ (drop_group i j g e)
  · intro h y hy
    obtain ⟨i', j', g', e, rfl⟩ := ix4_surj y
    obtain ⟨rfl, rfl, rfl⟩ := ix3_inj ((drop_group i' j' g' e).symm.trans hy)
    rw [hv]
    exact h e (Finset.mem_univ _)

/-- The sum along the last axis of a widened mask counts its set bits. -/
theorem count_last (msk : IVec S3x384x640x254 1) (i : Fin 3) (j : Fin 384) (g : Fin 640) (E : ℕ) (hE : E ≤ 254)
    (h : ∀ q : Fin 254, msk (ValueIdx.ix4 i j g q) = 1#1 ↔ q.val + 1 ≤ E) :
    Host.reduce IntOp.addi (extui 32 msk natLt_1_32) (constantI S_ 32 0#32) reducesTo_S3x384x640x254_S3x384x640_d3 h_S_ (ValueIdx.ix3 i j g)
      = BitVec.ofNat 32 E := by
  classical
  have hval : ∀ y, (extui 32 msk natLt_1_32 y).toNat = if msk y = 1#1 then 1 else 0 := fun y => StableHlo.Predicate.toNat_setWidth_bit (msk y)
  have hd : ∀ (i' : Fin 3) (j' : Fin 384) (g' : Fin 640) (q : Fin 254),
      reducesTo_S3x384x640x254_S3x384x640_d3.drop (ValueIdx.ix4 i' j' g' q) = ValueIdx.ix3 i' j' g' := by
    intro i' j' g' q
    funext a
    match a with
    | ⟨0, _⟩ => rfl
    | ⟨1, _⟩ => rfl
    | ⟨2, _⟩ => rfl
  have hcard : ∀ E : Fin 255, (Finset.univ.filter (fun q : Fin 254 => q.val + 1 ≤ E.val)).card = E.val := by decide +kernel
  have hsum : ∑ y ∈ Finset.univ.filter (fun y => reducesTo_S3x384x640x254_S3x384x640_d3.drop y = ValueIdx.ix3 i j g), (extui 32 msk natLt_1_32 y).toNat = E := by
    have hc := hcard ⟨E, by omega⟩
    refine Eq.trans ?_ hc
    rw [Finset.card_filter]
    refine Finset.sum_bij' (fun y _ => y 3) (fun q _ => ValueIdx.ix4 i j g q) (fun _ _ => Finset.mem_univ _)
      (fun q _ => Finset.mem_filter.2 ⟨Finset.mem_univ _, hd _ _ _ _⟩) ?_ (fun _ _ => rfl) ?_
    · intro y hy
      obtain ⟨i', j', g', q, rfl⟩ := ix4_surj y
      obtain ⟨rfl, rfl, rfl⟩ := ix3_inj ((hd i' j' g' q).symm.trans (Finset.mem_filter.1 hy).2)
      rfl
    · intro y hy
      obtain ⟨i', j', g', q, rfl⟩ := ix4_surj y
      obtain ⟨rfl, rfl, rfl⟩ := ix3_inj ((hd i' j' g' q).symm.trans (Finset.mem_filter.1 hy).2)
      rw [hval]
      exact if_congr (h q) rfl rfl
  apply BitVec.eq_of_toNat_eq
  rw [Host.reduce_eq_fold]
  show (Finset.fold IntOp.addi 0#32 (extui 32 msk natLt_1_32) (Finset.univ.filter fun y => reducesTo_S3x384x640x254_S3x384x640_d3.drop y = ValueIdx.ix3 i j g)).toNat = _
  rw [StableHlo.Predicate.toNat_fold_addi _ _ (by rw [hsum]; omega), hsum, BitVec.toNat_ofNat, Nat.mod_eq_of_lt (by omega)]

abbrev Env := Valuation τ sig (Elt Ideal)
abbrev inX (V0 : Env) : FVec Ideal S3x384x20480 .bf16 := V0 (Proc.devRef .tc main_arg0)

theorem v654_apply (V0 : Env) (i : Fin 3) (j : Fin 384) (g : Fin 640) :
    res_main_v654 V0 (ValueIdx.ix3 i j g) = GM (XN (inX V0)) (384 * i.val + j.val) g.val :=
  group_max (inX V0) _ _ _ i j g

/-- The thresholds: the powers of two from the least normal one up. -/
def thresholds : FVec Ideal S254 .f32 :=
  bitcastToFloat (F := Ideal) .f32 (Host.shli (addi (addi (broadcastInDim S254 ![] bcast_S_S254 (constantI S_ 32 4294967170#32)) (iotaInDim S254 32 0)) (broadcastInDim S254 ![] bcast_S_S254 (constantI S_ 32 127#32))) (broadcastInDim S254 ![] bcast_S_S254 (constantI S_ 32 23#32)))

theorem threshold_word : ∀ q : Fin 254, Host.shli (addi (addi (broadcastInDim S254 ![] bcast_S_S254 (constantI S_ 32 4294967170#32)) (iotaInDim S254 32 0)) (broadcastInDim S254 ![] bcast_S_S254 (constantI S_ 32 127#32))) (broadcastInDim S254 ![] bcast_S_S254 (constantI S_ 32 23#32)) (ValueIdx.ix1 q)
    = BitVec.ofNat 32 (q.val + 1) <<< 23 := by
  have h : ∀ q : Fin 254, IntOp.shli .host (IntOp.addi (IntOp.addi 4294967170#32 (BitVec.ofNat 32 q.val)) 127#32) 23#32 = BitVec.ofNat 32 (q.val + 1) <<< 23 := by decide +kernel
  intro q
  rw [← h q]
  rfl

theorem thresholds_apply (q : Fin 254) : thresholds (ValueIdx.ix1 q) = (Ideal.ofBits .f32 (BitVec.ofNat 32 (q.val + 1) <<< 23) : EReal) := by
  rw [← threshold_word q]
  rfl

/-- Which thresholds a group maximum is at or above. -/
def reached (A : FVec Ideal S3x384x640 .f32) (T : FVec Ideal S254 .f32) : IVec S3x384x640x254 1 :=
  cmpf .oge (broadcastInDim S3x384x640x254 ![0, 1, 2, 3] bcast_S3x384x640x1_S3x384x640x254_0_1_2_3 (broadcastInDim S3x384x640x1 ![0, 1, 2] bcast_S3x384x640_S3x384x640x1_0_1_2 A)) (broadcastInDim S3x384x640x254 ![0, 1, 2, 3] bcast_S1x1x1x254_S3x384x640x254_0_1_2_3 (broadcastInDim S1x1x1x254 ![3] bcast_S254_S1x1x1x254_3 T))

theorem bcast_group {α : Type} (A : S3x384x640.Idx → α) (i : Fin 3) (j : Fin 384) (g : Fin 640) (q : Fin 254) :
    broadcastInDim S3x384x640x254 ![0, 1, 2, 3] bcast_S3x384x640x1_S3x384x640x254_0_1_2_3 (broadcastInDim S3x384x640x1 ![0, 1, 2] bcast_S3x384x640_S3x384x640x1_0_1_2 A) (ValueIdx.ix4 i j g q)
      = A (ValueIdx.ix3 i j g) := by
  refine congrArg A (funext fun a => ?_)
  match a with
  | ⟨0, _⟩ => rfl
  | ⟨1, _⟩ => rfl
  | ⟨2, _⟩ => rfl

theorem bcast_threshold {α : Type} (T : S254.Idx → α) (i : Fin 3) (j : Fin 384) (g : Fin 640) (q : Fin 254) :
    broadcastInDim S3x384x640x254 ![0, 1, 2, 3] bcast_S1x1x1x254_S3x384x640x254_0_1_2_3 (broadcastInDim S1x1x1x254 ![3] bcast_S254_S1x1x1x254_3 T) (ValueIdx.ix4 i j g q)
      = T (ValueIdx.ix1 q) := by
  refine congrArg T (funext fun a => ?_)
  match a with
  | ⟨0, _⟩ => rfl

theorem reached_apply (A : FVec Ideal S3x384x640 .f32) (T : FVec Ideal S254 .f32) (i : Fin 3) (j : Fin 384) (g : Fin 640) (q : Fin 254) :
    reached A T (ValueIdx.ix4 i j g q) = FloatOps.cmpf (F := Ideal) (φ := .f32) .oge (A (ValueIdx.ix3 i j g)) (T (ValueIdx.ix1 q)) := by
  rw [← bcast_group A i j g q, ← bcast_threshold T i j g q]
  rfl

theorem v676_eq (V0 : Env) : res_main_v676 V0
    = select (cmpf .oeq (res_main_v654 V0) (broadcastInDim S3x384x640 ![] bcast_S_S3x384x640 (constant S_ .f32 0x00000000#32))) (broadcastInDim S3x384x640 ![] bcast_S_S3x384x640 (id (constantI S_ 32 0#32)))
      (subi (subi (Host.reduce IntOp.addi (extui 32 (reached (res_main_v654 V0) thresholds) natLt_1_32) (constantI S_ 32 0#32) reducesTo_S3x384x640x254_S3x384x640_d3 h_S_) (broadcastInDim S3x384x640 ![] bcast_S_S3x384x640 (constantI S_ 32 126#32))) (broadcastInDim S3x384x640 ![] bcast_S_S3x384x640 (constantI S_ 32 3#32))) := rfl

theorem rexp_read (A : FVec Ideal S3x384x640 .f32) (n : IVec S3x384x640 32) (y : S3x384x640.Idx) :
    select (cmpf .oeq A (broadcastInDim S3x384x640 ![] bcast_S_S3x384x640 (constant S_ .f32 0x00000000#32))) (broadcastInDim S3x384x640 ![] bcast_S_S3x384x640 (id (constantI S_ 32 0#32)))
      (subi (subi n (broadcastInDim S3x384x640 ![] bcast_S_S3x384x640 (constantI S_ 32 126#32))) (broadcastInDim S3x384x640 ![] bcast_S_S3x384x640 (constantI S_ 32 3#32))) y
      = rexp (A y) (n y) := rfl

/-- The reference's exponent word. -/
theorem v676_apply (V0 : Env) (i : Fin 3) (j : Fin 384) (g : Fin 640) (E : ℕ)
    (h : Field (GM (XN (inX V0)) (384 * i.val + j.val) g.val) E) :
    res_main_v676 V0 (ValueIdx.ix3 i j g) = rexp (GM (XN (inX V0)) (384 * i.val + j.val) g.val) (BitVec.ofNat 32 E) := by
  rw [v676_eq, rexp_read, v654_apply, count_last _ i j g E h.lt]
  intro q
  rw [reached_apply, thresholds_apply, v654_apply, ← field_le h (q.val + 1) (by omega) (by have := q.isLt; omega)]
  show BitVec.ofBool (decide _) = 1#1 ↔ _
  by_cases hh : (Ideal.ofBits .f32 (BitVec.ofNat 32 (q.val + 1) <<< 23) : EReal) ≤ GM (XN (inX V0)) (384 * i.val + j.val) g.val <;> simp [hh]

end Cert.Proof.Exact

end
-- ==== Proof.RefWords.lean ====
/- The reference's random words, read at an index. -/
module

public import proofs.«01_k».proof.Proof.Philox
public import proofs.«01_k».proof.Proof.RefScale

@[expose] public section

noncomputable section

namespace Cert.Proof.Exact

open Cert.ReferenceIdeal Cert.ReferenceIdeal.Gen Cert.ReferenceIdeal.Value
open Idealize.ShloMosaic Idealize.ShloMosaic.TcCoe
open Cert.Proof.Tile (key0 key1)

/-- A word in every place. -/
abbrev Bc (w : IVec S_ 32) : IVec S3x384x5120 32 := broadcastInDim S3x384x5120 ![] bcast_S_S3x384x5120 w
abbrev Kc (w : BitVec 32) : IVec S_ 32 := constantI S_ 32 w

/-- The middle sum of the product. -/
def Vmid (H L : IVec S_ 32) (x : IVec S3x384x5120 32) : IVec S3x384x5120 32 :=
  addi (muli (Bc H) (andi x (Bc (Kc 65535#32)))) (Host.shrui (muli (Bc L) (andi x (Bc (Kc 65535#32)))) (Bc (Kc 16#32)))

/-- The high words of a product. -/
def Vhi (H L : IVec S_ 32) (x : IVec S3x384x5120 32) : IVec S3x384x5120 32 :=
  addi (addi (muli (Bc H) (Host.shrui x (Bc (Kc 16#32)))) (Host.shrui (Vmid H L x) (Bc (Kc 16#32))))
    (Host.shrui (addi (muli (Bc L) (Host.shrui x (Bc (Kc 16#32)))) (andi (Vmid H L x) (Bc (Kc 65535#32)))) (Bc (Kc 16#32)))

structure VSt where
  c0 : IVec S3x384x5120 32
  c1 : IVec S3x384x5120 32
  c2 : IVec S3x384x5120 32
  c3 : IVec S3x384x5120 32

/-- The halves of a multiplier. -/
abbrev top (m : BitVec 32) : IVec S_ 32 := Host.shrui (Kc m) (Kc 16#32)
abbrev low (m : BitVec 32) : IVec S_ 32 := andi (Kc m) (Kc 65535#32)

/-- One round. -/
def vround (ka kb : IVec S_ 32) (v : VSt) : VSt :=
  ⟨xori (xori (Vhi (top 3449720151#32) (low 3449720151#32) v.c2) v.c1) (Bc ka), muli (Bc (Kc 3449720151#32)) v.c2,
    xori (xori (Vhi (top 3528531795#32) (low 3528531795#32) v.c0) v.c3) (Bc kb), muli (Bc (Kc 3528531795#32)) v.c0⟩

variable (V0 : Env)

def vkey0 : ℕ → IVec S_ 32
  | 0 => res_main_v4 V0
  | n + 1 => addi (vkey0 n) (Kc 2654435769#32)
def vkey1 : ℕ → IVec S_ 32
  | 0 => res_main_v6 V0
  | n + 1 => addi (vkey1 n) (Kc 3144134277#32)

def vst : ℕ → VSt
  | 0 => ⟨res_main_v1 V0, res_main_v2 V0, res_main_v2 V0, res_main_v2 V0⟩
  | k + 1 => vround (vkey0 V0 k) (vkey1 V0 k) (vst k)

theorem Vhi_apply (h l : BitVec 32) (H L : IVec S_ 32) (hH : ∀ i, H i = h) (hL : ∀ i, L i = l) (x : IVec S3x384x5120 32) (y : S3x384x5120.Idx) :
    Vhi H L x y = rhi h l (x y) := by
  have e1 : H = fun _ => h := funext hH
  have e2 : L = fun _ => l := funext hL
  subst e1 e2
  rfl

theorem Vhi0 (x : IVec S3x384x5120 32) (y : S3x384x5120.Idx) : Vhi (top 3528531795#32) (low 3528531795#32) x y = mulhi 3528531795 (x y) := by
  rw [Vhi_apply 53841#32 8019#32 (top 3528531795#32) (low 3528531795#32) (fun _ => (show IntOp.shrui .host 3528531795#32 16#32 = 53841#32 by decide)) (fun _ => (show IntOp.andi 3528531795#32 65535#32 = 8019#32 by decide)), rhi0]
theorem Vhi1 (x : IVec S3x384x5120 32) (y : S3x384x5120.Idx) : Vhi (top 3449720151#32) (low 3449720151#32) x y = mulhi 3449720151 (x y) := by
  rw [Vhi_apply 52638#32 36183#32 (top 3449720151#32) (low 3449720151#32) (fun _ => (show IntOp.shrui .host 3449720151#32 16#32 = 52638#32 by decide)) (fun _ => (show IntOp.andi 3449720151#32 65535#32 = 36183#32 by decide)), rhi1]

/-- The seeds. -/
def seedA : BitVec 32 := (V0 (Proc.devRef .tc main_arg1) : IVec S2 32) (ValueIdx.ix1 0)
def seedB : BitVec 32 := (V0 (Proc.devRef .tc main_arg1) : IVec S2 32) (ValueIdx.ix1 1)

theorem v4_apply (i : S_.Idx) : res_main_v4 V0 i = seedA V0 := by
  unfold res_main_v4 seedA
  show shapeCast S_ (extractStridedSlice S1 ![0] (V0 (Proc.devRef .tc main_arg1) : IVec S2 32) slices_S2_S1_0) shapeCasts_S1_S_ i = _
  refine (shapeCast_apply _ _ _ (ValueIdx.ix1 (0 : Fin 1)) ?_).trans ?_
  · have a := (S_.rowMajor i).isLt
    have e1 : S_.numel = 1 := by decide
    rw [rowMajor_val1]
    show 0 = _
    omega
  · refine congrArg (V0 (Proc.devRef .tc main_arg1) : IVec S2 32) (funext fun a => ?_)
    match a with
    | ⟨0, _⟩ => rfl

theorem v6_apply (i : S_.Idx) : res_main_v6 V0 i = seedB V0 := by
  unfold res_main_v6 seedB
  show shapeCast S_ (extractStridedSlice S1 ![1] (V0 (Proc.devRef .tc main_arg1) : IVec S2 32) slices_S2_S1_1) shapeCasts_S1_S_ i = _
  refine (shapeCast_apply _ _ _ (ValueIdx.ix1 (0 : Fin 1)) ?_).trans ?_
  · have a := (S_.rowMajor i).isLt
    have e1 : S_.numel = 1 := by decide
    rw [rowMajor_val1]
    show 0 = _
    omega
  · refine congrArg (V0 (Proc.devRef .tc main_arg1) : IVec S2 32) (funext fun a => ?_)
    match a with
    | ⟨0, _⟩ => rfl

theorem vkey0_apply (k : ℕ) (i : S_.Idx) : vkey0 V0 k i = key0 (seedA V0) k := by
  induction k with
  | zero => exact v4_apply V0 i
  | succ k ih => exact congrArg (fun w => w + 2654435769#32) ih
theorem vkey1_apply (k : ℕ) (i : S_.Idx) : vkey1 V0 k i = key1 (seedB V0) k := by
  induction k with
  | zero => exact v6_apply V0 i
  | succ k ih => exact congrArg (fun w => w + 3144134277#32) ih

/-- The call number at a place. -/
theorem v1_apply (i : Fin 3) (j : Fin 384) (k : Fin 5120) :
    res_main_v1 V0 (ValueIdx.ix3 i j k) = BitVec.ofNat 32 ((384 * i.val + j.val) * 5120 + k.val) := by
  unfold res_main_v1
  show shapeCast S3x384x5120 (iotaInDim S5898240 32 0) shapeCasts_S5898240_S3x384x5120 (ValueIdx.ix3 i j k) = _
  have hi := i.isLt; have hj := j.isLt; have hk := k.isLt
  refine (shapeCast_apply _ _ _ (ValueIdx.ix1 ⟨(384 * i.val + j.val) * 5120 + k.val, by omega⟩) ?_).trans rfl
  rw [rowMajor_val1, rowMajor_val3 _ _ _ rfl rfl]
  show (384 * i.val + j.val) * 5120 + k.val = i.val * (384 * 5120) + j.val * 5120 + k.val
  ring

theorem Bc_apply (w : IVec S_ 32) (v : BitVec 32) (h : ∀ i, w i = v) (y : S3x384x5120.Idx) : Bc w y = v := h _

/-- The four words at a place. -/
structure VHolds (v : VSt) (y : S3x384x5120.Idx) (s : St) : Prop where
  e0 : v.c0 y = s.c0
  e1 : v.c1 y = s.c1
  e2 : v.c2 y = s.c2
  e3 : v.c3 y = s.c3

theorem VHolds.round {v : VSt} {y : S3x384x5120.Idx} {s : St} (h : VHolds v y s) (ka kb : IVec S_ 32) (a b : BitVec 32) (ha : ∀ i, ka i = a) (hb : ∀ i, kb i = b) :
    VHolds (vround ka kb v) y (rstep a b s) := by
  constructor
  · show Vhi (top 3449720151#32) (low 3449720151#32) v.c2 y ^^^ v.c1 y ^^^ Bc ka y = _
    rw [Vhi1, Bc_apply ka a ha, h.e1, h.e2]
    rfl
  · show 3449720151#32 * v.c2 y = _
    rw [h.e2]
    rfl
  · show Vhi (top 3528531795#32) (low 3528531795#32) v.c0 y ^^^ v.c3 y ^^^ Bc kb y = _
    rw [Vhi0, Bc_apply kb b hb, h.e0, h.e3]
    rfl
  · show 3528531795#32 * v.c0 y = _
    rw [h.e0]
    rfl

theorem vst_holds (i : Fin 3) (j : Fin 384) (c : Fin 5120) (k : ℕ) :
    VHolds (vst V0 k) (ValueIdx.ix3 i j c) (rst (seedA V0) (seedB V0) (BitVec.ofNat 32 ((384 * i.val + j.val) * 5120 + c.val)) k) := by
  induction k with
  | zero => exact ⟨v1_apply V0 i j c, rfl, rfl, rfl⟩
  | succ k ih => exact ih.round _ _ _ _ (vkey0_apply V0 k) (vkey1_apply V0 k)

/-- The state of two rounds later ones are named from, each round's words named once. -/
abbrev named (a b c d : IVec S3x384x5120 32) : VSt := ⟨a, muli (Bc (Kc 3449720151#32)) d, c, muli (Bc (Kc 3528531795#32)) b⟩

theorem vst_nine : vst V0 9 = named (res_main_v577 V0) (res_main_v513 V0) (res_main_v580 V0) (res_main_v516 V0) := by
  have h1 : vst V0 1 = named (res_main_v65 V0) (res_main_v1 V0) (res_main_v68 V0) (res_main_v2 V0) := rfl
  have h2 : vst V0 2 = named (res_main_v129 V0) (res_main_v65 V0) (res_main_v132 V0) (res_main_v68 V0) := by rw [vst, h1]; rfl
  have h3 : vst V0 3 = named (res_main_v193 V0) (res_main_v129 V0) (res_main_v196 V0) (res_main_v132 V0) := by rw [vst, h2]; rfl
  have h4 : vst V0 4 = named (res_main_v257 V0) (res_main_v193 V0) (res_main_v260 V0) (res_main_v196 V0) := by rw [vst, h3]; rfl
  have h5 : vst V0 5 = named (res_main_v321 V0) (res_main_v257 V0) (res_main_v324 V0) (res_main_v260 V0) := by rw [vst, h4]; rfl
  have h6 : vst V0 6 = named (res_main_v385 V0) (res_main_v321 V0) (res_main_v388 V0) (res_main_v324 V0) := by rw [vst, h5]; rfl
  have h7 : vst V0 7 = named (res_main_v449 V0) (res_main_v385 V0) (res_main_v452 V0) (res_main_v388 V0) := by rw [vst, h6]; rfl
  have h8 : vst V0 8 = named (res_main_v513 V0) (res_main_v449 V0) (res_main_v516 V0) (res_main_v452 V0) := by rw [vst, h7]; rfl
  rw [vst, h8]; rfl

/-- The four words of every call side by side. -/
def words4 (v : VSt) : IVec S3x384x5120x4 32 :=
  concatenate S3x384x5120x4 3 [⟨S3x384x5120x1, (broadcastInDim S3x384x5120x1 ![0, 1, 2] bcast_S3x384x5120_S3x384x5120x1_0_1_2 v.c0 : IVec S3x384x5120x1 32)⟩,
    ⟨S3x384x5120x1, (broadcastInDim S3x384x5120x1 ![0, 1, 2] bcast_S3x384x5120_S3x384x5120x1_0_1_2 v.c1 : IVec S3x384x5120x1 32)⟩,
    ⟨S3x384x5120x1, (broadcastInDim S3x384x5120x1 ![0, 1, 2] bcast_S3x384x5120_S3x384x5120x1_0_1_2 v.c2 : IVec S3x384x5120x1 32)⟩,
    ⟨S3x384x5120x1, (broadcastInDim S3x384x5120x1 ![0, 1, 2] bcast_S3x384x5120_S3x384x5120x1_0_1_2 v.c3 : IVec S3x384x5120x1 32)⟩]
    concatenates_S3x384x5120x1_S3x384x5120x1_S3x384x5120x1_S3x384x5120x1_S3x384x5120x4_d3

/-- Which of a state's four words. -/
def St.pick (s : St) (m : ℕ) : BitVec 32 := if m = 0 then s.c0 else if m = 1 then s.c1 else if m = 2 then s.c2 else s.c3

def vpick (v : VSt) (m : Fin 4) : IVec S3x384x5120x1 32 :=
  broadcastInDim S3x384x5120x1 ![0, 1, 2] bcast_S3x384x5120_S3x384x5120x1_0_1_2 (match m with | 0 => v.c0 | 1 => v.c1 | 2 => v.c2 | 3 => v.c3)

theorem words4_apply (v : VSt) (i : Fin 3) (j : Fin 384) (c : Fin 5120) (m : Fin 4) (s : St) (h : VHolds v (ValueIdx.ix3 i j c) s) :
    words4 v (ValueIdx.ix4 i j c m) = s.pick m.val := by
  have e : words4 v = concatenate S3x384x5120x4 3 (List.ofFn fun n : Fin 4 => (⟨S3x384x5120x1, vpick v n⟩ : (s : Shape) × (s.Idx → BitVec 32)))
    concatenates_S3x384x5120x1_S3x384x5120x1_S3x384x5120x1_S3x384x5120x1_S3x384x5120x4_d3 := rfl
  rw [e]
  refine (concatenate_ofFn_apply (t := S3x384x5120x4) (s₁ := S3x384x5120x1) 3 (fun n : Fin 4 => vpick v n) _ rfl 1 rfl (ValueIdx.ix4 i j c m)
    ⟨m.val / 1, by omega⟩ rfl (ValueIdx.ix4 i j c (0 : Fin 1)) (by show 0 = m.val % 1; omega) ?_).trans ?_
  · intro a ha
    match a with
    | ⟨0, _⟩ => rfl
    | ⟨1, _⟩ => rfl
    | ⟨2, _⟩ => rfl
    | ⟨3, _⟩ => exact absurd rfl ha
  · have hb : ∀ x : IVec S3x384x5120 32, broadcastInDim S3x384x5120x1 ![0, 1, 2] bcast_S3x384x5120_S3x384x5120x1_0_1_2 x (ValueIdx.ix4 i j c (0 : Fin 1)) = x (ValueIdx.ix3 i j c) := by
      intro x
      refine congrArg x (funext fun a => ?_)
      match a with
      | ⟨0, _⟩ => rfl
      | ⟨1, _⟩ => rfl
      | ⟨2, _⟩ => rfl
    unfold vpick
    rw [hb]
    match m with
    | 0 => exact h.e0
    | 1 => exact h.e1
    | 2 => exact h.e2
    | 3 => exact h.e3

/-- The random word of element `e` of group `g`. -/
theorem word_at (W : IVec S3x384x5120x4 32) (i : Fin 3) (j : Fin 384) (g : Fin 640) (e : Fin 32) :
    shapeCast S3x384x640x32 (shapeCast S3x384x20480 W shapeCasts_S3x384x5120x4_S3x384x20480) shapeCasts_S3x384x20480_S3x384x640x32 (ValueIdx.ix4 i j g e)
      = W (ValueIdx.ix4 i j ⟨(32 * g.val + e.val) / 4, by have := g.isLt; have := e.isLt; omega⟩ ⟨e.val % 4, by omega⟩) := by
  rw [group_apply]
  have hi := i.isLt; have hj := j.isLt; have hg := g.isLt; have he := e.isLt
  refine shapeCast_apply W _ _ _ ?_
  rw [rowMajor_val4 _ _ _ _ rfl rfl rfl, rowMajor_val3 _ _ _ rfl rfl]
  show i.val * (384 * (5120 * 4)) + j.val * (5120 * 4) + (32 * g.val + e.val) / 4 * 4 + e.val % 4 = i.val * (384 * 20480) + j.val * 20480 + (32 * g.val + e.val)
  omega

end Cert.Proof.Exact

end
-- ==== Proof.NumCode.lean ====
/- The code of one element: the kernel's fixed-point form of the scaled magnitude, and the reference's index and fraction. -/
module

public import proofs.«01_k».proof.Proof.Num

@[expose] public section

noncomputable section

namespace Cert.Proof.Exact

open Idealize.ShloMosaic Idealize.ShloMosaic.TcCoe
open Cert.Proof.Tile

theorem roundHalfEven_int (n : ℤ) : Ideal.roundHalfEven (n : ℝ) = n := by
  unfold Ideal.roundHalfEven
  simp

/-- A constant from its exponent and fraction fields. -/
theorem lit (b : BitVec 32) (e f : ℕ) (r : ℝ) (hs : b.extractLsb' 31 1 = 0#1) (he : (b.extractLsb' 23 8).toNat = e)
    (hf : (b.extractLsb' 0 23).toNat = f) (h1 : 1 ≤ e) (h2 : e ≤ 254)
    (hr : ((2 ^ 23 + f : ℕ) : ℝ) * (2 : ℝ) ^ ((e : ℤ) - 127 - 23) = r) :
    (Ideal.ofBits .f32 b : EReal) = (r : EReal) := by
  rw [bits_val b _ _ hs he hf h1 h2, hr]

theorem lit_4 : (Ideal.ofBits .f32 0x40800000#32 : EReal) = ((4 : ℝ) : EReal) := lit _ 129 0 _ (by decide) (by decide) (by decide) (by decide) (by decide) (by norm_num)
theorem lit_2 : (Ideal.ofBits .f32 0x40000000#32 : EReal) = ((2 : ℝ) : EReal) := lit _ 128 0 _ (by decide) (by decide) (by decide) (by decide) (by decide) (by norm_num)
theorem lit_6 : (Ideal.ofBits .f32 0x40C00000#32 : EReal) = ((6 : ℝ) : EReal) := lit _ 129 4194304 _ (by decide) (by decide) (by decide) (by decide) (by decide) (by norm_num)
theorem lit_8 : (Ideal.ofBits .f32 0x41000000#32 : EReal) = ((8 : ℝ) : EReal) := lit _ 130 0 _ (by decide) (by decide) (by decide) (by decide) (by decide) (by norm_num)
theorem lit_16 : (Ideal.ofBits .f32 0x41800000#32 : EReal) = ((16 : ℝ) : EReal) := lit _ 131 0 _ (by decide) (by decide) (by decide) (by decide) (by decide) (by norm_num)
theorem lit_half : (Ideal.ofBits .f32 0x3F000000#32 : EReal) = ((1 / 2 : ℝ) : EReal) := lit _ 126 0 _ (by decide) (by decide) (by decide) (by decide) (by decide) (by norm_num)
theorem lit_threeq : (Ideal.ofBits .f32 0x3F400000#32 : EReal) = ((3 / 4 : ℝ) : EReal) := lit _ 126 4194304 _ (by decide) (by decide) (by decide) (by decide) (by decide) (by norm_num)
theorem lit_p23 : (Ideal.ofBits .f32 0x4B000000#32 : EReal) = ((8388608 : ℝ) : EReal) := lit _ 150 0 _ (by decide) (by decide) (by decide) (by decide) (by decide) (by norm_num)
theorem lit_p22 : (Ideal.ofBits .f32 0x4A800000#32 : EReal) = ((4194304 : ℝ) : EReal) := lit _ 149 0 _ (by decide) (by decide) (by decide) (by decide) (by decide) (by norm_num)
theorem lit_p21 : (Ideal.ofBits .f32 0x4A000000#32 : EReal) = ((2097152 : ℝ) : EReal) := lit _ 148 0 _ (by decide) (by decide) (by decide) (by decide) (by decide) (by norm_num)
theorem lit_m24 : (Ideal.ofBits .f32 0x33800000#32 : EReal) = ((1 / 16777216 : ℝ) : EReal) := lit _ 103 0 _ (by decide) (by decide) (by decide) (by decide) (by decide) (by norm_num)

/-- A small natural converts to its word. -/
theorem fptosi_nat (n : ℕ) (h : n < 2 ^ 31) : Ideal.fptosi 32 (((n : ℝ)) : EReal) = BitVec.ofNat 32 n := by
  unfold Ideal.fptosi
  rw [Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by norm_num; omega
  rw [e]
  exact BitVec.ofInt_natCast ..

/-- The kernel's rounded conversion of a nonnegative real. -/
def up (x : EReal) : BitVec 32 := Ideal.fptosi 32 (Ideal.liftRound Ideal.roundHalfEven (Ideal.liftRound Int.ceil x))

theorem up_eq (r : ℝ) (n : ℕ) (h : ⌈r⌉ = (n : ℤ)) (hn : n < 2 ^ 31) : up (r : EReal) = BitVec.ofNat 32 n := by
  unfold up
  rw [Ideal.liftRound_coe, Ideal.liftRound_coe, roundHalfEven_int, h]
  exact fptosi_nat n hn

/-- The kernel's fixed-point code of a scaled magnitude. -/
def kfix (q : EReal) : BitVec 32 :=
  Scalar.select (BitVec.ofBool (decide (q < Ideal.ofBits .f32 0x40800000#32)))
    (IntOp.shli .vector (up (q * Ideal.ofBits .f32 0x4B000000#32)) 4#32)
    (IntOp.shli .vector (IntOp.addi
      (up (q * Scalar.select (BitVec.ofBool (decide (q < Ideal.ofBits .f32 0x41000000#32))) (Ideal.ofBits .f32 0x4B000000#32)
        (Scalar.select (BitVec.ofBool (decide (q < Ideal.ofBits .f32 0x41800000#32))) (Ideal.ofBits .f32 0x4A800000#32) (Ideal.ofBits .f32 0x4A000000#32))))
      (Scalar.select (BitVec.ofBool (decide (q < Ideal.ofBits .f32 0x41000000#32))) 0#32
        (Scalar.select (BitVec.ofBool (decide (q < Ideal.ofBits .f32 0x41800000#32))) 33554432#32 67108864#32))) 4#32)

theorem codeFrac_eq (y s : EReal) : codeFrac (F := Ideal) (fun _ => y) (fun _ => s) i0 = kfix (mag y * s) := rfl

/-- The reference's three-bit index from the scaled magnitude and the uniform number. -/
def rfix (a u : EReal) : BitVec 32 :=
  Ideal.fptosi 32 (Scalar.select (BitVec.ofBool (decide (a < Ideal.ofBits .f32 0x40000000#32))) (Ideal.liftRound Int.floor (a * Ideal.ofBits .f32 0x40000000#32))
      (Scalar.select (BitVec.ofBool (decide (a < Ideal.ofBits .f32 0x40800000#32))) (Ideal.ofBits .f32 0x40800000#32 + Ideal.liftRound Int.floor (a - Ideal.ofBits .f32 0x40000000#32))
        (Ideal.ofBits .f32 0x40C00000#32))
    + (((BitVec.ofBool (decide (u < Scalar.select (BitVec.ofBool (decide (a < Ideal.ofBits .f32 0x40000000#32))) (a * Ideal.ofBits .f32 0x40000000#32 - Ideal.liftRound Int.floor (a * Ideal.ofBits .f32 0x40000000#32))
      (Scalar.select (BitVec.ofBool (decide (a < Ideal.ofBits .f32 0x40800000#32))) (a - Ideal.ofBits .f32 0x40000000#32 - Ideal.liftRound Int.floor (a - Ideal.ofBits .f32 0x40000000#32))
        ((a - Ideal.ofBits .f32 0x40800000#32) * Ideal.ofBits .f32 0x3F000000#32))))).toNat : ℝ) : EReal))

theorem shl4 (n : ℕ) : IntOp.shli .vector (BitVec.ofNat 32 n) 4#32 = BitVec.ofNat 32 (16 * n) := by
  show BitVec.ofNat 32 n <<< 4 = _
  apply BitVec.eq_of_toNat_eq
  simp only [BitVec.toNat_shiftLeft, BitVec.toNat_ofNat, Nat.shiftLeft_eq]
  omega

/-- The uniform number of a word's top 24 bits. -/
def unif (u : ℕ) : EReal := ((u : ℝ) : EReal) * Ideal.ofBits .f32 0x33800000#32

/-- A cell: index `i` and fraction `c / 2 ^ 24` rounded up. -/
structure Cell (α : ℝ) (i c : ℕ) (φ : ℝ) : Prop where
  hi : i ≤ 6
  h0 : 0 ≤ φ
  h1 : φ < 1
  hc : ⌈16777216 * φ⌉ = (c : ℤ)

theorem Cell.le {α : ℝ} {i c : ℕ} {φ : ℝ} (h : Cell α i c φ) : c ≤ 16777216 := by
  have : ⌈16777216 * φ⌉ ≤ (16777216 : ℤ) := Int.ceil_le.mpr (by have := h.h1; push_cast; linarith)
  have := h.hc
  omega

theorem Cell.total {α : ℝ} {i c : ℕ} {φ : ℝ} (h : Cell α i c φ) : ⌈16777216 * ((i : ℝ) + φ)⌉ = ((16777216 * i + c : ℕ) : ℤ) := by
  have e : 16777216 * ((i : ℝ) + φ) = 16777216 * φ + ((16777216 * i : ℤ) : ℝ) := by push_cast; ring
  rw [e, Int.ceil_add_intCast, h.hc]
  push_cast; ring

theorem Cell.draw {α : ℝ} {i c : ℕ} {φ : ℝ} (h : Cell α i c φ) (u : ℕ) :
    Ideal.fptosi 32 (((i : ℝ) : EReal) + (((BitVec.ofBool (decide (unif u < (φ : EReal)))).toNat : ℝ) : EReal))
      = BitVec.ofNat 32 (i + if u < c then 1 else 0) := by
  have hu : unif u < (φ : EReal) ↔ u < c := by
    unfold unif
    rw [lit_m24, ← EReal.coe_mul, EReal.coe_lt_coe_iff]
    have h2 : ((u : ℤ) < ⌈16777216 * φ⌉) ↔ ((u : ℤ) : ℝ) < 16777216 * φ := Int.lt_ceil
    rw [h.hc] at h2
    push_cast at h2
    constructor
    · intro hh
      have : (u : ℝ) < 16777216 * φ := by linarith
      exact_mod_cast h2.mpr this
    · intro hh
      have := h2.mp (by exact_mod_cast hh)
      linarith
  have hi := h.hi
  by_cases hh : u < c
  · rw [if_pos hh]
    simp only [hu, hh, decide_true, BitVec.ofBool_true]
    have e : ((i : ℝ) : EReal) + (((BitVec.toNat (1 : BitVec 1) : ℕ) : ℝ) : EReal) = (((i + 1 : ℕ) : ℝ) : EReal) := by
      rw [← EReal.coe_add]; simp
    rw [e]
    exact fptosi_nat _ (by omega)
  · rw [if_neg hh]
    simp only [hu, hh, decide_false, BitVec.ofBool_false]
    have e : ((i : ℝ) : EReal) + (((BitVec.toNat (0 : BitVec 1) : ℕ) : ℝ) : EReal) = (((i + 0 : ℕ) : ℝ) : EReal) := by
      rw [← EReal.coe_add]; simp
    rw [e]
    exact fptosi_nat _ (by omega)

theorem code_cell (α : ℝ) (h0 : 0 ≤ α) (h6 : α < 6) : ∃ i c : ℕ, i ≤ 6 ∧ c ≤ 16777216
    ∧ kfix ((4 * α : ℝ) : EReal) = BitVec.ofNat 32 (16 * (16777216 * i + c))
    ∧ ∀ u : ℕ, rfix (α : EReal) (unif u) = BitVec.ofNat 32 (i + if u < c then 1 else 0) := by
  have hceil : ∀ φ : ℝ, 0 ≤ φ → ∃ c : ℕ, ⌈16777216 * φ⌉ = (c : ℤ) := fun φ h =>
    ⟨⌈16777216 * φ⌉.toNat, (Int.toNat_of_nonneg (Int.ceil_nonneg (by linarith))).symm⟩
  unfold kfix rfix
  simp only [ofBool_select, lit_4, lit_2, lit_6, lit_8, lit_16, lit_half, lit_p23, lit_p22, lit_p21, EReal.coe_lt_coe_iff]
  rcases lt_or_ge α 2 with ha | ha
  · have f0 : 0 ≤ ⌊α * 2⌋ := Int.floor_nonneg.mpr (by linarith)
    have f1 : ⌊α * 2⌋ < 4 := Int.floor_lt.mpr (by push_cast; linarith)
    obtain ⟨i, hi⟩ := Int.eq_ofNat_of_zero_le f0
    have l1 := Int.floor_le (α * 2)
    have l2 := Int.lt_floor_add_one (α * 2)
    rw [hi] at l1 l2
    push_cast at l1 l2
    obtain ⟨c, hc⟩ := hceil (α * 2 - i) (by linarith)
    have C : Cell α i c (α * 2 - i) := ⟨by omega, by linarith, by linarith, hc⟩
    have t := C.total
    have cl := C.le
    have b : i ≤ 6 := C.hi
    refine ⟨i, c, C.hi, cl, ?_, ?_⟩
    · have k : up (((4 * α : ℝ) : EReal) * ((8388608 : ℝ) : EReal)) = BitVec.ofNat 32 (16777216 * i + c) := by
        rw [← EReal.coe_mul]
        refine up_eq _ _ ?_ (by omega)
        rw [← t]
        congr 1; ring
      have h8 : 4 * α < 8 := by linarith
      simp only [if_pos h8]
      rw [k, shl4]
      have : IntOp.addi (BitVec.ofNat 32 (16777216 * i + c)) 0#32 = BitVec.ofNat 32 (16777216 * i + c) := BitVec.add_zero _
      rw [this, shl4, ite_self]
    · intro u
      simp only [if_pos ha]
      rw [← EReal.coe_mul, Ideal.liftRound_coe, hi, ← EReal.coe_sub]
      exact C.draw u
  · rcases lt_or_ge α 4 with hb | hb
    · have f0 : 0 ≤ ⌊α - 2⌋ := Int.floor_nonneg.mpr (by linarith)
      have f1 : ⌊α - 2⌋ < 2 := Int.floor_lt.mpr (by push_cast; linarith)
      obtain ⟨i, hi⟩ := Int.eq_ofNat_of_zero_le f0
      have l1 := Int.floor_le (α - 2)
      have l2 := Int.lt_floor_add_one (α - 2)
      rw [hi] at l1 l2
      push_cast at l1 l2
      obtain ⟨c, hc⟩ := hceil (α - 2 - i) (by linarith)
      have C : Cell α (4 + i) c (α - 2 - i) := ⟨by omega, by linarith, by linarith, hc⟩
      have t := C.total
      have cl := C.le
      have b : 4 + i ≤ 6 := C.hi
      refine ⟨4 + i, c, C.hi, cl, ?_, ?_⟩
      · have k : up (((4 * α : ℝ) : EReal) * ((4194304 : ℝ) : EReal)) = BitVec.ofNat 32 (16777216 * (2 + i) + c) := by
          rw [← EReal.coe_mul]
          refine up_eq _ _ ?_ (by omega)
          have e : 4 * α * 4194304 = 16777216 * (((4 + i : ℕ) : ℝ) + (α - 2 - i)) - ((33554432 : ℤ) : ℝ) := by push_cast; ring
          rw [e, Int.ceil_sub_intCast, t]
          push_cast; ring
        simp only [if_neg (show ¬ 4 * α < 4 by linarith), if_neg (show ¬ 4 * α < 8 by linarith), if_pos (show 4 * α < 16 by linarith)]
        rw [k]
        have : IntOp.addi (BitVec.ofNat 32 (16777216 * (2 + i) + c)) 33554432#32 = BitVec.ofNat 32 (16777216 * (4 + i) + c) := by
          show BitVec.ofNat 32 _ + BitVec.ofNat 32 33554432 = _
          rw [← BitVec.ofNat_add]
          exact congrArg (BitVec.ofNat 32) (by ring)
        rw [this, shl4]
      · intro u
        simp only [if_neg (not_lt.mpr ha), if_pos hb]
        rw [← EReal.coe_sub, Ideal.liftRound_coe, hi, ← EReal.coe_sub, ← EReal.coe_add]
        have e : (4 + (((i : ℤ)) : ℝ)) = ((4 + i : ℕ) : ℝ) := by push_cast; rfl
        rw [e]
        exact C.draw u
    · obtain ⟨c, hc⟩ := hceil ((α - 4) * (1 / 2)) (by linarith)
      have C : Cell α 6 c ((α - 4) * (1 / 2)) := ⟨by omega, by linarith, by linarith, hc⟩
      have t := C.total
      have cl := C.le
      refine ⟨6, c, C.hi, cl, ?_, ?_⟩
      · have k : up (((4 * α : ℝ) : EReal) * ((2097152 : ℝ) : EReal)) = BitVec.ofNat 32 (16777216 * 2 + c) := by
          rw [← EReal.coe_mul]
          refine up_eq _ _ ?_ (by omega)
          have e : 4 * α * 2097152 = 16777216 * (((6 : ℕ) : ℝ) + (α - 4) * (1 / 2)) - ((67108864 : ℤ) : ℝ) := by push_cast; ring
          rw [e, Int.ceil_sub_intCast, t]
          push_cast; ring
        simp only [if_neg (show ¬ 4 * α < 4 by linarith), if_neg (show ¬ 4 * α < 8 by linarith), if_neg (show ¬ 4 * α < 16 by linarith)]
        rw [k]
        have : IntOp.addi (BitVec.ofNat 32 (16777216 * 2 + c)) 67108864#32 = BitVec.ofNat 32 (16777216 * 6 + c) := by
          show BitVec.ofNat 32 _ + BitVec.ofNat 32 67108864 = _
          rw [← BitVec.ofNat_add]
          exact congrArg (BitVec.ofNat 32) (by ring)
        rw [this, shl4]
      · intro u
        simp only [if_neg (not_lt.mpr ha), if_neg (not_lt.mpr hb)]
        rw [← EReal.coe_sub, ← EReal.coe_mul]
        exact C.draw u

end Cert.Proof.Exact

end
-- ==== Proof.NumByte.lean ====
/- The packed byte of two elements: the kernel's word arithmetic, and the two codes. -/
module

public import proofs.«01_k».proof.Proof.NumCode

@[expose] public section

noncomputable section

namespace Cert.Proof.Exact

open Idealize.ShloMosaic Idealize.ShloMosaic.TcCoe
open Cert.Proof.Tile

theorem and_top (x : BitVec 32) : (x &&& 4026531840#32).toNat = x.toNat / 268435456 * 268435456 := by
  have e : x &&& 4026531840#32 = (x >>> 28) <<< 28 := by
    apply BitVec.eq_of_getLsbD_eq
    intro i hi
    interval_cases i <;> simp
  rw [e, BitVec.toNat_shiftLeft, BitVec.toNat_ushiftRight, Nat.shiftLeft_eq, Nat.shiftRight_eq_div_pow]
  have := x.isLt
  omega

/-- The random bits of an element with its sign bit on top. -/
def dith (w : BitVec 32) (s : Prop) [Decidable s] : BitVec 32 :=
  IntOp.ori (IntOp.shrui .vector w 4#32) (Scalar.select (BitVec.ofBool (decide s)) 2147483648#32 0#32)

theorem dith_nat (w : BitVec 32) (s : Prop) [Decidable s] : (dith w s).toNat = w.toNat / 16 + 2147483648 * (if s then 1 else 0) := by
  have h : (IntOp.shrui .vector w 4#32).toNat = w.toNat / 16 := by
    show (w >>> 4).toNat = _
    rw [BitVec.toNat_ushiftRight, Nat.shiftRight_eq_div_pow]
  unfold dith
  rw [ofBool_select]
  by_cases hs : s
  · rw [if_pos hs, if_pos hs]
    show (_ ||| _ : BitVec 32).toNat = _
    rw [BitVec.toNat_or, h]
    have e := Nat.two_pow_add_eq_or_of_lt (i := 31) (b := w.toNat / 16) (by have := w.isLt; omega) 1
    rw [Nat.or_comm]
    show 2147483648 ||| w.toNat / 16 = _
    have e' : (2147483648 ||| w.toNat / 16) = 2147483648 + w.toNat / 16 := by rw [← e]
    omega
  · rw [if_neg hs, if_neg hs]
    show (_ ||| 0#32 : BitVec 32).toNat = _
    rw [BitVec.or_zero, h]
    omega

theorem dither_eq (y : EReal) (w : BitVec 32) : dither (F := Ideal) (fun _ => y) (fun _ => w) i0 = dith w (y < Ideal.ofBits .f32 0x00000000#32) := rfl

/-- The word arithmetic that packs two codes. -/
theorem pack (i0 c0 i1 c1 : ℕ) (hi0 : i0 ≤ 6) (hc0 : c0 ≤ 16777216) (hi1 : i1 ≤ 6) (hc1 : c1 ≤ 16777216)
    (w0 w1 : BitVec 32) (s0 s1 : Prop) [Decidable s0] [Decidable s1] :
    ((IntOp.shrui .vector (IntOp.subi (IntOp.shrui .vector (IntOp.addi (BitVec.ofNat 32 (16 * (16777216 * i0 + c0))) (dith (~~~ w0) s0)) 4#32)
      (IntOp.andi (IntOp.subi (dith w1 s1) (BitVec.ofNat 32 (16 * (16777216 * i1 + c1)))) 4026531840#32)) 24#32).setWidth 8).toNat
      = (i0 + (if w0.toNat / 256 < c0 then 1 else 0) + 8 * (if s0 then 1 else 0))
        + 16 * (i1 + (if w1.toNat / 256 < c1 then 1 else 0) + 8 * (if s1 then 1 else 0)) := by
  have l0 := w0.isLt
  have l1 := w1.isLt
  have d0 := dith_nat (~~~ w0) s0
  have d1 := dith_nat w1 s1
  rw [BitVec.toNat_not] at d0
  generalize dith (~~~ w0) s0 = D0 at *
  generalize dith w1 s1 = D1 at *
  generalize hσ0 : (if s0 then 1 else 0) = σ0 at *
  generalize hσ1 : (if s1 then 1 else 0) = σ1 at *
  have b0 : σ0 ≤ 1 := by rw [← hσ0]; split <;> omega
  have b1 : σ1 ≤ 1 := by rw [← hσ1]; split <;> omega
  show ((((BitVec.ofNat 32 (16 * (16777216 * i0 + c0)) + D0) >>> 4 - ((D1 - BitVec.ofNat 32 (16 * (16777216 * i1 + c1))) &&& 4026531840#32)) >>> 24).setWidth 8).toNat = _
  rw [BitVec.toNat_setWidth, BitVec.toNat_ushiftRight, Nat.shiftRight_eq_div_pow, BitVec.toNat_sub, and_top, BitVec.toNat_ushiftRight, Nat.shiftRight_eq_div_pow,
    BitVec.toNat_add, BitVec.toNat_sub, BitVec.toNat_ofNat, BitVec.toNat_ofNat, d0, d1]
  generalize w0.toNat = n0 at *
  generalize w1.toNat = n1 at *
  obtain ⟨r0, hr0, e0⟩ : ∃ r0, r0 < 16777216 ∧ (16 * (16777216 * i0 + c0) % 2 ^ 32 + ((2 ^ 32 - 1 - n0) / 16 + 2147483648 * σ0)) % 2 ^ 32 / 2 ^ 4
      = 16777216 * (8 * σ0 + i0 + (if n0 / 256 < c0 then 1 else 0)) + r0 := by
    split
    · exact ⟨c0 + (16777215 - n0 / 256) - 16777216, by omega, by omega⟩
    · exact ⟨c0 + (16777215 - n0 / 256), by omega, by omega⟩
  have e1 : (2 ^ 32 - 16 * (16777216 * i1 + c1) % 2 ^ 32 + (n1 / 16 + 2147483648 * σ1)) % 2 ^ 32 / 268435456
      = (16 - (8 * σ1 + i1 + (if n1 / 256 < c1 then 1 else 0))) % 16 := by
    rcases (show σ1 = 0 ∨ σ1 = 1 by omega) with h | h <;> subst h <;> split <;> omega
  rw [e0, e1]
  have t0 : (if n0 / 256 < c0 then 1 else 0) ≤ 1 := by split <;> omega
  have t1 : (if n1 / 256 < c1 then 1 else 0) ≤ 1 := by split <;> omega
  generalize (if n0 / 256 < c0 then 1 else 0) = τ0 at *
  generalize (if n1 / 256 < c1 then 1 else 0) = τ1 at *
  omega

theorem expStep_eq (m : FVec Ideal Cert.KernelIdeal.S8x128 .f32) (b : BitVec 32) (e : IVec Cert.KernelIdeal.S8x128 32) (i : Cert.KernelIdeal.S8x128.Idx) :
    expStep m b e i = sStep (m i) b (e i) := rfl

theorem expBits_eq (m : FVec Ideal Cert.KernelIdeal.S8x128 .f32) (i : Cert.KernelIdeal.S8x128.Idx) : expBits m i = sExp (m i) := by
  unfold expBits sExp
  rw [expStep_eq, expStep_eq, expStep_eq, expStep_eq, expStep_eq, expStep_eq, expStep_eq, expStep_eq]
  have h0 : bc 0#32 i = 0#32 := rfl
  rw [h0]

theorem scaleOf_eq (m : FVec Ideal Cert.KernelIdeal.S8x128 .f32) (i : Cert.KernelIdeal.S8x128.Idx) :
    scaleOf m i = (Ideal.ofBits .f32 (IntOp.subi 2160066560#32 (expBits m i)) : EReal) := by
  unfold scaleOf
  generalize expBits m = e
  rfl

theorem scale1_eq (A : EReal) : scale1 A = (Ideal.ofBits .f32 (IntOp.subi 2160066560#32 (sExp A)) : EReal) := by
  unfold scale1
  rw [scaleOf_eq, expBits_eq]

/-- The reference's scale word. -/
def rword (e : BitVec 32) : BitVec 32 := IntOp.shli .host (IntOp.addi (-e) 127#32) 23#32

theorem kword_fields : ∀ E : Fin 256, 3 ≤ E.val → E.val ≤ 254 → (IntOp.subi 2160066560#32 (BitVec.ofNat 32 E.val <<< 23)).extractLsb' 31 1 = 0#1
    ∧ ((IntOp.subi 2160066560#32 (BitVec.ofNat 32 E.val <<< 23)).extractLsb' 23 8).toNat = 257 - E.val
    ∧ ((IntOp.subi 2160066560#32 (BitVec.ofNat 32 E.val <<< 23)).extractLsb' 0 23).toNat = 4194304 := by decide +kernel

theorem rword_eq : ∀ E : Fin 256, 3 ≤ E.val → E.val ≤ 254 → rword (BitVec.ofNat 32 E.val - 129#32) = BitVec.ofNat 32 (256 - E.val) <<< 23 := by decide +kernel

theorem mag_zero {y : EReal} (h : mag y ≤ 0) : mag y = 0 := le_antisymm h (mag_nonneg y)

/-- The scaled magnitude: the kernel's is four times the reference's. -/
theorem scaled {A : EReal} {E : ℕ} (h : Field A E) (hE : Coded E) (y : EReal) (hy : mag y ≤ A) : ∃ α : ℝ, 0 ≤ α ∧ α < 6
    ∧ mag y * scale1 A = ((4 * α : ℝ) : EReal)
    ∧ mag y * (Ideal.ofBits .f32 0x3F400000#32 : EReal) * (Ideal.ofBits .f32 (rword (rexp A (BitVec.ofNat 32 E))) : EReal) = (α : EReal) := by
  rw [scale1_eq, sExp_eq h, rexp_eq h]
  rcases h with ⟨rfl, rfl⟩ | h
  · refine ⟨0, le_refl _, by norm_num, ?_, ?_⟩ <;> rw [mag_zero hy] <;> simp
  · obtain ⟨h1, h254, a, rfl, ha, hb⟩ := h
    have h3 : 3 ≤ E := hE.resolve_left (by omega)
    have hm := mag_nonneg y
    generalize mag y = b at *
    induction b with
    | bot => exact absurd hm (by simp)
    | top => exact absurd hy (by simp)
    | coe b =>
      have hm : 0 ≤ b := by exact_mod_cast hm
      have hy : b ≤ a := by exact_mod_cast hy
      obtain ⟨f1, f2, f3⟩ := kword_fields ⟨E, by omega⟩ h3 h254
      have r1 := rword_eq ⟨E, by omega⟩ h3 h254
      simp only at f1 f2 f3 r1
      rw [if_neg (by omega), r1, pow_bits _ (by omega) (by omega), lit_threeq, bits_val _ _ _ f1 f2 f3 (by omega) (by omega)]
      have k1 : (((256 - E : ℕ)) : ℤ) - 127 = 129 - (E : ℤ) := by omega
      have k2 : (((257 - E : ℕ)) : ℤ) - 127 - 23 = (129 - (E : ℤ)) + (-22) := by omega
      rw [k1, k2, zpow_add₀ (by norm_num : (2 : ℝ) ≠ 0)]
      have hp : (0 : ℝ) < (2 : ℝ) ^ (129 - (E : ℤ)) := by positivity
      have hlt : b * (2 : ℝ) ^ (129 - (E : ℤ)) < 8 := by
        have e8 : (2 : ℝ) ^ ((E : ℤ) - 126) * (2 : ℝ) ^ (129 - (E : ℤ)) = 8 := by
          rw [← zpow_add₀ (by norm_num : (2 : ℝ) ≠ 0)]
          have : (E : ℤ) - 126 + (129 - (E : ℤ)) = 3 := by ring
          rw [this]; norm_num
        rw [← e8]
        exact mul_lt_mul_of_pos_right (lt_of_le_of_lt hy hb) hp
      have hge : 0 ≤ b * (2 : ℝ) ^ (129 - (E : ℤ)) := mul_nonneg hm hp.le
      refine ⟨b * (3 / 4) * (2 : ℝ) ^ (129 - (E : ℤ)), by linarith, by linarith, ?_, ?_⟩
      · rw [← EReal.coe_mul]
        refine congrArg (fun r : ℝ => (r : EReal)) ?_
        generalize (2 : ℝ) ^ (129 - (E : ℤ)) = p
        norm_num
        ring
      · rw [← EReal.coe_mul, ← EReal.coe_mul]

/-- The reference's nibble. -/
def rnib (y a : EReal) (w : BitVec 32) : BitVec 32 :=
  Scalar.select (BitVec.ofBool (decide (y < Ideal.ofBits .f32 0x00000000#32))) (IntOp.ori (rfix a (unif (w.toNat / 256))) 8#32) (rfix a (unif (w.toNat / 256)))

/-- The reference's packed byte. -/
def rbyte (A : EReal) (E : ℕ) (y0 y1 : EReal) (w0 w1 : BitVec 32) : BitVec 8 :=
  (IntOp.ori (rnib y0 (mag y0 * (Ideal.ofBits .f32 0x3F400000#32 : EReal) * (Ideal.ofBits .f32 (rword (rexp A (BitVec.ofNat 32 E))) : EReal)) w0)
    (IntOp.shli .host (rnib y1 (mag y1 * (Ideal.ofBits .f32 0x3F400000#32 : EReal) * (Ideal.ofBits .f32 (rword (rexp A (BitVec.ofNat 32 E))) : EReal)) w1) 4#32)).setWidth 8

theorem nib_or : ∀ i : Fin 8, IntOp.ori (BitVec.ofNat 32 i.val) 8#32 = BitVec.ofNat 32 (i.val + 8) := by decide +kernel

theorem byte_or : ∀ i j : Fin 16, ((IntOp.ori (BitVec.ofNat 32 i.val) (IntOp.shli .host (BitVec.ofNat 32 j.val) 4#32)).setWidth 8).toNat = i.val + 16 * j.val := by
  decide +kernel

theorem rnib_eq (y a : EReal) (w : BitVec 32) (i c : ℕ) (hi : i ≤ 6) (h : ∀ u : ℕ, rfix a (unif u) = BitVec.ofNat 32 (i + if u < c then 1 else 0)) :
    rnib y a w = BitVec.ofNat 32 (i + (if w.toNat / 256 < c then 1 else 0) + 8 * (if y < Ideal.ofBits .f32 0x00000000#32 then 1 else 0)) := by
  unfold rnib
  rw [ofBool_select, h]
  have t : (if w.toNat / 256 < c then 1 else 0) ≤ 1 := by split <;> omega
  generalize (if w.toNat / 256 < c then 1 else 0) = τ at *
  by_cases hs : y < Ideal.ofBits .f32 0x00000000#32
  · rw [if_pos hs, if_pos hs]
    exact nib_or ⟨i + τ, by omega⟩
  · rw [if_neg hs, if_neg hs]
    rfl

theorem byte_eq {A : EReal} {E : ℕ} (h : Field A E) (hE : Coded E) (y0 y1 : EReal) (hy0 : mag y0 ≤ A) (hy1 : mag y1 ≤ A) (w0 w1 : BitVec 32) :
    (byte1 y0 y1 (scale1 A) (~~~ w0) w1).setWidth 8 = rbyte A E y0 y1 w0 w1 := by
  obtain ⟨α0, a0, a6, k0, r0⟩ := scaled h hE y0 hy0
  obtain ⟨α1, b0, b6, k1, r1⟩ := scaled h hE y1 hy1
  obtain ⟨i, c, hi, hc, e0, f0⟩ := code_cell α0 a0 a6
  obtain ⟨j, d, hj, hd, e1, f1⟩ := code_cell α1 b0 b6
  unfold rbyte byte1
  rw [codeFrac_eq, codeFrac_eq, dither_eq, dither_eq, k0, k1, r0, r1, e0, e1, rnib_eq y0 _ w0 i c hi f0, rnib_eq y1 _ w1 j d hj f1]
  apply BitVec.eq_of_toNat_eq
  rw [pack i c j d hi hc hj hd]
  have t : (if w0.toNat / 256 < c then 1 else 0) ≤ 1 := by split <;> omega
  have t' : (if w1.toNat / 256 < d then 1 else 0) ≤ 1 := by split <;> omega
  have s : (if y0 < Ideal.ofBits .f32 0x00000000#32 then 1 else 0) ≤ 1 := by split <;> omega
  have s' : (if y1 < Ideal.ofBits .f32 0x00000000#32 then 1 else 0) ≤ 1 := by split <;> omega
  exact (byte_or ⟨_, by omega⟩ ⟨_, by omega⟩).symm

end Cert.Proof.Exact

end
-- ==== Proof.RefCode.lean ====
/- The reference's packed codes, read at an index. -/
module

public import proofs.«01_k».proof.Proof.RefWords
public import proofs.«01_k».proof.Proof.NumByte

@[expose] public section

noncomputable section

namespace Cert.Proof.Exact

open Cert.ReferenceIdeal Cert.ReferenceIdeal.Gen Cert.ReferenceIdeal.Value
open Idealize.ShloMosaic Idealize.ShloMosaic.TcCoe
open Cert.Proof.Tile (key0 key1 mag GM kbyte scale1)

abbrev Fc (w : BitVec 32) : FVec Ideal S3x384x640x32 .f32 := broadcastInDim S3x384x640x32 ![] bcast_S_S3x384x640x32 (constant S_ .f32 w)

/-- The three-bit index from the scaled magnitudes and the random words. -/
def rfixV (a : FVec Ideal S3x384x640x32 .f32) (w : IVec S3x384x640x32 32) : IVec S3x384x640x32 32 :=
  fptosi 32 (addf (select (cmpf .olt a (Fc 0x40000000#32)) (Host.floor (mulf a (Fc 0x40000000#32)))
      (select (cmpf .olt a (Fc 0x40800000#32)) (addf (Fc 0x40800000#32) (Host.floor (subf a (Fc 0x40000000#32)))) (Fc 0x40C00000#32)))
    (uitofp .f32 (cmpf .olt (mulf (uitofp .f32 (Host.shrui w (broadcastInDim S3x384x640x32 ![] bcast_S_S3x384x640x32 (constantI S_ 32 8#32)))) (Fc 0x33800000#32))
      (select (cmpf .olt a (Fc 0x40000000#32)) (subf (mulf a (Fc 0x40000000#32)) (Host.floor (mulf a (Fc 0x40000000#32))))
        (select (cmpf .olt a (Fc 0x40800000#32)) (subf (subf a (Fc 0x40000000#32)) (Host.floor (subf a (Fc 0x40000000#32))))
          (mulf (subf a (Fc 0x40800000#32)) (Fc 0x3F000000#32)))))))

theorem rfixV_apply (a : FVec Ideal S3x384x640x32 .f32) (w : IVec S3x384x640x32 32) (y : S3x384x640x32.Idx) :
    rfixV a w y = rfix (a y) (unif ((w y).toNat / 256)) := by
  have e : (IntOp.shrui .host (w y) 8#32).toNat = (w y).toNat / 256 := by
    show ((w y) >>> 8).toNat = _
    rw [BitVec.toNat_ushiftRight, Nat.shiftRight_eq_div_pow]
  unfold unif
  rw [← e]
  rfl

variable (V0 : Env)

theorem v729_eq : res_main_v729 V0 = rfixV (res_main_v691 V0) (shapeCast S3x384x640x32 (shapeCast S3x384x20480 (words4 (vround (addi (res_main_v517 V0) (Kc 2654435769#32)) (addi (res_main_v518 V0) (Kc 3144134277#32))
    (named (res_main_v577 V0) (res_main_v513 V0) (res_main_v580 V0) (res_main_v516 V0)))) shapeCasts_S3x384x5120x4_S3x384x20480) shapeCasts_S3x384x20480_S3x384x640x32) := rfl

theorem last_keys : vkey0 V0 9 = addi (res_main_v517 V0) (Kc 2654435769#32) ∧ vkey1 V0 9 = addi (res_main_v518 V0) (Kc 3144134277#32) := ⟨rfl, rfl⟩

theorem v729_words : res_main_v729 V0 = rfixV (res_main_v691 V0) (shapeCast S3x384x640x32 (shapeCast S3x384x20480 (words4 (vst V0 10)) shapeCasts_S3x384x5120x4_S3x384x20480) shapeCasts_S3x384x20480_S3x384x640x32) := by
  rw [v729_eq, ← (last_keys V0).1, ← (last_keys V0).2, ← vst_nine]
  rfl

/-- The scaled magnitude. -/
theorem v691_apply (i : Fin 3) (j : Fin 384) (g : Fin 640) (e : Fin 32) :
    res_main_v691 V0 (ValueIdx.ix4 i j g e) = mag (XN (inX V0) (384 * i.val + j.val) (32 * g.val + e.val)) * (Ideal.ofBits .f32 0x3F400000#32 : EReal)
      * (Ideal.ofBits .f32 (rword (res_main_v676 V0 (ValueIdx.ix3 i j g))) : EReal) := by
  have hb : ∀ x : FVec Ideal S3x384x640 .f32, broadcastInDim S3x384x640x32 ![0, 1, 2, 3] bcast_S3x384x640x1_S3x384x640x32_0_1_2_3 (broadcastInDim S3x384x640x1 ![0, 1, 2] bcast_S3x384x640_S3x384x640x1_0_1_2 x) (ValueIdx.ix4 i j g e) = x (ValueIdx.ix3 i j g) := by
    intro x
    refine congrArg x (funext fun a => ?_)
    match a with
    | ⟨0, _⟩ => rfl
    | ⟨1, _⟩ => rfl
    | ⟨2, _⟩ => rfl
  have hx : res_main_v652 V0 (ValueIdx.ix4 i j g e) = XN (inX V0) (384 * i.val + j.val) (32 * g.val + e.val) :=
    (group_apply (extf .f32 (inX V0) bitsLt_bf16_f32 : FVec Ideal S3x384x20480 .f32) i j g e).trans
      (XN_ix3 (inX V0) i j ⟨32 * g.val + e.val, by have := g.isLt; have := e.isLt; omega⟩).symm
  rw [← hx]
  unfold res_main_v691
  show mag (res_main_v652 V0 (ValueIdx.ix4 i j g e)) * (Ideal.ofBits .f32 0x3F400000#32 : EReal) * _ = _
  rw [hb]
  rfl

/-- The signed code. -/
def signed (x : FVec Ideal S3x384x640x32 .f32) (n : IVec S3x384x640x32 32) : IVec S3x384x640x32 32 :=
  select (cmpf .olt x (Fc 0x00000000#32)) (ori n (broadcastInDim S3x384x640x32 ![] bcast_S_S3x384x640x32 (constantI S_ 32 8#32))) n

theorem v735_eq : res_main_v735 V0 = shapeCast S3x384x10240x2 (signed (res_main_v652 V0) (res_main_v729 V0)) shapeCasts_S3x384x640x32_S3x384x10240x2 := rfl

theorem signed_apply (x : FVec Ideal S3x384x640x32 .f32) (n : IVec S3x384x640x32 32) (y : S3x384x640x32.Idx) :
    signed x n y = Scalar.select (BitVec.ofBool (decide ((x y : EReal) < Ideal.ofBits .f32 0x00000000#32))) (IntOp.ori (n y) 8#32) (n y) := rfl

/-- The word of column `col` of a row. -/
def wordOf (R col : ℕ) : BitVec 32 := (rst (seedA V0) (seedB V0) (BitVec.ofNat 32 (R * 5120 + col / 4)) 10).pick (col % 4)

/-- A signed code, in the order of groups. -/
theorem nib_apply (i : Fin 3) (j : Fin 384) (g : Fin 640) (e : Fin 32) (E : ℕ)
    (h : Field (GM (XN (inX V0)) (384 * i.val + j.val) g.val) E) :
    signed (res_main_v652 V0) (res_main_v729 V0) (ValueIdx.ix4 i j g e) = rnib (XN (inX V0) (384 * i.val + j.val) (32 * g.val + e.val))
      (mag (XN (inX V0) (384 * i.val + j.val) (32 * g.val + e.val)) * (Ideal.ofBits .f32 0x3F400000#32 : EReal)
        * (Ideal.ofBits .f32 (rword (rexp (GM (XN (inX V0)) (384 * i.val + j.val) g.val) (BitVec.ofNat 32 E))) : EReal))
      (wordOf V0 (384 * i.val + j.val) (32 * g.val + e.val)) := by
  have hi := i.isLt; have hj := j.isLt; have hg := g.isLt; have he := e.isLt
  have hx : res_main_v652 V0 (ValueIdx.ix4 i j g e) = XN (inX V0) (384 * i.val + j.val) (32 * g.val + e.val) :=
    (group_apply (extf .f32 (inX V0) bitsLt_bf16_f32 : FVec Ideal S3x384x20480 .f32) i j g e).trans
      (XN_ix3 (inX V0) i j ⟨32 * g.val + e.val, by omega⟩).symm
  have hw : shapeCast S3x384x640x32 (shapeCast S3x384x20480 (words4 (vst V0 10)) shapeCasts_S3x384x5120x4_S3x384x20480) shapeCasts_S3x384x20480_S3x384x640x32
        (ValueIdx.ix4 i j g e)
      = wordOf V0 (384 * i.val + j.val) (32 * g.val + e.val) := by
    rw [word_at, words4_apply _ _ _ _ _ _ (vst_holds V0 i j _ 10)]
    unfold wordOf
    have q2 : e.val % 4 = (32 * g.val + e.val) % 4 := by omega
    exact congrArg (St.pick _) q2
  have hn : res_main_v729 V0 (ValueIdx.ix4 i j g e) = rfix (mag (XN (inX V0) (384 * i.val + j.val) (32 * g.val + e.val)) * (Ideal.ofBits .f32 0x3F400000#32 : EReal)
        * (Ideal.ofBits .f32 (rword (rexp (GM (XN (inX V0)) (384 * i.val + j.val) g.val) (BitVec.ofNat 32 E))) : EReal))
      (unif ((wordOf V0 (384 * i.val + j.val) (32 * g.val + e.val)).toNat / 256)) := by
    rw [v729_words, rfixV_apply, hw, v691_apply, v676_apply V0 i j _ E h]
  rw [signed_apply, hn, hx]
  rfl

theorem v735_read (i : Fin 3) (j : Fin 384) (c : Fin 10240) (b : Fin 2) (g : Fin 640) (e : Fin 32)
    (h : 32 * g.val + e.val = 2 * c.val + b.val) :
    res_main_v735 V0 (ValueIdx.ix4 i j c b) = signed (res_main_v652 V0) (res_main_v729 V0) (ValueIdx.ix4 i j g e) := by
  rw [v735_eq]
  generalize signed (res_main_v652 V0) (res_main_v729 V0) = x
  refine shapeCast_apply x _ _ _ ?_
  rw [rowMajor_val4 _ _ _ _ rfl rfl rfl, rowMajor_val4 _ _ _ _ rfl rfl rfl]
  show i.val * (384 * (640 * 32)) + j.val * (640 * 32) + g.val * 32 + e.val = i.val * (384 * (10240 * 2)) + j.val * (10240 * 2) + c.val * 2 + b.val
  omega

theorem v735_apply (i : Fin 3) (j : Fin 384) (c : Fin 10240) (b : Fin 2) (E : ℕ)
    (h : Field (GM (XN (inX V0)) (384 * i.val + j.val) (c.val / 16)) E) :
    res_main_v735 V0 (ValueIdx.ix4 i j c b) = rnib (XN (inX V0) (384 * i.val + j.val) (2 * c.val + b.val))
      (mag (XN (inX V0) (384 * i.val + j.val) (2 * c.val + b.val)) * (Ideal.ofBits .f32 0x3F400000#32 : EReal)
        * (Ideal.ofBits .f32 (rword (rexp (GM (XN (inX V0)) (384 * i.val + j.val) (c.val / 16)) (BitVec.ofNat 32 E))) : EReal))
      (wordOf V0 (384 * i.val + j.val) (2 * c.val + b.val)) := by
  have hc := c.isLt; have hb := b.isLt
  obtain ⟨g, hg⟩ : ∃ g : Fin 640, g.val = c.val / 16 := ⟨⟨c.val / 16, by omega⟩, rfl⟩
  obtain ⟨e, he⟩ : ∃ e : Fin 32, e.val = 2 * (c.val % 16) + b.val := ⟨⟨2 * (c.val % 16) + b.val, by omega⟩, rfl⟩
  have eg : 32 * g.val + e.val = 2 * c.val + b.val := by omega
  rw [← hg] at h ⊢
  rw [v735_read V0 i j c b g e eg, nib_apply V0 i j g e E h, eg]

/-- The packed bytes. -/
def packed (n : IVec S3x384x10240x2 32) : IVec S3x384x10240 8 :=
  trunci 8 (ori (shapeCast S3x384x10240 (extractStridedSlice S3x384x10240x1 ![0, 0, 0, 0] n slices_S3x384x10240x2_S3x384x10240x1_0_0_0_0) shapeCasts_S3x384x10240x1_S3x384x10240)
    (Host.shli (shapeCast S3x384x10240 (extractStridedSlice S3x384x10240x1 ![0, 0, 0, 1] n slices_S3x384x10240x2_S3x384x10240x1_0_0_0_1) shapeCasts_S3x384x10240x1_S3x384x10240)
      (broadcastInDim S3x384x10240 ![] bcast_S_S3x384x10240 (constantI S_ 32 4#32)))) natLt_8_32

theorem packed_apply (n : IVec S3x384x10240x2 32) (i : Fin 3) (j : Fin 384) (c : Fin 10240) :
    packed n (ValueIdx.ix3 i j c) = (IntOp.ori (n (ValueIdx.ix4 i j c (0 : Fin 2))) (IntOp.shli .host (n (ValueIdx.ix4 i j c (1 : Fin 2))) 4#32)).setWidth 8 := by
  have hs : ∀ x : IVec S3x384x10240x1 32, shapeCast S3x384x10240 x shapeCasts_S3x384x10240x1_S3x384x10240 (ValueIdx.ix3 i j c) = x (ValueIdx.ix4 i j c (0 : Fin 1)) := by
    intro x
    refine shapeCast_apply x _ _ _ ?_
    rw [rowMajor_val4 _ _ _ _ rfl rfl rfl, rowMajor_val3 _ _ _ rfl rfl]
    show i.val * (384 * (10240 * 1)) + j.val * (10240 * 1) + c.val * 1 + 0 = i.val * (384 * 10240) + j.val * 10240 + c.val
    omega
  have h0 : extractStridedSlice S3x384x10240x1 ![0, 0, 0, 0] n slices_S3x384x10240x2_S3x384x10240x1_0_0_0_0 (ValueIdx.ix4 i j c (0 : Fin 1)) = n (ValueIdx.ix4 i j c (0 : Fin 2)) := by
    refine congrArg n (funext fun a => ?_)
    match a with
    | ⟨0, _⟩ => exact Fin.ext (Nat.zero_add _)
    | ⟨1, _⟩ => exact Fin.ext (Nat.zero_add _)
    | ⟨2, _⟩ => exact Fin.ext (Nat.zero_add _)
    | ⟨3, _⟩ => rfl
  have h1 : extractStridedSlice S3x384x10240x1 ![0, 0, 0, 1] n slices_S3x384x10240x2_S3x384x10240x1_0_0_0_1 (ValueIdx.ix4 i j c (0 : Fin 1)) = n (ValueIdx.ix4 i j c (1 : Fin 2)) := by
    refine congrArg n (funext fun a => ?_)
    match a with
    | ⟨0, _⟩ => exact Fin.ext (Nat.zero_add _)
    | ⟨1, _⟩ => exact Fin.ext (Nat.zero_add _)
    | ⟨2, _⟩ => exact Fin.ext (Nat.zero_add _)
    | ⟨3, _⟩ => rfl
  rw [← h0, ← h1, ← hs (extractStridedSlice S3x384x10240x1 ![0, 0, 0, 0] n _), ← hs (extractStridedSlice S3x384x10240x1 ![0, 0, 0, 1] n _)]
  rfl

/-- The kernel's code byte is the reference's, where the group's largest magnitude is in range. -/
theorem code_eq (i : Fin 3) (j : Fin 384) (c : Fin 10240) (E : ℕ) (h : Field (GM (XN (inX V0)) (384 * i.val + j.val) (c.val / 16)) E) (hE : Coded E) :
    packed (res_main_v735 V0) (ValueIdx.ix3 i j c) = kbyte (XN (inX V0)) (seedA V0) (seedB V0) 0 (384 * i.val + j.val) c.val := by
  have hc := c.isLt
  have hG : ∀ b, b < 2 → mag (XN (inX V0) (384 * i.val + j.val) (2 * c.val + b)) ≤ GM (XN (inX V0)) (384 * i.val + j.val) (c.val / 16) := by
    intro b hb
    have e : 2 * c.val + b = 32 * (c.val / 16) + (⟨2 * (c.val % 16) + b, by omega⟩ : Fin 32).val := by dsimp only; omega
    rw [e]
    unfold GM
    exact Finset.le_sup (f := fun e : Fin 32 => mag (XN (inX V0) (384 * i.val + j.val) (32 * (c.val / 16) + e.val))) (Finset.mem_univ _)
  obtain ⟨w0, w1, w2, w3⟩ := words_eq (seedA V0) (seedB V0) (BitVec.ofNat 32 ((384 * i.val + j.val) * 5120 + c.val / 2))
  rw [packed_apply, v735_apply V0 i j c 0 E h, v735_apply V0 i j c 1 E h]
  unfold kbyte
  dsimp only
  rw [Nat.zero_add, w0, w1, w2, w3]
  have d0 : (2 * c.val + ((0 : Fin 2) : ℕ)) / 4 = c.val / 2 := by show (2 * c.val + 0) / 4 = _; omega
  have d1 : (2 * c.val + ((1 : Fin 2) : ℕ)) / 4 = c.val / 2 := by show (2 * c.val + 1) / 4 = _; omega
  rcases Nat.mod_two_eq_zero_or_one c.val with hp | hp
  · have m0 : (2 * c.val + ((0 : Fin 2) : ℕ)) % 4 = 0 := by show (2 * c.val + 0) % 4 = _; omega
    have m1 : (2 * c.val + ((1 : Fin 2) : ℕ)) % 4 = 1 := by show (2 * c.val + 1) % 4 = _; omega
    rw [if_pos hp, if_pos hp, byte_eq h hE (XN (inX V0) (384 * i.val + j.val) (2 * c.val)) _ (hG 0 (by omega)) (hG 1 (by omega))]
    unfold rbyte wordOf
    rw [d0, d1, m0, m1]
    rfl
  · have m0 : (2 * c.val + ((0 : Fin 2) : ℕ)) % 4 = 2 := by show (2 * c.val + 0) % 4 = _; omega
    have m1 : (2 * c.val + ((1 : Fin 2) : ℕ)) % 4 = 3 := by show (2 * c.val + 1) % 4 = _; omega
    rw [if_neg (by omega), if_neg (by omega), byte_eq h hE (XN (inX V0) (384 * i.val + j.val) (2 * c.val)) _ (hG 0 (by omega)) (hG 1 (by omega))]
    unfold rbyte wordOf
    rw [d0, d1, m0, m1]
    rfl

end Cert.Proof.Exact

end
-- ==== Proof.RefMask.lean ====
/- Where the masks are set, the group's largest magnitude is in range; and the reference's scale bytes. -/
module

public import proofs.«01_k».proof.On_in_range
public import proofs.«01_k».proof.Proof.RefCode

@[expose] public section

noncomputable section

namespace Cert.Proof.Exact

open Cert.ReferenceIdeal Cert.ReferenceIdeal.Gen Cert.ReferenceIdeal.Value
open Idealize.ShloMosaic Idealize.ShloMosaic.TcCoe
open Cert.Proof.Tile (mag GM)

/-- The comparison the mask makes, at one group, from the bound `b` up. -/
def inRangeBit (b : BitVec 32) (A : EReal) : BitVec 1 :=
  IntOp.ori (BitVec.ofBool (decide (A = Ideal.ofBits .f32 0x00000000#32)))
    (IntOp.andi (BitVec.ofBool (decide ((Ideal.ofBits .f32 b : EReal) ≤ A))) (BitVec.ofBool (decide (A ≤ (Ideal.ofBits .f32 0x7F7FFFFF#32 : EReal)))))

theorem inRangeBit_range (b : BitVec 32) (A : EReal) (h : inRangeBit b A = 1#1) :
    A = 0 ∨ ((Ideal.ofBits .f32 b : EReal) ≤ A ∧ A ≤ (Ideal.ofBits .f32 0x7F7FFFFF#32 : EReal)) := by
  unfold inRangeBit at h
  by_cases h0 : A = Ideal.ofBits .f32 0x00000000#32
  · exact Or.inl (h0.trans Cert.Proof.Tile.zero_bits)
  · refine Or.inr ?_
    by_cases h1 : (Ideal.ofBits .f32 b : EReal) ≤ A
    · by_cases h2 : A ≤ (Ideal.ofBits .f32 0x7F7FFFFF#32 : EReal)
      · exact ⟨h1, h2⟩
      · rw [decide_eq_false h0, decide_eq_true h1, decide_eq_false h2] at h
        exact absurd h (by decide)
    · rw [decide_eq_false h0, decide_eq_false h1] at h
      exact absurd h (by cases decide (A ≤ (Ideal.ofBits .f32 0x7F7FFFFF#32 : EReal)) <;> decide)

variable [hM : Cert.On_in_range.Facts] (X : FVec Ideal S3x384x20480 .bf16) (S : IVec S2 32)

/-- The group maxima as the mask computes them. -/
def maskMax : FVec Ideal S3x384x640 .f32 :=
  Host.reduce (α := Ideal .f32) FloatOps.maximumf (Host.absf (shapeCast S3x384x640x32 (extf .f32 X hM.bitsLt_bf16_f32) hM.shapeCasts_S3x384x20480_S3x384x640x32 : FVec Ideal S3x384x640x32 .f32)) (constant S_ .f32 0xFF800000#32)
    hM.reducesTo_S3x384x640x32_S3x384x640_d3 hM.h_S_

theorem maskMax_apply (i : Fin 3) (j : Fin 384) (g : Fin 640) : maskMax X (ValueIdx.ix3 i j g) = GM (XN X) (384 * i.val + j.val) g.val :=
  group_max X _ _ _ i j g

/-- The mask of the groups, from their maxima. -/
def maskBits (b : BitVec 32) (A : FVec Ideal S3x384x640 .f32) : IVec S3x384x640 1 :=
  ori (cmpf .oeq A (broadcastInDim S3x384x640 ![] hM.bcast_S_S3x384x640 (constant S_ .f32 0x00000000#32)))
    (andi (cmpf .oge A (broadcastInDim S3x384x640 ![] hM.bcast_S_S3x384x640 (constant S_ .f32 b)))
      (cmpf .ole A (broadcastInDim S3x384x640 ![] hM.bcast_S_S3x384x640 (constant S_ .f32 0x7F7FFFFF#32))))

theorem maskBits_apply (b : BitVec 32) (A : FVec Ideal S3x384x640 .f32) (y : S3x384x640.Idx) : maskBits b A y = inRangeBit b (A y) := rfl

theorem mask_scale_eq : (Cert.On_in_range.fn (F := Ideal) X S).2.1 = maskBits 0x00800000#32 (maskMax X) := rfl

/-- A mask of the groups, over their bytes. -/
def spread (M : IVec S3x384x640 1) : IVec S3x384x10240 1 :=
  shapeCast Cert.On_in_range.S3x384x10240
    (broadcastInDim Cert.On_in_range.S3x384x640x16 ![0, 1, 2, 3] hM.bcast_S3x384x640x1_S3x384x640x16_0_1_2_3
      (broadcastInDim Cert.On_in_range.S3x384x640x1 ![0, 1, 2] hM.bcast_S3x384x640_S3x384x640x1_0_1_2 M)) hM.shapeCasts_S3x384x640x16_S3x384x10240

theorem mask_code_eq : (Cert.On_in_range.fn (F := Ideal) X S).1 = spread (maskBits 0x01800000#32 (maskMax X)) := rfl

theorem spread_apply (M : IVec S3x384x640 1) (i : Fin 3) (j : Fin 384) (c : Fin 10240) (g : Fin 640) (hg : g.val = c.val / 16) :
    spread M (ValueIdx.ix3 i j c) = M (ValueIdx.ix3 i j g) := by
  unfold spread
  have hc := c.isLt
  refine (shapeCast_apply _ _ _ (ValueIdx.ix4 i j g (⟨c.val % 16, by omega⟩ : Fin 16)) ?_).trans ?_
  · rw [rowMajor_val4 _ _ _ _ rfl rfl rfl, rowMajor_val3 _ _ _ rfl rfl]
    show i.val * (384 * (640 * 16)) + j.val * (640 * 16) + g.val * 16 + c.val % 16 = i.val * (384 * 10240) + j.val * 10240 + c.val
    omega
  · refine congrArg M (funext fun a => ?_)
    match a with
    | ⟨0, _⟩ => rfl
    | ⟨1, _⟩ => rfl
    | ⟨2, _⟩ => rfl

theorem mask_scale (i : Fin 3) (j : Fin 384) (g : Fin 640) (h : (Cert.On_in_range.fn (F := Ideal) X S).2.1 (ValueIdx.ix3 i j g) = 1#1) :
    ∃ E, Field (GM (XN X) (384 * i.val + j.val) g.val) E := by
  rw [mask_scale_eq, maskBits_apply, maskMax_apply] at h
  exact range_field _ (inRangeBit_range _ _ h)

theorem mask_code (i : Fin 3) (j : Fin 384) (c : Fin 10240) (h : (Cert.On_in_range.fn (F := Ideal) X S).1 (ValueIdx.ix3 i j c) = 1#1) :
    ∃ E, Field (GM (XN X) (384 * i.val + j.val) (c.val / 16)) E ∧ Coded E := by
  have hc := c.isLt
  obtain ⟨g, hg⟩ : ∃ g : Fin 640, g.val = c.val / 16 := ⟨⟨c.val / 16, by omega⟩, rfl⟩
  rw [mask_code_eq, spread_apply _ i j c g hg, maskBits_apply, maskMax_apply] at h
  rw [← hg]
  exact code_field _ (inRangeBit_range _ _ h)

/-- The reference's scale bytes. -/
def scaleByte (n : IVec S3x384x640 32) : IVec S3x384x640 8 :=
  trunci 8 (addi n (broadcastInDim S3x384x640 ![] bcast_S_S3x384x640 (constantI S_ 32 127#32))) natLt_8_32

omit hM in
theorem scaleByte_apply (n : IVec S3x384x640 32) (y : S3x384x640.Idx) : scaleByte n y = (IntOp.addi (n y) 127#32).setWidth 8 := rfl

omit hM in
/-- The kernel's scale byte is the reference's, where the group's largest magnitude is in range. -/
theorem scale_eq (V0 : Env) (i : Fin 3) (j : Fin 384) (g : Fin 640) (E : ℕ) (h : Field (GM (XN (inX V0)) (384 * i.val + j.val) g.val) E) :
    scaleByte (res_main_v676 V0) (ValueIdx.ix3 i j g) = kscale (GM (XN (inX V0)) (384 * i.val + j.val) g.val) := by
  rw [scaleByte_apply, v676_apply V0 i j g E h, rscale_eq h]

end Cert.Proof.Exact

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_in_range
public import proofs.«01_k».proof.Proof.FrameKernel
public import proofs.«01_k».proof.Proof.FrameKernelIdeal
public import proofs.«01_k».proof.Proof.RefMask
public import Idealize.ShloMosaic.Adequacy
public import Idealize.ShloMosaic.Init

@[expose] public section

noncomputable section

namespace Cert.Proof

open Idealize.ShloMosaic Idealize.SL.Sem

/-- `Kernel` ends without a fault, its arguments unchanged and every semaphore counter at zero. -/
theorem frame_kernel : Cert.quiescent_Kernel (hKernel := Cert.Kernel.Gen.facts) := fun m g _ =>
  Cert.Proof.Kernel.frame m g

/-- `KernelIdeal` ends without a fault, its arguments unchanged and every semaphore counter at zero. -/
theorem frame_kernelIdeal : Cert.quiescent_KernelIdeal (hKernelIdeal := Cert.KernelIdeal.Gen.facts) := fun m g _ =>
  Cert.Proof.KernelIdeal.frame m g

/-- `ReferenceIdeal` runs on the host alone: its arguments end unchanged and it declares no semaphore. -/
theorem frame_referenceIdeal : Cert.quiescent_ReferenceIdeal (hReferenceIdeal := Cert.ReferenceIdeal.Gen.facts) := fun m g _ =>
  (θ_run Cert.ReferenceIdeal.defs _ _).mono (fun r h => ⟨fun c => ⟨(h c).2.2.2.2.1, (h c).2.2.2.2.2⟩,
      Idealize.ShloMosaic.sem_eq_zero_of_no_sems (by decide) r.2⟩)
    (Cert.ReferenceIdeal.Value.run (F := Ideal) m g)

/-- The sign bit's window at `Ideal` and at `Bits`. -/
theorem preserves : Cert.preserves_Kernel_KernelIdeal := IdealRules.sign_bit.maskStatement _ _

/-- The results of both, as functions of the arguments: the kernel's, read at an index. -/
theorem algebraic : Cert.algebraic_KernelIdeal_ReferenceIdeal_on_in_range (hKernelIdeal := Cert.KernelIdeal.Gen.facts)
    (hReferenceIdeal := Cert.ReferenceIdeal.Gen.facts) (hOn_in_range := Cert.On_in_range.Gen.facts) := by
  intro m g m' g' _ hargs
  refine ⟨fun c => fun y : Cert.KernelIdeal.S3x384x10240.Idx => Exact.kcode (Exact.X₀ m c) (Exact.S₀ m c) (384 * (y 0).val + (y 1).val) (y 2).val,
    fun c => fun y : Cert.KernelIdeal.S3x384x640.Idx => Exact.kscl (Exact.X₀ m c) (384 * (y 0).val + (y 1).val) (y 2).val,
    fun c => (fun y : Cert.KernelIdeal.S20480.Idx => ∑ R ∈ Finset.range 1152, Exact.XN (Exact.X₀ m c) R (y 0).val : FVec Ideal Cert.KernelIdeal.S20480 .f32),
    fun c => fun _ => Exact.topMag (Exact.X₀ m c), ?_, ?_⟩
  · refine (θ_run Cert.KernelIdeal.defs _ _).mono (fun r h c => ?_) (Exact.run m g)
    obtain ⟨h0, h1, h2, h3, h4, h5⟩ := h c
    refine ⟨fun y _ => ?_, fun y _ => ?_, fun y _ => ?_, fun y _ => h3 y, h4, h5⟩
    · obtain ⟨i, j, k, rfl⟩ := Exact.ix3_surj y
      exact h0 i j k
    · obtain ⟨i, j, k, rfl⟩ := Exact.ix3_surj y
      exact h1 i j k
    · rw [ValueIdx.eq_ix1 y]
      exact h2 (y 0)
  · refine (θ_run Cert.ReferenceIdeal.defs _ _).mono (fun r h c => ?_) (Cert.ReferenceIdeal.Value.run (F := Ideal) m' g')
    obtain ⟨h0, h1, h2, h3, h4, h5⟩ := h c
    obtain ⟨a0, a1⟩ := hargs c
    have eX : Exact.inX (StableHlo.launchContents m' c) = Exact.X₀ m c := a0
    have eA : Exact.seedA (StableHlo.launchContents m' c) = Exact.S₀ m c (ValueIdx.ix1 0) := congrFun a1 (ValueIdx.ix1 0)
    have eB : Exact.seedB (StableHlo.launchContents m' c) = Exact.S₀ m c (ValueIdx.ix1 1) := congrFun a1 (ValueIdx.ix1 1)
    refine ⟨fun y hy => ?_, fun y hy => ?_, fun y _ => ?_, fun y _ => ?_, h4, h5⟩
    · obtain ⟨i, j, k, rfl⟩ := Exact.ix3_surj y
      obtain ⟨E, hE, hC⟩ := Exact.mask_code (hM := Cert.On_in_range.Gen.facts) _ _ i j k hy
      rw [h0]
      refine (Exact.code_eq (StableHlo.launchContents m' c) i j k E (by rw [eX]; exact hE) hC).trans ?_
      rw [eX, eA, eB]
      rfl
    · obtain ⟨i, j, k, rfl⟩ := Exact.ix3_surj y
      obtain ⟨E, hE⟩ := Exact.mask_scale (hM := Cert.On_in_range.Gen.facts) _ _ i j k hy
      rw [h1]
      refine (Exact.scale_eq (StableHlo.launchContents m' c) i j k E (by rw [eX]; exact hE)).trans ?_
      rw [eX]
      rfl
    · rw [ValueIdx.eq_ix1 y, h2]
      refine (Exact.ref_sum (Exact.inX (StableHlo.launchContents m' c)) (y 0)).trans ?_
      rw [eX]
    · rw [h3]
      refine (Exact.ref_max (Exact.inX (StableHlo.launchContents m' c)) y).trans ?_
      rw [eX]

theorem claim : Cert.Claim := ⟨Cert.Kernel.Gen.facts, Cert.KernelIdeal.Gen.facts, Cert.ReferenceIdeal.Gen.facts, Cert.On_in_range.Gen.facts,
  frame_kernel, frame_kernelIdeal, frame_referenceIdeal, preserves, algebraic⟩

end Cert.Proof

end
